-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11))
      ∧ r.2.sem = fun _ => 0)

def preserves_Attn_AttnIdeal : Prop :=
  True

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v21)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v21) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v20) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v14)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v14) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v89) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)) →
    ∃ (v0 : (c : Dev Cert.ProjIdeal.nD) → Buf (Elt Ideal) ((c.tc : Thread Cert.ProjIdeal.nD Cert.ProjIdeal.τ).loc Cert.ProjIdeal.main_v80_0)) (v1 : (c : Dev Cert.ProjIdeal.nD) → Buf (Elt Ideal) ((c.tc : Thread Cert.ProjIdeal.nD Cert.ProjIdeal.τ).loc Cert.ProjIdeal.main_v80_1)) (v2 : (c : Dev Cert.ProjIdeal.nD) → Buf (Elt Ideal) ((c.tc : Thread Cert.ProjIdeal.nD Cert.ProjIdeal.τ).loc Cert.ProjIdeal.main_v80_2)) (v3 : (c : Dev Cert.ProjIdeal.nD) → Buf (Elt Ideal) ((c.tc : Thread Cert.ProjIdeal.nD Cert.ProjIdeal.τ).loc Cert.ProjIdeal.main_v80_3)) (v4 : (c : Dev Cert.ProjIdeal.nD) → Buf (Elt Ideal) ((c.tc : Thread Cert.ProjIdeal.nD Cert.ProjIdeal.τ).loc Cert.ProjIdeal.main_v80_4)) (v5 : (c : Dev Cert.ProjIdeal.nD) → Buf (Elt Ideal) ((c.tc : Thread Cert.ProjIdeal.nD Cert.ProjIdeal.τ).loc Cert.ProjIdeal.main_v80_5)) (v6 : (c : Dev Cert.ProjIdeal.nD) → Buf (Elt Ideal) ((c.tc : Thread Cert.ProjIdeal.nD Cert.ProjIdeal.τ).loc Cert.ProjIdeal.main_v80_6)) (v7 : (c : Dev Cert.ProjIdeal.nD) → Buf (Elt Ideal) ((c.tc : Thread Cert.ProjIdeal.nD Cert.ProjIdeal.τ).loc Cert.ProjIdeal.main_v80_7)) (v8 : (c : Dev Cert.ProjIdeal.nD) → Buf (Elt Ideal) ((c.tc : Thread Cert.ProjIdeal.nD Cert.ProjIdeal.τ).loc Cert.ProjIdeal.main_v80_8)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v80_0) = v0 c
          ∧ r.2.mem ((c.tc : Thread Cert.ProjIdeal.nD Cert.ProjIdeal.τ).loc Cert.ProjIdeal.main_v80_1) = v1 c
          ∧ r.2.mem ((c.tc : Thread Cert.ProjIdeal.nD Cert.ProjIdeal.τ).loc Cert.ProjIdeal.main_v80_2) = v2 c
          ∧ r.2.mem ((c.tc : Thread Cert.ProjIdeal.nD Cert.ProjIdeal.τ).loc Cert.ProjIdeal.main_v80_3) = v3 c
          ∧ r.2.mem ((c.tc : Thread Cert.ProjIdeal.nD Cert.ProjIdeal.τ).loc Cert.ProjIdeal.main_v80_4) = v4 c
          ∧ r.2.mem ((c.tc : Thread Cert.ProjIdeal.nD Cert.ProjIdeal.τ).loc Cert.ProjIdeal.main_v80_5) = v5 c
          ∧ r.2.mem ((c.tc : Thread Cert.ProjIdeal.nD Cert.ProjIdeal.τ).loc Cert.ProjIdeal.main_v80_6) = v6 c
          ∧ r.2.mem ((c.tc : Thread Cert.ProjIdeal.nD Cert.ProjIdeal.τ).loc Cert.ProjIdeal.main_v80_7) = v7 c
          ∧ r.2.mem ((c.tc : Thread Cert.ProjIdeal.nD Cert.ProjIdeal.τ).loc Cert.ProjIdeal.main_v80_8) = v8 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v202) = v0 c
          ∧ r.2.mem ((c.tc : Thread Cert.ProjRefIdeal.nD Cert.ProjRefIdeal.τ).loc Cert.ProjRefIdeal.main_v204) = v1 c
          ∧ r.2.mem ((c.tc : Thread Cert.ProjRefIdeal.nD Cert.ProjRefIdeal.τ).loc Cert.ProjRefIdeal.main_v205) = v2 c
          ∧ r.2.mem ((c.tc : Thread Cert.ProjRefIdeal.nD Cert.ProjRefIdeal.τ).loc Cert.ProjRefIdeal.main_v206) = v3 c
          ∧ r.2.mem ((c.tc : Thread Cert.ProjRefIdeal.nD Cert.ProjRefIdeal.τ).loc Cert.ProjRefIdeal.main_v207) = v4 c
          ∧ r.2.mem ((c.tc : Thread Cert.ProjRefIdeal.nD Cert.ProjRefIdeal.τ).loc Cert.ProjRefIdeal.main_v208) = v5 c
          ∧ r.2.mem ((c.tc : Thread Cert.ProjRefIdeal.nD Cert.ProjRefIdeal.τ).loc Cert.ProjRefIdeal.main_v30) = v6 c
          ∧ r.2.mem ((c.tc : Thread Cert.ProjRefIdeal.nD Cert.ProjRefIdeal.τ).loc Cert.ProjRefIdeal.main_v209) = v7 c
          ∧ r.2.mem ((c.tc : Thread Cert.ProjRefIdeal.nD Cert.ProjRefIdeal.τ).loc Cert.ProjRefIdeal.main_v210) = v8 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)) →
    ∃ (v0 : (c : Dev Cert.MixIdeal.nD) → Buf (Elt Ideal) ((c.tc : Thread Cert.MixIdeal.nD Cert.MixIdeal.τ).loc Cert.MixIdeal.main_v26)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v26) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v56) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hProj : Cert.Proj.Facts) (hProjIdeal : Cert.ProjIdeal.Facts) (hProjRefIdeal : Cert.ProjRefIdeal.Facts) (hMix : Cert.Mix.Facts) (hMixIdeal : Cert.MixIdeal.Facts) (hMixRefIdeal : Cert.MixRefIdeal.Facts) (hPre_finite : Cert.Pre_finite.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Proj (hProj := hProj)
    ∧ quiescent_ProjIdeal (hProjIdeal := hProjIdeal)
    ∧ quiescent_ProjRefIdeal (hProjRefIdeal := hProjRefIdeal)
    ∧ quiescent_Mix (hMix := hMix)
    ∧ quiescent_MixIdeal (hMixIdeal := hMixIdeal)
    ∧ quiescent_MixRefIdeal (hMixRefIdeal := hMixRefIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_Ffn_FfnIdeal
    ∧ algebraic_FfnIdeal_FfnRefIdeal (hFfnIdeal := hFfnIdeal) (hFfnRefIdeal := hFfnRefIdeal)
    ∧ preserves_Proj_ProjIdeal
    ∧ algebraic_ProjIdeal_ProjRefIdeal (hProjIdeal := hProjIdeal) (hProjRefIdeal := hProjRefIdeal)
    ∧ preserves_Mix_MixIdeal
    ∧ algebraic_MixIdeal_MixRefIdeal (hMixIdeal := hMixIdeal) (hMixRefIdeal := hMixRefIdeal)
-- ==== Pre_finite.lean ====
abbrev S8x8x2048x64 : Shape := ⟨4, ![8, 8, 2048, 64]⟩
abbrev S8x2x256x64 : Shape := ⟨4, ![8, 2, 256, 64]⟩
abbrev S8x2x2048x64 : Shape := ⟨4, ![8, 2, 2048, 64]⟩
abbrev S_ : Shape := ⟨0, ![]⟩

class Facts : Prop where
  bcast_S_S8x8x2048x64 : S_.BroadcastsInDim S8x8x2048x64 (![] : Fin 0 → Fin S8x8x2048x64.rank)
  reducesTo_S8x8x2048x64_S_d0_1_2_3 : S8x8x2048x64.ReducesTo [0, 1, 2, 3] S_
  h_S_ : 0 < S_.numel
  bcast_S_S8x2x256x64 : S_.BroadcastsInDim S8x2x256x64 (![] : Fin 0 → Fin S8x2x256x64.rank)
  reducesTo_S8x2x256x64_S_d0_1_2_3 : S8x2x256x64.ReducesTo [0, 1, 2, 3] S_
  bcast_S_S8x2x2048x64 : S_.BroadcastsInDim S8x2x2048x64 (![] : Fin 0 → Fin S8x2x2048x64.rank)
  reducesTo_S8x2x2048x64_S_d0_1_2_3 : S8x2x2048x64.ReducesTo [0, 1, 2, 3] S_

variable [Facts]

def fn {F : FTy → Type} [FloatOps F] (main_arg0 : FVec F S8x8x2048x64 .f32) (main_arg1 : FVec F S8x2x256x64 .f32) (main_arg2 : FVec F S8x2x256x64 .f32) (main_arg3 : FVec F S8x2x2048x64 .f32) (main_arg4 : FVec F S8x2x2048x64 .f32) : IVec S_ 1 :=
  let main_v0 : FVec F S8x8x2048x64 .f32 := Host.absf main_arg0
  let main_cst : FVec F S_ .f32 := constant S_ .f32 0x7F800000#32
  let main_v1 : FVec F S8x8x2048x64 .f32 := broadcastInDim S8x8x2048x64 ![] bcast_S_S8x8x2048x64 main_cst
  let main_v2 : IVec S8x8x2048x64 1 := cmpf .olt main_v0 main_v1
  let main_c : IVec S_ 1 := constantI S_ 1 1#1
  let main_v3 : IVec S_ 1 := (fun x v => Host.reduce IntOp.andi x v reducesTo_S8x8x2048x64_S_d0_1_2_3 h_S_) main_v2 main_c
  let main_v4 : FVec F S8x2x256x64 .f32 := Host.absf main_arg1
  let main_cst_0 : FVec F S_ .f32 := constant S_ .f32 0x7F800000#32
  let main_v5 : FVec F S8x2x256x64 .f32 := broadcastInDim S8x2x256x64 ![] bcast_S_S8x2x256x64 main_cst_0
  let main_v6 : IVec S8x2x256x64 1 := cmpf .olt main_v4 main_v5
  let main_c_1 : IVec S_ 1 := constantI S_ 1 1#1
  let main_v7 : IVec S_ 1 := (fun x v => Host.reduce IntOp.andi x v reducesTo_S8x2x256x64_S_d0_1_2_3 h_S_) main_v6 main_c_1
  let main_v8 : IVec S_ 1 := andi main_v3 main_v7
  let main_v9 : FVec F S8x2x2048x64 .f32 := Host.absf main_arg3
  let main_cst_2 : FVec F S_ .f32 := constant S_ .f32 0x7F800000#32
  let main_v10 : FVec F S8x2x2048x64 .f32 := broadcastInDim S8x2x2048x64 ![] bcast_S_S8x2x2048x64 main_cst_2
  let main_v11 : IVec S8x2x2048x64 1 := cmpf .olt main_v9 main_v10
  let main_c_3 : IVec S_ 1 := constantI S_ 1 1#1
  let main_v12 : IVec S_ 1 := (fun x v => Host.reduce IntOp.andi x v reducesTo_S8x2x2048x64_S_d0_1_2_3 h_S_) main_v11 main_c_3
  let main_v13 : IVec S_ 1 := andi main_v8 main_v12
  main_v13
-- ==== Attn.lean ====
abbrev S8x8x2048x64 : Shape := ⟨4, ![8, 8, 2048, 64]⟩
abbrev S8x2x256x64 : Shape := ⟨4, ![8, 2, 256, 64]⟩
abbrev S8x2x2048x64 : Shape := ⟨4, ![8, 2, 2048, 64]⟩
abbrev S8x2048x8x64 : Shape := ⟨4, ![8, 2048, 8, 64]⟩
abbrev S8x2048x512 : Shape := ⟨3, ![8, 2048, 512]⟩
abbrev S_ : Shape := ⟨0, ![]⟩
abbrev S8x2x64x256 : Shape := ⟨4, ![8, 2, 64, 256]⟩
abbrev S8x2x64x2048 : Shape := ⟨4, ![8, 2, 64, 2048]⟩
abbrev S8x2x64x2304 : Shape := ⟨4, ![8, 2, 64, 2304]⟩
abbrev S8x2x256x1 : Shape := ⟨4, ![8, 2, 256, 1]⟩
abbrev S8x2x256x63 : Shape := ⟨4, ![8, 2, 256, 63]⟩
abbrev S8x2x256x128 : Shape := ⟨4, ![8, 2, 256, 128]⟩
abbrev S8x2x2048x1 : Shape := ⟨4, ![8, 2, 2048, 1]⟩
abbrev S8x2x2048x63 : Shape := ⟨4, ![8, 2, 2048, 63]⟩
abbrev S8x2x2048x128 : Shape := ⟨4, ![8, 2, 2048, 128]⟩
abbrev S8x2x2304x128 : Shape := ⟨4, ![8, 2, 2304, 128]⟩
abbrev S1x512x256 : Shape := ⟨3, ![1, 512, 256]⟩
abbrev S1x1x64x2304 : Shape := ⟨4, ![1, 1, 64, 2304]⟩
abbrev S1x1x2304x128 : Shape := ⟨4, ![1, 1, 2304, 128]⟩
abbrev S4x512x2304 : Shape := ⟨3, ![4, 512, 2304]⟩
abbrev S4x512x1 : Shape := ⟨3, ![4, 512, 1]⟩
abbrev S64x2304 : Shape := ⟨2, ![64, 2304]⟩
abbrev S2304x128 : Shape := ⟨2, ![2304, 128]⟩
abbrev S1x256x64 : Shape := ⟨3, ![1, 256, 64]⟩
abbrev S256x64 : Shape := ⟨2, ![256, 64]⟩
abbrev S256x2304 : Shape := ⟨2, ![256, 2304]⟩
abbrev S1x256x2304 : Shape := ⟨3, ![1, 256, 2304]⟩
abbrev S256 : Shape := ⟨1, ![256]⟩
abbrev S256x1 : Shape := ⟨2, ![256, 1]⟩
abbrev S1x256x1 : Shape := ⟨3, ![1, 256, 1]⟩
abbrev S1x256x1024 : Shape := ⟨3, ![1, 256, 1024]⟩
abbrev S256x1024 : Shape := ⟨2, ![256, 1024]⟩
abbrev S1024x128 : Shape := ⟨2, ![1024, 128]⟩
abbrev S256x128 : Shape := ⟨2, ![256, 128]⟩
abbrev S1x256x1280 : Shape := ⟨3, ![1, 256, 1280]⟩
abbrev S256x1280 : Shape := ⟨2, ![256, 1280]⟩
abbrev S1280x128 : Shape := ⟨2, ![1280, 128]⟩
abbrev S512x64 : Shape := ⟨2, ![512, 64]⟩
abbrev S512x256 : Shape := ⟨2, ![512, 256]⟩

abbrev nBuf : Space → Nat
  | .hbm => 33
  | .vmem => 11
  | .smem => 0
  | _ => 0

abbrev bufTy : (tb : Table) → Fin (tcTables nBuf tb) → BufTy
  | .hbm, ⟨0, _⟩ => ⟨S8x8x2048x64, .f32⟩
  | .hbm, ⟨1, _⟩ => ⟨S8x2x256x64, .f32⟩
  | .hbm, ⟨2, _⟩ => ⟨S8x2x256x64, .f32⟩
  | .hbm, ⟨3, _⟩ => ⟨S8x2x2048x64, .f32⟩
  | .hbm, ⟨4, _⟩ => ⟨S8x2x2048x64, .f32⟩
  | .hbm, ⟨5, _⟩ => ⟨S8x2048x8x64, .f32⟩
  | .hbm, ⟨6, _⟩ => ⟨S8x2048x512, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8x2048x512, .f32⟩
  | .hbm, ⟨12, _⟩ => ⟨S8x2048x512, .f32⟩
  | .hbm, ⟨13, _⟩ => ⟨S8x2048x512, .bf16⟩
  | .hbm, ⟨14, _⟩ => ⟨S8x2x64x256, .f32⟩
  | .hbm, ⟨15, _⟩ => ⟨S8x2x64x256, .bf16⟩
  | .hbm, ⟨16, _⟩ => ⟨S8x2x64x2048, .f32⟩
  | .hbm, ⟨17, _⟩ => ⟨S8x2x64x2048, .bf16⟩
  | .hbm, ⟨18, _⟩ => ⟨S8x2x64x2304, .bf16⟩
  | .hbm, ⟨19, _⟩ => ⟨S_, .f32⟩
  | .hbm, ⟨20, _⟩ => ⟨S8x2x256x1, .f32⟩
  | .hbm, ⟨21, _⟩ => ⟨S_, .f32⟩
  | .hbm, ⟨22, _⟩ => ⟨S8x2x256x63, .f32⟩
  | .hbm, ⟨23, _⟩ => ⟨S8x2x256x128, .f32⟩
  | .hbm, ⟨24, _⟩ => ⟨S8x2x256x128, .bf16⟩
  | .hbm, ⟨25, _⟩ => ⟨S_, .f32⟩
  | .hbm, ⟨26, _⟩ => ⟨S8x2x2048x1, .f32⟩
  | .hbm, ⟨27, _⟩ => ⟨S_, .f32⟩
  | .hbm, ⟨28, _⟩ => ⟨S8x2x2048x63, .f32⟩
  | .hbm, ⟨29, _⟩ => ⟨S8x2x2048x128, .f32⟩
  | .hbm, ⟨30, _⟩ => ⟨S8x2x2048x128, .bf16⟩
  | .hbm, ⟨31, _⟩ => ⟨S8x2x2304x128, .bf16⟩
  | .hbm, ⟨32, _⟩ => ⟨S8x2048x512, .bf16⟩
  | .local _ .vmem, ⟨0, _⟩ => ⟨S1x512x256, .bf16⟩
  | .local _ .vmem, ⟨1, _⟩ => ⟨S1x512x256, .bf16⟩
  | .local _ .vmem, ⟨2, _⟩ => ⟨S1x1x64x2304, .bf16⟩
  | .local _ .vmem, ⟨3, _⟩ => ⟨S1x1x64x2304, .bf16⟩
  | .local _ .vmem, ⟨4, _⟩ => ⟨S1x1x2304x128, .bf16⟩
  | .local _ .vmem, ⟨5, _⟩ => ⟨S1x1x2304x128, .bf16⟩
  | .local _ .vmem, ⟨6, _⟩ => ⟨S1x512x256, .bf16⟩
  | .local _ .vmem, ⟨7, _⟩ => ⟨S1x512x256, .bf16⟩
  | .local _ .vmem, ⟨8, _⟩ => ⟨S4x512x2304, .f32⟩
  | .local _ .vmem, ⟨9, _⟩ => ⟨S4x512x1, .f32⟩
  | .local _ .vmem, ⟨10, _⟩ => ⟨S4x512x2304, .bf16⟩
  | _, _ => ⟨S8x8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x64x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnRefIdeal.lean ====
abbrev S8x8x2048x64 : Shape := ⟨4, ![8, 8, 2048, 64]⟩
abbrev S8x2x256x64 : Shape := ⟨4, ![8, 2, 256, 64]⟩
abbrev S8x2x2048x64 : Shape := ⟨4, ![8, 2, 2048, 64]⟩
abbrev S8x2x2304x64 : Shape := ⟨4, ![8, 2, 2304, 64]⟩
abbrev S8x2x4x2048x64 : Shape := ⟨5, ![8, 2, 4, 2048, 64]⟩
abbrev S8x2x4x2048x2304 : Shape := ⟨5, ![8, 2, 4, 2048, 2304]⟩
abbrev S_ : Shape := ⟨0, ![]⟩
abbrev S8x2x4x2048 : Shape := ⟨4, ![8, 2, 4, 2048]⟩
abbrev S8x2x4x2048x1 : Shape := ⟨5, ![8, 2, 4, 2048, 1]⟩
abbrev S8x2048x2x4x64 : Shape := ⟨5, ![8, 2048, 2, 4, 64]⟩
abbrev S8x2048x512 : Shape := ⟨3, ![8, 2048, 512]⟩

abbrev nBuf : Space → Nat
  | .hbm => 30
  | .vmem => 0
  | .smem => 0
  | _ => 0

abbrev bufTy : (tb : Table) → Fin (tcTables nBuf tb) → BufTy
  | .hbm, ⟨0, _⟩ => ⟨S8x8x2048x64, .f32⟩
  | .hbm, ⟨1, _⟩ => ⟨S8x2x256x64, .f32⟩
  | .hbm, ⟨2, _⟩ => ⟨S8x2x256x64, .f32⟩
  | .hbm, ⟨3, _⟩ => ⟨S8x2x2048x64, .f32⟩
  | .hbm, ⟨4, _⟩ => ⟨S8x2x2048x64, .f32⟩
  | .hbm, ⟨5, _⟩ => ⟨S8x2x2304x64, .f32⟩
  | .hbm, ⟨6, _⟩ => ⟨S8x2x2304x64, .f32⟩
  | .hbm, ⟨7, _⟩ => ⟨S8x2x4x2048x64, .f32⟩
  | .hbm, ⟨8, _⟩ => ⟨S8x2x4x2048x2304, .f32⟩
  | .hbm, ⟨9, _⟩ => ⟨S_, .f32⟩
  | .hbm, ⟨10, _⟩ => ⟨S8x2x4x2048x2304, .f32⟩
  | .hbm, ⟨11, _⟩ => ⟨S8x2x4x2048x2304, .f32⟩
  | .hbm, ⟨12, _⟩ => ⟨S_, .f32⟩
  | .hbm, ⟨13, _⟩ => ⟨S8x2x4x2048, .f32⟩
  | .hbm, ⟨14, _⟩ => ⟨S_, .f32⟩
  | .hbm, ⟨15, _⟩ => ⟨S8x2x4x2048, .f32⟩
  | .hbm, ⟨16, _⟩ => ⟨S8x2x4x2048, .f32⟩
  | .hbm, ⟨17, _⟩ => ⟨S8x2x4x2048x1, .f32⟩
  | .hbm, ⟨18, _⟩ => ⟨S8x2x4x2048x2304, .f32⟩
  | .hbm, ⟨19, _⟩ => ⟨S8x2x4x2048x2304, .f32⟩
  | .hbm, ⟨20, _⟩ => ⟨S8x2x4x2048x2304, .f32⟩
  | .hbm, ⟨21, _⟩ => ⟨S_, .f32⟩
  | .hbm, ⟨22, _⟩ => ⟨S8x2x4x2048, .f32⟩
  | .hbm, ⟨23, _⟩ => ⟨S8x2x4x2048x1, .f32⟩
  | .hbm, ⟨24, _⟩ => ⟨S8x2x4x2048x2304, .f32⟩
  | .hbm, ⟨25, _⟩ => ⟨S8x2x4x2048x2304, .f32⟩
  | .hbm, ⟨26, _⟩ => ⟨S8x2x4x2048x64, .f32⟩
  | .hbm, ⟨27, _⟩ => ⟨S8x2048x2x4x64, .f32⟩
  | .hbm, ⟨28, _⟩ => ⟨S8x2048x512, .f32⟩
  | .hbm, ⟨29, _⟩ => ⟨S8x2048x512, .bf16⟩
  | _, _ => ⟨S8x8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Ffn.lean ====
abbrev S8x2048x1024 : Shape := ⟨3, ![8, 2048, 1024]⟩
abbrev S2x16x6144 : Shape := ⟨3, ![2, 16, 6144]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S2x1024 : Shape := ⟨2, ![2, 1024]⟩
abbrev S32x1x6144 : Shape := ⟨3, ![32, 1, 6144]⟩
abbrev S1x1024 : Shape := ⟨2, ![1, 1024]⟩
abbrev S1024 : Shape := ⟨1, ![1024]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S1x512x1024 : Shape := ⟨3, ![1, 512, 1024]⟩
abbrev S1x16x1024 : Shape := ⟨3, ![1, 16, 1024]⟩
abbrev S1x1x1024 : Shape := ⟨3, ![1, 1, 1024]⟩
abbrev S1x1024x5632 : Shape := ⟨3, ![1, 1024, 5632]⟩
abbrev S1x2816x1024 : Shape := ⟨3, ![1, 2816, 1024]⟩
abbrev S544x1024 : Shape := ⟨2, ![544, 1024]⟩
abbrev S2x2x544x256 : Shape := ⟨4, ![2, 2, 544, 256]⟩
abbrev S512x2816 : Shape := ⟨2, ![512, 2816]⟩
abbrev S512x1024 : Shape := ⟨2, ![512, 1024]⟩
abbrev S16x1024 : Shape := ⟨2, ![16, 1024]⟩
abbrev S1x1024x256 : Shape := ⟨3, ![1, 1024, 256]⟩
abbrev S1024x256 : Shape := ⟨2, ![1024, 256]⟩
abbrev S544x256 : Shape := ⟨2, ![544, 256]⟩
abbrev S1x1x544x256 : Shape := ⟨4, ![1, 1, 544, 256]⟩
abbrev S3x256 : Shape := ⟨2, ![3, 256]⟩
abbrev S512x256 : Shape := ⟨2, ![512, 256]⟩
abbrev S1x256 : Shape := ⟨2, ![1, 256]⟩
abbrev S256x2816 : Shape := ⟨2, ![256, 2816]⟩
abbrev S2816x1024 : Shape := ⟨2, ![2816, 1024]⟩
abbrev S256x1024 : Shape := ⟨2, ![256, 1024]⟩
abbrev S1x256x1024 : Shape := ⟨3, ![1, 256, 1024]⟩
abbrev S256 : Shape := ⟨1, ![256]⟩
abbrev S256x1 : Shape := ⟨2, ![256, 1]⟩

abbrev nBuf : Space → Nat
  | .hbm => 23
  | .vmem => 24
  | .smem => 0
  | _ => 0

abbrev bufTy : (tb : Table) → Fin (tcTables nBuf tb) → BufTy
  | .hbm, ⟨0, _⟩ => ⟨S8x2048x1024, .f32⟩
  | .hbm, ⟨1, _⟩ => ⟨S2x16x6144, .f32⟩
  | .hbm, ⟨2, _⟩ => ⟨S2x1024x5632, .f32⟩
  | .hbm, ⟨3, _⟩ => ⟨S2x3x5632, .f32⟩
  | .hbm, ⟨4, _⟩ => ⟨S2x5632, .f32⟩
  | .hbm, ⟨5, _⟩ => ⟨S2x2816x1024, .f32⟩
  | .hbm, ⟨6, _⟩ => ⟨S2x1024, .f32⟩
  | .hbm, ⟨7, _⟩ => ⟨S2x1024, .f32⟩
  | .hbm, ⟨8, _⟩ => ⟨S32x1x6144, .f32⟩
  | .hbm, ⟨9, _⟩ => ⟨S2x1024x5632, .bf16⟩
  | .hbm, ⟨10, _⟩ => ⟨S2x2816x1024, .bf16⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1x3x5632, .f32⟩
  | .hbm, ⟨18, _⟩ => ⟨S3x5632, .f32⟩
  | .hbm, ⟨19, _⟩ => ⟨S1x5632, .f32⟩
  | .hbm, ⟨20, _⟩ => ⟨S5632, .f32⟩
  | .hbm, ⟨21, _⟩ => ⟨S1x5632, .f32⟩
  | .hbm, ⟨22, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024x5632, .bf16⟩
  | .local _ .vmem, ⟨13, _⟩ => ⟨S3x5632, .f32⟩
  | .local _ .vmem, ⟨14, _⟩ => ⟨S1x5632, .f32⟩
  | .local _ .vmem, ⟨15, _⟩ => ⟨S1x2816x1024, .bf16⟩
  | .local _ .vmem, ⟨16, _⟩ => ⟨S1x1024, .f32⟩
  | .local _ .vmem, ⟨17, _⟩ => ⟨S1x1024, .f32⟩
  | .local _ .vmem, ⟨18, _⟩ => ⟨S1x512x1024, .f32⟩
  | .local _ .vmem, ⟨19, _⟩ => ⟨S1x512x1024, .f32⟩
  | .local _ .vmem, ⟨20, _⟩ => ⟨S544x1024, .bf16⟩
  | .local _ .vmem, ⟨21, _⟩ => ⟨S2x2x544x256, .f32⟩
  | .local _ .vmem, ⟨22, _⟩ => ⟨S512x2816, .bf16⟩
  | .local _ .vmem, ⟨23, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c3_i32 : BitVec 32 := 3#32
  let c0_i32_0 : BitVec 32 := 0#32
  ![v0.toNat, c0_i32.toNat, c3_i32.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c4_i32 : BitVec 32 := 4#32
  let c0_i32_0 : BitVec 32 := 0#32
  ![v0.toNat, c0_i32.toNat, c4_i32.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c5_i32 : BitVec 32 := 5#32
  let c0_i32_0 : BitVec 32 := 0#32
  ![v0.toNat, c0_i32.toNat, c5_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== FfnRefIdeal.lean ====
abbrev S8x2048x1024 : Shape := ⟨3, ![8, 2048, 1024]⟩
abbrev S2x16x6144 : Shape := ⟨3, ![2, 16, 6144]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S2x1024 : Shape := ⟨2, ![2, 1024]⟩
abbrev S1x8x6144 : Shape := ⟨3, ![1, 8, 6144]⟩
abbrev S8x6144 : Shape := ⟨2, ![8, 6144]⟩
abbrev S8x1x6144 : Shape := ⟨3, ![8, 1, 6144]⟩
abbrev S8x1x1024 : Shape := ⟨3, ![8, 1, 1024]⟩
abbrev S_ : Shape := ⟨0, ![]⟩
abbrev S1x1024x5632 : Shape := ⟨3, ![1, 1024, 5632]⟩
abbrev S1024x5632 : Shape := ⟨2, ![1024, 5632]⟩
abbrev S8x2048x5632 : Shape := ⟨3, ![8, 2048, 5632]⟩
abbrev S8x2050x5632 : Shape := ⟨3, ![8, 2050, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S1x1x5632 : Shape := ⟨3, ![1, 1, 5632]⟩
abbrev S8x2048x2816 : Shape := ⟨3, ![8, 2048, 2816]⟩
abbrev S1x2816x1024 : Shape := ⟨3, ![1, 2816, 1024]⟩
abbrev S2816x1024 : Shape := ⟨2, ![2816, 1024]⟩
abbrev S1x1024 : Shape := ⟨2, ![1, 1024]⟩
abbrev S1024 : Shape := ⟨1, ![1024]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 115
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S2x16x6144, .f32⟩
  | .hbm, ⟨2, _⟩ => ⟨S2x1024x5632, .f32⟩
  | .hbm, ⟨3, _⟩ => ⟨S2x3x5632, .f32⟩
  | .hbm, ⟨4, _⟩ => ⟨S2x5632, .f32⟩
  | .hbm, ⟨5, _⟩ => ⟨S2x2816x1024, .f32⟩
  | .hbm, ⟨6, _⟩ => ⟨S2x1024, .f32⟩
  | .hbm, ⟨7, _⟩ => ⟨S2x1024, .f32⟩
  | .hbm, ⟨8, _⟩ => ⟨S1x8x6144, .f32⟩
  | .hbm, ⟨9, _⟩ => ⟨S8x6144, .f32⟩
  | .hbm, ⟨10, _⟩ => ⟨S8x1x6144, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S_, .f32⟩
  | .hbm, ⟨18, _⟩ => ⟨S8x1x1024, .f32⟩
  | .hbm, ⟨19, _⟩ => ⟨S8x1x1024, .f32⟩
  | .hbm, ⟨20, _⟩ => ⟨S8x2048x1024, .f32⟩
  | .hbm, ⟨21, _⟩ => ⟨S8x2048x1024, .f32⟩
  | .hbm, ⟨22, _⟩ => ⟨S8x2048x1024, .f32⟩
  | .hbm, ⟨23, _⟩ => ⟨S8x2048x1024, .f32⟩
  | .hbm, ⟨24, _⟩ => ⟨S1x1024x5632, .f32⟩
  | .hbm, ⟨25, _⟩ => ⟨S1024x5632, .f32⟩
  | .hbm, ⟨26, _⟩ => ⟨S8x2048x5632, .f32⟩
  | .hbm, ⟨27, _⟩ => ⟨S_, .i32⟩
  | .hbm, ⟨28, _⟩ => ⟨S_, .f32⟩
  | .hbm, ⟨29, _⟩ => ⟨S8x2050x5632, .f32⟩
  | .hbm, ⟨30, _⟩ => ⟨S8x2048x5632, .f32⟩
  | .hbm, ⟨31, _⟩ => ⟨S1x3x5632, .f32⟩
  | .hbm, ⟨32, _⟩ => ⟨S3x5632, .f32⟩
  | .hbm, ⟨33, _⟩ => ⟨S1x5632, .f32⟩
  | .hbm, ⟨34, _⟩ => ⟨S5632, .f32⟩
  | .hbm, ⟨35, _⟩ => ⟨S1x1x5632, .f32⟩
  | .hbm, ⟨36, _⟩ => ⟨S8x2048x5632, .f32⟩
  | .hbm, ⟨37, _⟩ => ⟨S8x2048x5632, .f32⟩
  | .hbm, ⟨38, _⟩ => ⟨S8x2048x5632, .f32⟩
  | .hbm, ⟨39, _⟩ => ⟨S1x3x5632, .f32⟩
  | .hbm, ⟨40, _⟩ => ⟨S3x5632, .f32⟩
  | .hbm, ⟨41, _⟩ => ⟨S1x5632, .f32⟩
  | .hbm, ⟨42, _⟩ => ⟨S5632, .f32⟩
  | .hbm, ⟨43, _⟩ => ⟨S1x1x5632, .f32⟩
  | .hbm, ⟨44, _⟩ => ⟨S8x2048x5632, .f32⟩
  | .hbm, ⟨45, _⟩ => ⟨S8x2048x5632, .f32⟩
  | .hbm, ⟨46, _⟩ => ⟨S8x2048x5632, .f32⟩
  | .hbm, ⟨47, _⟩ => ⟨S8x2048x5632, .f32⟩
  | .hbm, ⟨48, _⟩ => ⟨S1x3x5632, .f32⟩
  | .hbm, ⟨49, _⟩ => ⟨S3x5632, .f32⟩
  | .hbm, ⟨50, _⟩ => ⟨S1x5632, .f32⟩
  | .hbm, ⟨51, _⟩ => ⟨S5632, .f32⟩
  | .hbm, ⟨52, _⟩ => ⟨S1x1x5632, .f32⟩
  | .hbm, ⟨53, _⟩ => ⟨S8x2048x5632, .f32⟩
  | .hbm, ⟨54, _⟩ => ⟨S8x2048x5632, .f32⟩
  | .hbm, ⟨55, _⟩ => ⟨S8x2048x5632, .f32⟩
  | .hbm, ⟨56, _⟩ => ⟨S1x5632, .f32⟩
  | .hbm, ⟨57, _⟩ => ⟨S5632, .f32⟩
  | .hbm, ⟨58, _⟩ => ⟨S1x1x5632, .f32⟩
  | .hbm, ⟨59, _⟩ => ⟨S8x2048x5632, .f32⟩
  | .hbm, ⟨60, _⟩ => ⟨S8x2048x5632, .f32⟩
  | .hbm, ⟨61, _⟩ => ⟨S8x2048x2816, .f32⟩
  | .hbm, ⟨62, _⟩ => ⟨S8x2048x2816, .f32⟩
  | .hbm, ⟨63, _⟩ => ⟨S8x2048x2816, .f32⟩
  | .hbm, ⟨64, _⟩ => ⟨S8x2048x2816, .f32⟩
  | .hbm, ⟨65, _⟩ => ⟨S_, .f32⟩
  | .hbm, ⟨66, _⟩ => ⟨S8x2048x2816, .f32⟩
  | .hbm, ⟨67, _⟩ => ⟨S8x2048x2816, .f32⟩
  | .hbm, ⟨68, _⟩ => ⟨S_, .f32⟩
  | .hbm, ⟨69, _⟩ => ⟨S8x2048x2816, .f32⟩
  | .hbm, ⟨70, _⟩ => ⟨S8x2048x2816, .f32⟩
  | .hbm, ⟨71, _⟩ => ⟨S8x2048x2816, .f32⟩
  | .hbm, ⟨72, _⟩ => ⟨S8x2048x2816, .f32⟩
  | .hbm, ⟨73, _⟩ => ⟨S1x2816x1024, .f32⟩
  | .hbm, ⟨74, _⟩ => ⟨S2816x1024, .f32⟩
  | .hbm, ⟨75, _⟩ => ⟨S8x2048x1024, .f32⟩
  | .hbm, ⟨76, _⟩ => ⟨S_, .f32⟩
  | .hbm, ⟨77, _⟩ => ⟨S8x2048x1024, .f32⟩
  | .hbm, ⟨78, _⟩ => ⟨S8x2048x1024, .f32⟩
  | .hbm, ⟨79, _⟩ => ⟨S8x2048x1024, .f32⟩
  | .hbm, ⟨80, _⟩ => ⟨S8x2048x1024, .f32⟩
  | .hbm, ⟨81, _⟩ => ⟨S8x2048x1024, .f32⟩
  | .hbm, ⟨82, _⟩ => ⟨S1x1024, .f32⟩
  | .hbm, ⟨83, _⟩ => ⟨S1024, .f32⟩
  | .hbm, ⟨84, _⟩ => ⟨S1x1024, .f32⟩
  | .hbm, ⟨85, _⟩ => ⟨S1024, .f32⟩
  | .hbm, ⟨86, _⟩ => ⟨S_, .f32⟩
  | .hbm, ⟨87, _⟩ => ⟨S8x2048, .f32⟩
  | .hbm, ⟨88, _⟩ => ⟨S8x2048x1, .f32⟩
  | .hbm, ⟨89, _⟩ => ⟨S_, .f32⟩
  | .hbm, ⟨90, _⟩ => ⟨S8x2048x1, .f32⟩
  | .hbm, ⟨91, _⟩ => ⟨S8x2048x1, .f32⟩
  | .hbm, ⟨92, _⟩ => ⟨S8x2048x1024, .f32⟩
  | .hbm, ⟨93, _⟩ => ⟨S8x2048x1024, .f32⟩
  | .hbm, ⟨94, _⟩ => ⟨S8x2048x1024, .f32⟩
  | .hbm, ⟨95, _⟩ => ⟨S_, .f32⟩
  | .hbm, ⟨96, _⟩ => ⟨S8x2048, .f32⟩
  | .hbm, ⟨97, _⟩ => ⟨S8x2048x1, .f32⟩
  | .hbm, ⟨98, _⟩ => ⟨S_, .f32⟩
  | .hbm, ⟨99, _⟩ => ⟨S8x2048x1, .f32⟩
  | .hbm, ⟨100, _⟩ => ⟨S8x2048x1, .f32⟩
  | .hbm, ⟨101, _⟩ => ⟨S8x2048x1024, .f32⟩
  | .hbm, ⟨102, _⟩ => ⟨S8x2048x1024, .f32⟩
  | .hbm, ⟨103, _⟩ => ⟨S_, .f32⟩
  | .hbm, ⟨104, _⟩ => ⟨S8x2048x1, .f32⟩
  | .hbm, ⟨105, _⟩ => ⟨S8x2048x1, .f32⟩
  | .hbm, ⟨106, _⟩ => ⟨S8x2048x1, .f32⟩
  | .hbm, ⟨107, _⟩ => ⟨S8x2048x1024, .f32⟩
  | .hbm, ⟨108, _⟩ => ⟨S8x2048x1024, .f32⟩
  | .hbm, ⟨109, _⟩ => ⟨S1x1x1024, .f32⟩
  | .hbm, ⟨110, _⟩ => ⟨S8x2048x1024, .f32⟩
  | .hbm, ⟨111, _⟩ => ⟨S8x2048x1024, .f32⟩
  | .hbm, ⟨112, _⟩ => ⟨S1x1x1024, .f32⟩
  | .hbm, ⟨113, _⟩ => ⟨S8x2048x1024, .f32⟩
  | .hbm, ⟨114, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_call0_v0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_call1_v0 : Ref sig .tc := ⟨.hbm, 63, rfl⟩
abbrev main_call1_v1 : Ref sig .tc := ⟨.hbm, 64, rfl⟩
abbrev main_call1_cst : Ref sig .tc := ⟨.hbm, 65, rfl⟩
abbrev main_call1_v2 : Ref sig .tc := ⟨.hbm, 66, rfl⟩
abbrev main_call1_v3 : Ref sig .tc := ⟨.hbm, 67, rfl⟩
abbrev main_call1_cst_0 : Ref sig .tc := ⟨.hbm, 68, rfl⟩
abbrev main_call1_v4 : Ref sig .tc := ⟨.hbm, 69, rfl⟩
abbrev main_call1_v5 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_0 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_1 : Ref sig .tc := ⟨.hbm, 86, rfl⟩
abbrev main_v66 : Ref sig .tc := ⟨.hbm, 87, rfl⟩
abbrev main_v67 : Ref sig .tc := ⟨.hbm, 88, rfl⟩
abbrev main_cst_2 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_3 : Ref sig .tc := ⟨.hbm, 95, rfl⟩
abbrev main_v73 : Ref sig .tc := ⟨.hbm, 96, rfl⟩
abbrev main_v74 : Ref sig .tc := ⟨.hbm, 97, rfl⟩
abbrev main_cst_4 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_5 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩

abbrev nD : Nat := 1
abbrev τ : Topo := Topo.v7x

variable {F : FTy → Type} [FloatOps F]
-- ==== Proj.lean ====
abbrev S8x2048x1024 : Shape := ⟨3, ![8, 2048, 1024]⟩
abbrev S2x16x6144 : Shape := ⟨3, ![2, 16, 6144]⟩
abbrev S2x1024x2304 : Shape := ⟨3, ![2, 1024, 2304]⟩
abbrev S2x64 : Shape := ⟨2, ![2, 64]⟩
abbrev S256x512 : Shape := ⟨2, ![256, 512]⟩
abbrev S32x1x6144 : Shape := ⟨3, ![32, 1, 6144]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S4x4 : Shape := ⟨2, ![4, 4]⟩
abbrev S4x1x4x1 : Shape := ⟨4, ![4, 1, 4, 1]⟩
abbrev S4x64x4x64 : Shape := ⟨4, ![4, 64, 4, 64]⟩
abbrev S256x256 : Shape := ⟨2, ![256, 256]⟩
abbrev S2x2 : Shape := ⟨2, ![2, 2]⟩
abbrev S2x1x2x1 : Shape := ⟨4, ![2, 1, 2, 1]⟩
abbrev S2x64x2x64 : Shape := ⟨4, ![2, 64, 2, 64]⟩
abbrev S128x128 : Shape := ⟨2, ![128, 128]⟩
abbrev S8x64 : Shape := ⟨2, ![8, 64]⟩
abbrev S512 : Shape := ⟨1, ![512]⟩
abbrev S1x512 : Shape := ⟨2, ![1, 512]⟩
abbrev S128 : Shape := ⟨1, ![128]⟩
abbrev S1x128 : Shape := ⟨2, ![1, 128]⟩
abbrev S8x2048x512 : Shape := ⟨3, ![8, 2048, 512]⟩
abbrev S8x2x64x2048 : Shape := ⟨4, ![8, 2, 64, 2048]⟩
abbrev S8x2x2048x128 : Shape := ⟨4, ![8, 2, 2048, 128]⟩
abbrev S8x2048x256 : Shape := ⟨3, ![8, 2048, 256]⟩
abbrev S8x32x256x64 : Shape := ⟨4, ![8, 32, 256, 64]⟩
abbrev S8x2x2048x256 : Shape := ⟨4, ![8, 2, 2048, 256]⟩
abbrev S1x512x1024 : Shape := ⟨3, ![1, 512, 1024]⟩
abbrev S1x1x1024 : Shape := ⟨3, ![1, 1, 1024]⟩
abbrev S1x1024x2304 : Shape := ⟨3, ![1, 1024, 2304]⟩
abbrev S512x128 : Shape := ⟨2, ![512, 128]⟩
abbrev S1x512x512 : Shape := ⟨3, ![1, 512, 512]⟩
abbrev S1x2x64x512 : Shape := ⟨4, ![1, 2, 64, 512]⟩
abbrev S1x2x512x128 : Shape := ⟨4, ![1, 2, 512, 128]⟩
abbrev S1x512x256 : Shape := ⟨3, ![1, 512, 256]⟩
abbrev S1x8x256x64 : Shape := ⟨4, ![1, 8, 256, 64]⟩
abbrev S1x2x512x256 : Shape := ⟨4, ![1, 2, 512, 256]⟩
abbrev S512x1024 : Shape := ⟨2, ![512, 1024]⟩
abbrev S512x640 : Shape := ⟨2, ![512, 640]⟩
abbrev S1x1024 : Shape := ⟨2, ![1, 1024]⟩
abbrev S1x1024x640 : Shape := ⟨3, ![1, 1024, 640]⟩
abbrev S1024x640 : Shape := ⟨2, ![1024, 640]⟩
abbrev S1x1024x128 : Shape := ⟨3, ![1, 1024, 128]⟩
abbrev S1024x128 : Shape := ⟨2, ![1024, 128]⟩
abbrev S1x1x512x128 : Shape := ⟨4, ![1, 1, 512, 128]⟩
abbrev S1x1024x256 : Shape := ⟨3, ![1, 1024, 256]⟩
abbrev S1024x256 : Shape := ⟨2, ![1024, 256]⟩
abbrev S512x256 : Shape := ⟨2, ![512, 256]⟩
abbrev S1x256 : Shape := ⟨2, ![1, 256]⟩
abbrev S256x64 : Shape := ⟨2, ![256, 64]⟩
abbrev S1x1x256x64 : Shape := ⟨4, ![1, 1, 256, 64]⟩
abbrev S128x512 : Shape := ⟨2, ![128, 512]⟩
abbrev S64x512 : Shape := ⟨2, ![64, 512]⟩
abbrev S1x1x64x512 : Shape := ⟨4, ![1, 1, 64, 512]⟩
abbrev S512x512 : Shape := ⟨2, ![512, 512]⟩
abbrev S1x1x512x256 : Shape := ⟨4, ![1, 1, 512, 256]⟩
abbrev S1x1024x512 : Shape := ⟨3, ![1, 1024, 512]⟩
abbrev S1024x512 : Shape := ⟨2, ![1024, 512]⟩

abbrev nBuf : Space → Nat
  | .hbm => 101
  | .vmem => 36
  | .smem => 0
  | _ => 0

abbrev bufTy : (tb : Table) → Fin (tcTables nBuf tb) → BufTy
  | .hbm, ⟨0, _⟩ => ⟨S8x2048x1024, .f32⟩
  | .hbm, ⟨1, _⟩ => ⟨S2x16x6144, .f32⟩
  | .hbm, ⟨2, _⟩ => ⟨S2x1024x2304, .f32⟩
  | .hbm, ⟨3, _⟩ => ⟨S2x64, .f32⟩
  | .hbm, ⟨4, _⟩ => ⟨S2x64, .f32⟩
  | .hbm, ⟨5, _⟩ => ⟨S256x512, .f32⟩
  | .hbm, ⟨6, _⟩ => ⟨S32x1x6144, .f32⟩
  | .hbm, ⟨7, _⟩ => ⟨S32, .i32⟩
  | .hbm, ⟨8, _⟩ => ⟨S32x64, .i32⟩
  | .hbm, ⟨9, _⟩ => ⟨S2048, .i32⟩
  | .hbm, ⟨10, _⟩ => ⟨S64, .i32⟩
  | .hbm, ⟨11, _⟩ => ⟨S1x64, .i32⟩
  | .hbm, ⟨12, _⟩ => ⟨S32x64, .i32⟩
  | .hbm, ⟨13, _⟩ => ⟨S2048, .i32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S2048, .f32⟩
  | .hbm, ⟨23, _⟩ => ⟨S2048x1, .f32⟩
  | .hbm, ⟨24, _⟩ => ⟨S1x16, .f32⟩
  | .hbm, ⟨25, _⟩ => ⟨S2048x16, .f32⟩
  | .hbm, ⟨26, _⟩ => ⟨S2048x16, .f32⟩
  | .hbm, ⟨27, _⟩ => ⟨S2048x16, .f32⟩
  | .hbm, ⟨28, _⟩ => ⟨S2048, .f32⟩
  | .hbm, ⟨29, _⟩ => ⟨S2048x1, .f32⟩
  | .hbm, ⟨30, _⟩ => ⟨S1x16, .f32⟩
  | .hbm, ⟨31, _⟩ => ⟨S2048x16, .f32⟩
  | .hbm, ⟨32, _⟩ => ⟨S2048x16, .f32⟩
  | .hbm, ⟨33, _⟩ => ⟨S2048x16, .f32⟩
  | .hbm, ⟨34, _⟩ => ⟨S2048x16, .f32⟩
  | .hbm, ⟨35, _⟩ => ⟨S2048x16, .f32⟩
  | .hbm, ⟨36, _⟩ => ⟨S2048x64, .f32⟩
  | .hbm, ⟨37, _⟩ => ⟨S2048x16, .f32⟩
  | .hbm, ⟨38, _⟩ => ⟨S2048x16, .f32⟩
  | .hbm, ⟨39, _⟩ => ⟨S2048x16, .f32⟩
  | .hbm, ⟨40, _⟩ => ⟨S2048x16, .f32⟩
  | .hbm, ⟨41, _⟩ => ⟨S2048x16, .f32⟩
  | .hbm, ⟨42, _⟩ => ⟨S2048x16, .f32⟩
  | .hbm, ⟨43, _⟩ => ⟨S2048x64, .f32⟩
  | .hbm, ⟨44, _⟩ => ⟨S1x2048x1x64, .f32⟩
  | .hbm, ⟨45, _⟩ => ⟨S1x2048x2x64, .f32⟩
  | .hbm, ⟨46, _⟩ => ⟨S2048x128, .f32⟩
  | .hbm, ⟨47, _⟩ => ⟨S1x2048x1x64, .f32⟩
  | .hbm, ⟨48, _⟩ => ⟨S1x2048x2x64, .f32⟩
  | .hbm, ⟨49, _⟩ => ⟨S2048x128, .f32⟩
  | .hbm, ⟨50, _⟩ => ⟨S4x4, .i32⟩
  | .hbm, ⟨51, _⟩ => ⟨S4x4, .i32⟩
  | .hbm, ⟨52, _⟩ => ⟨S_, .i32⟩
  | .hbm, ⟨53, _⟩ => ⟨S4x4, .i32⟩
  | .hbm, ⟨54, _⟩ => ⟨S4x4, .i32⟩
  | .hbm, ⟨55, _⟩ => ⟨S4x4, .i1⟩
  | .hbm, ⟨56, _⟩ => ⟨S4x4, .f32⟩
  | .hbm, ⟨57, _⟩ => ⟨S4x1x4x1, .f32⟩
  | .hbm, ⟨58, _⟩ => ⟨S_, .f32⟩
  | .hbm, ⟨59, _⟩ => ⟨S4x1x4x1, .f32⟩
  | .hbm, ⟨60, _⟩ => ⟨S4x1x4x1, .f32⟩
  | .hbm, ⟨61, _⟩ => ⟨S4x64x4x64, .f32⟩
  | .hbm, ⟨62, _⟩ => ⟨S256x256, .f32⟩
  | .hbm, ⟨63, _⟩ => ⟨S256x256, .bf16⟩
  | .hbm, ⟨64, _⟩ => ⟨S2x2, .i32⟩
  | .hbm, ⟨65, _⟩ => ⟨S2x2, .i32⟩
  | .hbm, ⟨66, _⟩ => ⟨S_, .i32⟩
  | .hbm, ⟨67, _⟩ => ⟨S2x2, .i32⟩
  | .hbm, ⟨68, _⟩ => ⟨S2x2, .i32⟩
  | .hbm, ⟨69, _⟩ => ⟨S2x2, .i1⟩
  | .hbm, ⟨70, _⟩ => ⟨S2x2, .f32⟩
  | .hbm, ⟨71, _⟩ => ⟨S2x1x2x1, .f32⟩
  | .hbm, ⟨72, _⟩ => ⟨S_, .f32⟩
  | .hbm, ⟨73, _⟩ => ⟨S2x1x2x1, .f32⟩
  | .hbm, ⟨74, _⟩ => ⟨S2x1x2x1, .f32⟩
  | .hbm, ⟨75, _⟩ => ⟨S2x64x2x64, .f32⟩
  | .hbm, ⟨76, _⟩ => ⟨S128x128, .f32⟩
  | .hbm, ⟨77, _⟩ => ⟨S128x128, .bf16⟩
  | .hbm, ⟨78, _⟩ => ⟨S1x64, .f32⟩
  | .hbm, ⟨79, _⟩ => ⟨S64, .f32⟩
  | .hbm, ⟨80, _⟩ => ⟨S1x64, .f32⟩
  | .hbm, ⟨81, _⟩ => ⟨S8x64, .f32⟩
  | .hbm, ⟨82, _⟩ => ⟨S512, .f32⟩
  | .hbm, ⟨83, _⟩ => ⟨S1x512, .f32⟩
  | .hbm, ⟨84, _⟩ => ⟨S1x64, .f32⟩
  | .hbm, ⟨85, _⟩ => ⟨S64, .f32⟩
  | .hbm, ⟨86, _⟩ => ⟨S1x64, .f32⟩
  | .hbm, ⟨87, _⟩ => ⟨S2x64, .f32⟩
  | .hbm, ⟨88, _⟩ => ⟨S128, .f32⟩
  | .hbm, ⟨89, _⟩ => ⟨S1x128, .f32⟩
  | .hbm, ⟨90, _⟩ => ⟨S2x1024x2304, .bf16⟩
  | .hbm, ⟨91, _⟩ => ⟨S256x512, .bf16⟩
  | .hbm, ⟨92, _⟩ => ⟨S8x2048x512, .bf16⟩
  | .hbm, ⟨93, _⟩ => ⟨S8x2x64x2048, .bf16⟩
  | .hbm, ⟨94, _⟩ => ⟨S8x2x2048x128, .bf16⟩
  | .hbm, ⟨95, _⟩ => ⟨S8x2048x256, .bf16⟩
  | .hbm, ⟨96, _⟩ => ⟨S8x2048x256, .bf16⟩
  | .hbm, ⟨97, _⟩ => ⟨S8x2048x256, .bf16⟩
  | .hbm, ⟨98, _⟩ => ⟨S8x2048x512, .f32⟩
  | .hbm, ⟨99, _⟩ => ⟨S8x32x256x64, .bf16⟩
  | .hbm, ⟨100, _⟩ => ⟨S8x2x2048x256, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024x2304, .bf16⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S1x512, .f32⟩
  | .local _ .vmem, ⟨12, _⟩ => ⟨S1x128, .f32⟩
  | .local _ .vmem, ⟨13, _⟩ => ⟨S256x256, .bf16⟩
  | .local _ .vmem, ⟨14, _⟩ => ⟨S128x128, .bf16⟩
  | .local _ .vmem, ⟨15, _⟩ => ⟨S256x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x2x64x512, .bf16⟩
  | .local _ .vmem, ⟨19, _⟩ => ⟨S1x2x64x512, .bf16⟩
  | .local _ .vmem, ⟨20, _⟩ => ⟨S1x2x512x128, .bf16⟩
  | .local _ .vmem, ⟨21, _⟩ => ⟨S1x2x512x128, .bf16⟩
  | .local _ .vmem, ⟨22, _⟩ => ⟨S1x512x256, .bf16⟩
  | .local _ .vmem, ⟨23, _⟩ => ⟨S1x512x256, .bf16⟩
  | .local _ .vmem, ⟨24, _⟩ => ⟨S1x512x256, .bf16⟩
  | .local _ .vmem, ⟨25, _⟩ => ⟨S1x512x256, .bf16⟩
  | .local _ .vmem, ⟨26, _⟩ => ⟨S1x512x256, .bf16⟩
  | .local _ .vmem, ⟨27, _⟩ => ⟨S1x512x256, .bf16⟩
  | .local _ .vmem, ⟨28, _⟩ => ⟨S1x512x512, .f32⟩
  | .local _ .vmem, ⟨29, _⟩ => ⟨S1x512x512, .f32⟩
  | .local _ .vmem, ⟨30, _⟩ => ⟨S1x8x256x64, .bf16⟩
  | .local _ .vmem, ⟨31, _⟩ => ⟨S1x8x256x64, .bf16⟩
  | .local _ .vmem, ⟨32, _⟩ => ⟨S1x2x512x256, .bf16⟩
  | .local _ .vmem, ⟨33, _⟩ => ⟨S1x2x512x256, .bf16⟩
  | .local _ .vmem, ⟨34, _⟩ => ⟨S512x1024, .bf16⟩
  | .local _ .vmem, ⟨35, _⟩ => ⟨S512x640, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_c : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_cst_1 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_c_2 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_cst_3 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80_0 : Ref sig .tc := ⟨.hbm, 92, rfl⟩
abbrev main_v80_1 : Ref sig .tc := ⟨.hbm, 93, rfl⟩
abbrev main_v80_2 : Ref sig .tc := ⟨.hbm, 94, rfl⟩
abbrev main_v80_3 : Ref sig .tc := ⟨.hbm, 95, rfl⟩
abbrev main_v80_4 : Ref sig .tc := ⟨.hbm, 96, rfl⟩
abbrev main_v80_5 : Ref sig .tc := ⟨.hbm, 97, rfl⟩
abbrev main_v80_6 : Ref sig .tc := ⟨.hbm, 98, rfl⟩
abbrev main_v80_7 : Ref sig .tc := ⟨.hbm, 99, rfl⟩
abbrev main_v80_8 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_scratch0 : Ref sig .tc := ⟨.vmem, 34, rfl⟩
abbrev cc0_scratch1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c1_i32 : BitVec 32 := 1#32
  let c0_i32_0 : BitVec 32 := 0#32
  ![v0.toNat, c0_i32.toNat, c1_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024x2304 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2x64x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2x512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x8x256x64 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x2x512x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== ProjRefIdeal.lean ====
abbrev S8x2048x1024 : Shape := ⟨3, ![8, 2048, 1024]⟩
abbrev S2x16x6144 : Shape := ⟨3, ![2, 16, 6144]⟩
abbrev S2x1024x2304 : Shape := ⟨3, ![2, 1024, 2304]⟩
abbrev S2x64 : Shape := ⟨2, ![2, 64]⟩
abbrev S256x512 : Shape := ⟨2, ![256, 512]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S1x8x6144 : Shape := ⟨3, ![1, 8, 6144]⟩
abbrev S8x6144 : Shape := ⟨2, ![8, 6144]⟩
abbrev S8x1x6144 : Shape := ⟨3, ![8, 1, 6144]⟩
abbrev S8x1x1024 : Shape := ⟨3, ![8, 1, 1024]⟩
abbrev S_ : Shape := ⟨0, ![]⟩
abbrev S1x1024x2304 : Shape := ⟨3, ![1, 1024, 2304]⟩
abbrev S1024x2304 : Shape := ⟨2, ![1024, 2304]⟩
abbrev S8x2048x2304 : Shape := ⟨3, ![8, 2048, 2304]⟩
abbrev S8x2048x512 : Shape := ⟨3, ![8, 2048, 512]⟩
abbrev S8x2048x128 : Shape := ⟨3, ![8, 2048, 128]⟩
abbrev S8x2048x256 : Shape := ⟨3, ![8, 2048, 256]⟩
abbrev S8x2048x8x64 : Shape := ⟨4, ![8, 2048, 8, 64]⟩
abbrev S8x8x2048x64 : Shape := ⟨4, ![8, 8, 2048, 64]⟩
abbrev S8x8x2048 : Shape := ⟨3, ![8, 8, 2048]⟩
abbrev S8x8x2048x1 : Shape := ⟨4, ![8, 8, 2048, 1]⟩
abbrev S1x1x1x64 : Shape := ⟨4, ![1, 1, 1, 64]⟩
abbrev S16 : Shape := ⟨1, ![16]⟩
abbrev S8x8x2048x32 : Shape := ⟨4, ![8, 8, 2048, 32]⟩
abbrev S2048x1 : Shape := ⟨2, ![2048, 1]⟩
abbrev S1x16 : Shape := ⟨2, ![1, 16]⟩
abbrev S2048x16 : Shape := ⟨2, ![2048, 16]⟩
abbrev S8x8x2048x16 : Shape := ⟨4, ![8, 8, 2048, 16]⟩
abbrev S1x1x2048x16 : Shape := ⟨4, ![1, 1, 2048, 16]⟩
abbrev S8x2048x2x64 : Shape := ⟨4, ![8, 2048, 2, 64]⟩
abbrev S8x2x2048x64 : Shape := ⟨4, ![8, 2, 2048, 64]⟩
abbrev S8x2x2048 : Shape := ⟨3, ![8, 2, 2048]⟩
abbrev S8x2x2048x1 : Shape := ⟨4, ![8, 2, 2048, 1]⟩
abbrev S8x2x2048x32 : Shape := ⟨4, ![8, 2, 2048, 32]⟩
abbrev S8x2x2048x16 : Shape := ⟨4, ![8, 2, 2048, 16]⟩
abbrev S8x2x2048x63 : Shape := ⟨4, ![8, 2, 2048, 63]⟩
abbrev S8x2x2048x128 : Shape := ⟨4, ![8, 2, 2048, 128]⟩
abbrev S8x32x64x256 : Shape := ⟨4, ![8, 32, 64, 256]⟩
abbrev S8x32x256x64 : Shape := ⟨4, ![8, 32, 256, 64]⟩
abbrev S8x1x2048x256 : Shape := ⟨4, ![8, 1, 2048, 256]⟩
abbrev S8x2x2048x256 : Shape := ⟨4, ![8, 2, 2048, 256]⟩
abbrev S8x2x64x2048 : Shape := ⟨4, ![8, 2, 64, 2048]⟩

abbrev nBuf : Space → Nat
  | .hbm => 231
  | .vmem => 0
  | .smem => 0
  | _ => 0

abbrev hbmTy0_0 (i : Nat) : BufTy := match i % 128 with
  | 0 => ⟨S8x2048x1024, .f32⟩
  | 1 => ⟨S2x16x6144, .f32⟩
  | 2 => ⟨S2x1024x2304, .f32⟩
  | 3 => ⟨S2x64, .f32⟩
  | 4 => ⟨S2x64, .f32⟩
  | 5 => ⟨S256x512, .f32⟩
  | 6 => ⟨S32, .i32⟩
  | 7 => ⟨S32x64, .i32⟩
  | 8 => ⟨S2048, .i32⟩
  | 9 => ⟨S64, .i32⟩
  | 10 => ⟨S1x64, .i32⟩
  | 11 => ⟨S32x64, .i32⟩
  | 12 => ⟨S2048, .i32⟩
  | 13 => ⟨S1x8x6144, .f32⟩
  | 14 => ⟨S8x6144, .f32⟩
  | 15 => ⟨S8x1x6144, .f32⟩
  | 16 => ⟨S8x1x1024, .f32⟩
  | 17 => ⟨S8x1x1024, .f32⟩
  | 18 => ⟨S8x1x1024, .f32⟩
  | 19 => ⟨S8x1x1024, .f32⟩
  | 20 => ⟨S8x1x1024, .f32⟩
  | 21 => ⟨S8x1x1024, .f32⟩
  | 22 => ⟨S_, .f32⟩
  | 23 => ⟨S8x1x1024, .f32⟩
  | 24 => ⟨S8x1x1024, .f32⟩
  | 25 => ⟨S8x2048x1024, .f32⟩
  | 26 => ⟨S8x2048x1024, .f32⟩
  | 27 => ⟨S8x2048x1024, .f32⟩
  | 28 => ⟨S8x2048x1024, .f32⟩
  | 29 => ⟨S1x1024x2304, .f32⟩
  | 30 => ⟨S1024x2304, .f32⟩
  | 31 => ⟨S8x2048x2304, .f32⟩
  | 32 => ⟨S8x2048x512, .f32⟩
  | 33 => ⟨S8x2048x128, .f32⟩
  | 34 => ⟨S8x2048x128, .f32⟩
  | 35 => ⟨S8x2048x256, .f32⟩
  | 36 => ⟨S8x2048x256, .f32⟩
  | 37 => ⟨S8x2048x512, .f32⟩
  | 38 => ⟨S8x2048x256, .f32⟩
  | 39 => ⟨S8x2048x256, .f32⟩
  | 40 => ⟨S8x2048x8x64, .f32⟩
  | 41 => ⟨S8x8x2048x64, .f32⟩
  | 42 => ⟨S1x64, .f32⟩
  | 43 => ⟨S64, .f32⟩
  | 44 => ⟨S8x8x2048x64, .f32⟩
  | 45 => ⟨S_, .f32⟩
  | 46 => ⟨S8x8x2048, .f32⟩
  | 47 => ⟨S8x8x2048x1, .f32⟩
  | 48 => ⟨S_, .f32⟩
  | 49 => ⟨S8x8x2048x1, .f32⟩
  | 50 => ⟨S8x8x2048x1, .f32⟩
  | 51 => ⟨S_, .f32⟩
  | 52 => ⟨S8x8x2048x1, .f32⟩
  | 53 => ⟨S8x8x2048x1, .f32⟩
  | 54 => ⟨S8x8x2048x1, .f32⟩
  | 55 => ⟨S8x8x2048x64, .f32⟩
  | 56 => ⟨S8x8x2048x64, .f32⟩
  | 57 => ⟨S1x1x1x64, .f32⟩
  | 58 => ⟨S8x8x2048x64, .f32⟩
  | 59 => ⟨S8x8x2048x64, .f32⟩
  | 60 => ⟨S16, .f32⟩
  | 61 => ⟨S16, .f32⟩
  | 62 => ⟨S_, .f32⟩
  | 63 => ⟨S16, .f32⟩
  | 64 => ⟨S16, .f32⟩
  | 65 => ⟨S_, .f32⟩
  | 66 => ⟨S16, .f32⟩
  | 67 => ⟨S16, .f32⟩
  | 68 => ⟨S8x8x2048x32, .f32⟩
  | 69 => ⟨S2048, .f32⟩
  | 70 => ⟨S2048x1, .f32⟩
  | 71 => ⟨S1x16, .f32⟩
  | 72 => ⟨S2048x16, .f32⟩
  | 73 => ⟨S2048x16, .f32⟩
  | 74 => ⟨S2048x16, .f32⟩
  | 75 => ⟨S2048x16, .f32⟩
  | 76 => ⟨S2048x16, .f32⟩
  | 77 => ⟨S8x8x2048x16, .f32⟩
  | 78 => ⟨S8x8x2048x16, .f32⟩
  | 79 => ⟨S1x1x2048x16, .f32⟩
  | 80 => ⟨S8x8x2048x16, .f32⟩
  | 81 => ⟨S8x8x2048x16, .f32⟩
  | 82 => ⟨S1x1x2048x16, .f32⟩
  | 83 => ⟨S8x8x2048x16, .f32⟩
  | 84 => ⟨S8x8x2048x16, .f32⟩
  | 85 => ⟨S8x8x2048x16, .f32⟩
  | 86 => ⟨S1x1x2048x16, .f32⟩
  | 87 => ⟨S8x8x2048x16, .f32⟩
  | 88 => ⟨S8x8x2048x16, .f32⟩
  | 89 => ⟨S1x1x2048x16, .f32⟩
  | 90 => ⟨S8x8x2048x16, .f32⟩
  | 91 => ⟨S8x8x2048x16, .f32⟩
  | 92 => ⟨S8x8x2048x16, .f32⟩
  | 93 => ⟨S8x8x2048x32, .f32⟩
  | 94 => ⟨S8x8x2048x32, .f32⟩
  | 95 => ⟨S2048, .f32⟩
  | 96 => ⟨S2048x1, .f32⟩
  | 97 => ⟨S1x16, .f32⟩
  | 98 => ⟨S2048x16, .f32⟩
  | 99 => ⟨S2048x16, .f32⟩
  | 100 => ⟨S2048x16, .f32⟩
  | 101 => ⟨S2048x16, .f32⟩
  | 102 => ⟨S2048x16, .f32⟩
  | 103 => ⟨S8x8x2048x16, .f32⟩
  | 104 => ⟨S8x8x2048x16, .f32⟩
  | 105 => ⟨S1x1x2048x16, .f32⟩
  | 106 => ⟨S8x8x2048x16, .f32⟩
  | 107 => ⟨S8x8x2048x16, .f32⟩
  | 108 => ⟨S1x1x2048x16, .f32⟩
  | 109 => ⟨S8x8x2048x16, .f32⟩
  | 110 => ⟨S8x8x2048x16, .f32⟩
  | 111 => ⟨S8x8x2048x16, .f32⟩
  | 112 => ⟨S1x1x2048x16, .f32⟩
  | 113 => ⟨S8x8x2048x16, .f32⟩
  | 114 => ⟨S8x8x2048x16, .f32⟩
  | 115 => ⟨S1x1x2048x16, .f32⟩
  | 116 => ⟨S8x8x2048x16, .f32⟩
  | 117 => ⟨S8x8x2048x16, .f32⟩
  | 118 => ⟨S8x8x2048x16, .f32⟩
  | 119 => ⟨S8x8x2048x32, .f32⟩
  | 120 => ⟨S8x8x2048x64, .f32⟩
  | 121 => ⟨S8x2048x2x64, .f32⟩
  | 122 => ⟨S8x2x2048x64, .f32⟩
  | 123 => ⟨S1x64, .f32⟩
  | 124 => ⟨S64, .f32⟩
  | 125 => ⟨S8x2x2048x64, .f32⟩
  | 126 => ⟨S_, .f32⟩
  | 127 => ⟨S8x2x2048, .f32⟩
  | _ => ⟨S8x2048x1024, .f32⟩

abbrev hbmTy0_1 (i : Nat) : BufTy := match i % 128 with
  | 0 => ⟨S8x2x2048x1, .f32⟩
  | 1 => ⟨S_, .f32⟩
  | 2 => ⟨S8x2x2048x1, .f32⟩
  | 3 => ⟨S8x2x2048x1, .f32⟩
  | 4 => ⟨S_, .f32⟩
  | 5 => ⟨S8x2x2048x1, .f32⟩
  | 6 => ⟨S8x2x2048x1, .f32⟩
  | 7 => ⟨S8x2x2048x1, .f32⟩
  | 8 => ⟨S8x2x2048x64, .f32⟩
  | 9 => ⟨S8x2x2048x64, .f32⟩
  | 10 => ⟨S1x1x1x64, .f32⟩
  | 11 => ⟨S8x2x2048x64, .f32⟩
  | 12 => ⟨S8x2x2048x64, .f32⟩
  | 13 => ⟨S16, .f32⟩
  | 14 => ⟨S16, .f32⟩
  | 15 => ⟨S_, .f32⟩
  | 16 => ⟨S16, .f32⟩
  | 17 => ⟨S16, .f32⟩
  | 18 => ⟨S_, .f32⟩
  | 19 => ⟨S16, .f32⟩
  | 20 => ⟨S16, .f32⟩
  | 21 => ⟨S8x2x2048x32, .f32⟩
  | 22 => ⟨S2048, .f32⟩
  | 23 => ⟨S2048x1, .f32⟩
  | 24 => ⟨S1x16, .f32⟩
  | 25 => ⟨S2048x16, .f32⟩
  | 26 => ⟨S2048x16, .f32⟩
  | 27 => ⟨S2048x16, .f32⟩
  | 28 => ⟨S2048x16, .f32⟩
  | 29 => ⟨S2048x16, .f32⟩
  | 30 => ⟨S8x2x2048x16, .f32⟩
  | 31 => ⟨S8x2x2048x16, .f32⟩
  | 32 => ⟨S1x1x2048x16, .f32⟩
  | 33 => ⟨S8x2x2048x16, .f32⟩
  | 34 => ⟨S8x2x2048x16, .f32⟩
  | 35 => ⟨S1x1x2048x16, .f32⟩
  | 36 => ⟨S8x2x2048x16, .f32⟩
  | 37 => ⟨S8x2x2048x16, .f32⟩
  | 38 => ⟨S8x2x2048x16, .f32⟩
  | 39 => ⟨S1x1x2048x16, .f32⟩
  | 40 => ⟨S8x2x2048x16, .f32⟩
  | 41 => ⟨S8x2x2048x16, .f32⟩
  | 42 => ⟨S1x1x2048x16, .f32⟩
  | 43 => ⟨S8x2x2048x16, .f32⟩
  | 44 => ⟨S8x2x2048x16, .f32⟩
  | 45 => ⟨S8x2x2048x16, .f32⟩
  | 46 => ⟨S8x2x2048x32, .f32⟩
  | 47 => ⟨S8x2x2048x32, .f32⟩
  | 48 => ⟨S2048, .f32⟩
  | 49 => ⟨S2048x1, .f32⟩
  | 50 => ⟨S1x16, .f32⟩
  | 51 => ⟨S2048x16, .f32⟩
  | 52 => ⟨S2048x16, .f32⟩
  | 53 => ⟨S2048x16, .f32⟩
  | 54 => ⟨S2048x16, .f32⟩
  | 55 => ⟨S2048x16, .f32⟩
  | 56 => ⟨S8x2x2048x16, .f32⟩
  | 57 => ⟨S8x2x2048x16, .f32⟩
  | 58 => ⟨S1x1x2048x16, .f32⟩
  | 59 => ⟨S8x2x2048x16, .f32⟩
  | 60 => ⟨S8x2x2048x16, .f32⟩
  | 61 => ⟨S1x1x2048x16, .f32⟩
  | 62 => ⟨S8x2x2048x16, .f32⟩
  | 63 => ⟨S8x2x2048x16, .f32⟩
  | 64 => ⟨S8x2x2048x16, .f32⟩
  | 65 => ⟨S1x1x2048x16, .f32⟩
  | 66 => ⟨S8x2x2048x16, .f32⟩
  | 67 => ⟨S8x2x2048x16, .f32⟩
  | 68 => ⟨S1x1x2048x16, .f32⟩
  | 69 => ⟨S8x2x2048x16, .f32⟩
  | 70 => ⟨S8x2x2048x16, .f32⟩
  | 71 => ⟨S8x2x2048x16, .f32⟩
  | 72 => ⟨S8x2x2048x32, .f32⟩
  | 73 => ⟨S8x2x2048x64, .f32⟩
  | 74 => ⟨S8x2048x2x64, .f32⟩
  | 75 => ⟨S8x2x2048x64, .f32⟩
  | 76 => ⟨S8x2048x512, .f32⟩
  | 77 => ⟨S_, .f32⟩
  | 78 => ⟨S8x8x2048x64, .f32⟩
  | 79 => ⟨S8x8x2048x64, .f32⟩
  | 80 => ⟨S8x2048x8x64, .f32⟩
  | 81 => ⟨S8x2048x512, .f32⟩
  | 82 => ⟨S_, .f32⟩
  | 83 => ⟨S8x2x2048x1, .f32⟩
  | 84 => ⟨S_, .f32⟩
  | 85 => ⟨S8x2x2048x63, .f32⟩
  | 86 => ⟨S8x2x2048x128, .f32⟩
  | 87 => ⟨S8x32x64x256, .f32⟩
  | 88 => ⟨S8x32x256x64, .f32⟩
  | 89 => ⟨S8x2048x256, .f32⟩
  | 90 => ⟨S8x2048x256, .f32⟩
  | 91 => ⟨S8x1x2048x256, .f32⟩
  | 92 => ⟨S8x1x2048x256, .f32⟩
  | 93 => ⟨S8x2x2048x256, .f32⟩
  | 94 => ⟨S8x2048x512, .bf16⟩
  | 95 => ⟨S8x2x64x2048, .f32⟩
  | 96 => ⟨S8x2x64x2048, .bf16⟩
  | 97 => ⟨S8x2x2048x128, .bf16⟩
  | 98 => ⟨S8x2048x256, .bf16⟩
  | 99 => ⟨S8x2048x256, .bf16⟩
  | 100 => ⟨S8x2048x256, .bf16⟩
  | 101 => ⟨S8x32x256x64, .bf16⟩
  | 102 => ⟨S8x2x2048x256, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_0 : Ref sig .tc := ⟨.hbm, 45, rfl⟩
abbrev main_v38 : Ref sig .tc := ⟨.hbm, 46, rfl⟩
abbrev main_v39 : Ref sig .tc := ⟨.hbm, 47, rfl⟩
abbrev main_cst_1 : Ref sig .tc := ⟨.hbm, 48, rfl⟩
abbrev main_v40 : Ref sig .tc := ⟨.hbm, 49, rfl⟩
abbrev main_v41 : Ref sig .tc := ⟨.hbm, 50, rfl⟩
abbrev main_cst_2 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_cst_3 : Ref sig .tc := ⟨.hbm, 62, rfl⟩
abbrev main_v52 : Ref sig .tc := ⟨.hbm, 63, rfl⟩
abbrev main_v53 : Ref sig .tc := ⟨.hbm, 64, rfl⟩
abbrev main_cst_4 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_cst_5 : Ref sig .tc := ⟨.hbm, 126, rfl⟩
abbrev main_v114 : Ref sig .tc := ⟨.hbm, 127, rfl⟩
abbrev main_v115 : Ref sig .tc := ⟨.hbm, 128, rfl⟩
abbrev main_cst_6 : Ref sig .tc := ⟨.hbm, 129, rfl⟩
abbrev main_v116 : Ref sig .tc := ⟨.hbm, 130, rfl⟩
abbrev main_v117 : Ref sig .tc := ⟨.hbm, 131, rfl⟩
abbrev main_cst_7 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_cst_8 : Ref sig .tc := ⟨.hbm, 143, rfl⟩
abbrev main_v128 : Ref sig .tc := ⟨.hbm, 144, rfl⟩
abbrev main_v129 : Ref sig .tc := ⟨.hbm, 145, rfl⟩
abbrev main_cst_9 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177 : Ref sig .tc := ⟨.hbm, 194, rfl⟩
abbrev main_v178 : Ref sig .tc := ⟨.hbm, 195, rfl⟩
abbrev main_v179 : Ref sig .tc := ⟨.hbm, 196, rfl⟩
abbrev main_v180 : Ref sig .tc := ⟨.hbm, 197, rfl⟩
abbrev main_v181 : Ref sig .tc := ⟨.hbm, 198, rfl⟩
abbrev main_v182 : Ref sig .tc := ⟨.hbm, 199, rfl⟩
abbrev main_v183 : Ref sig .tc := ⟨.hbm, 200, rfl⟩
abbrev main_v184 : Ref sig .tc := ⟨.hbm, 201, rfl⟩
abbrev main_v185 : Ref sig .tc := ⟨.hbm, 202, rfl⟩
abbrev main_v186 : Ref sig .tc := ⟨.hbm, 203, rfl⟩
abbrev main_v187 : Ref sig .tc := ⟨.hbm, 204, rfl⟩
abbrev main_cst_10 : Ref sig .tc := ⟨.hbm, 205, rfl⟩
abbrev main_v188 : Ref sig .tc := ⟨.hbm, 206, rfl⟩
abbrev main_v189 : Ref sig .tc := ⟨.hbm, 207, rfl⟩
abbrev main_v190 : Ref sig .tc := ⟨.hbm, 208, rfl⟩
abbrev main_v191 : Ref sig .tc := ⟨.hbm, 209, rfl⟩
abbrev main_cst_11 : Ref sig .tc := ⟨.hbm, 210, rfl⟩
abbrev main_v192 : Ref sig .tc := ⟨.hbm, 211, rfl⟩
abbrev main_cst_12 : Ref sig .tc := ⟨.hbm, 212, rfl⟩
abbrev main_v193 : Ref sig .tc := ⟨.hbm, 213, rfl⟩
abbrev main_v194 : Ref sig .tc := ⟨.hbm, 214, rfl⟩
abbrev main_v195 : Ref sig .tc := ⟨.hbm, 215, rfl⟩
abbrev main_v196 : Ref sig .tc := ⟨.hbm, 216, rfl⟩
abbrev main_v197 : Ref sig .tc := ⟨.hbm, 217, rfl⟩
abbrev main_v198 : Ref sig .tc := ⟨.hbm, 218, rfl⟩
abbrev main_v199 : Ref sig .tc := ⟨.hbm, 219, rfl⟩
abbrev main_v200 : Ref sig .tc := ⟨.hbm, 220, rfl⟩
abbrev main_v201 : Ref sig .tc := ⟨.hbm, 221, rfl⟩
abbrev main_v202 : Ref sig .tc := ⟨.hbm, 222, rfl⟩
abbrev main_v203 : Ref sig .tc := ⟨.hbm, 223, rfl⟩
abbrev main_v204 : Ref sig .tc := ⟨.hbm, 224, rfl⟩
abbrev main_v205 : Ref sig .tc := ⟨.hbm, 225, rfl⟩
abbrev main_v206 : Ref sig .tc := ⟨.hbm, 226, rfl⟩
abbrev main_v207 : Ref sig .tc := ⟨.hbm, 227, rfl⟩
abbrev main_v208 : Ref sig .tc := ⟨.hbm, 228, rfl⟩
abbrev main_v209 : Ref sig .tc := ⟨.hbm, 229, rfl⟩
abbrev main_v210 : Ref sig .tc := ⟨.hbm, 230, rfl⟩

abbrev nD : Nat := 1
abbrev τ : Topo := Topo.v7x

variable {F : FTy → Type} [FloatOps F]
-- ==== Mix.lean ====
abbrev S2048x2048 : Shape := ⟨2, ![2048, 2048]⟩
abbrev S8x2048x256 : Shape := ⟨3, ![8, 2048, 256]⟩
abbrev S8x2048x512 : Shape := ⟨3, ![8, 2048, 512]⟩
abbrev S8x2048x1024 : Shape := ⟨3, ![8, 2048, 1024]⟩
abbrev S2x16x6144 : Shape := ⟨3, ![2, 16, 6144]⟩
abbrev S2x4x64x64 : Shape := ⟨4, ![2, 4, 64, 64]⟩
abbrev S2x1024x1024 : Shape := ⟨3, ![2, 1024, 1024]⟩
abbrev S2x1024 : Shape := ⟨2, ![2, 1024]⟩
abbrev S32x1x6144 : Shape := ⟨3, ![32, 1, 6144]⟩
abbrev S8x1x2048x256 : Shape := ⟨4, ![8, 1, 2048, 256]⟩
abbrev S8x2x2048x256 : Shape := ⟨4, ![8, 2, 2048, 256]⟩
abbrev S1x1x64x64 : Shape := ⟨4, ![1, 1, 64, 64]⟩
abbrev S64x64 : Shape := ⟨2, ![64, 64]⟩
abbrev S_ : Shape := ⟨0, ![]⟩
abbrev S64x256 : Shape := ⟨2, ![64, 256]⟩
abbrev S256x256 : Shape := ⟨2, ![256, 256]⟩
abbrev S1x1024 : Shape := ⟨2, ![1, 1024]⟩
abbrev S1024 : Shape := ⟨1, ![1024]⟩
abbrev S512x2048 : Shape := ⟨2, ![512, 2048]⟩
abbrev S1x2x2048x256 : Shape := ⟨4, ![1, 2, 2048, 256]⟩
abbrev S1x512x512 : Shape := ⟨3, ![1, 512, 512]⟩
abbrev S1x512x256 : Shape := ⟨3, ![1, 512, 256]⟩
abbrev S1x512x1024 : Shape := ⟨3, ![1, 512, 1024]⟩
abbrev S1x1x1024 : Shape := ⟨3, ![1, 1, 1024]⟩
abbrev S1x1024x1024 : Shape := ⟨3, ![1, 1024, 1024]⟩
abbrev S512x256 : Shape := ⟨2, ![512, 256]⟩
abbrev S512x1024 : Shape := ⟨2, ![512, 1024]⟩
abbrev S256x2048 : Shape := ⟨2, ![256, 2048]⟩
abbrev S1x1x2048x256 : Shape := ⟨4, ![1, 1, 2048, 256]⟩
abbrev S2048x256 : Shape := ⟨2, ![2048, 256]⟩
abbrev S1x256x512 : Shape := ⟨3, ![1, 256, 512]⟩
abbrev S256x512 : Shape := ⟨2, ![256, 512]⟩
abbrev S256x1024 : Shape := ⟨2, ![256, 1024]⟩
abbrev S1x256x256 : Shape := ⟨3, ![1, 256, 256]⟩
abbrev S1x256x1024 : Shape := ⟨3, ![1, 256, 1024]⟩
abbrev S256 : Shape := ⟨1, ![256]⟩
abbrev S256x1 : Shape := ⟨2, ![256, 1]⟩

abbrev nBuf : Space → Nat
  | .hbm => 47
  | .vmem => 23
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S8x2048x256, .f32⟩
  | .hbm, ⟨3, _⟩ => ⟨S8x2048x256, .f32⟩
  | .hbm, ⟨4, _⟩ => ⟨S8x2048x512, .f32⟩
  | .hbm, ⟨5, _⟩ => ⟨S8x2048x256, .f32⟩
  | .hbm, ⟨6, _⟩ => ⟨S8x2048x1024, .f32⟩
  | .hbm, ⟨7, _⟩ => ⟨S2x16x6144, .f32⟩
  | .hbm, ⟨8, _⟩ => ⟨S2x4x64x64, .f32⟩
  | .hbm, ⟨9, _⟩ => ⟨S2x1024x1024, .f32⟩
  | .hbm, ⟨10, _⟩ => ⟨S2x1024, .f32⟩
  | .hbm, ⟨11, _⟩ => ⟨S2x1024, .f32⟩
  | .hbm, ⟨12, _⟩ => ⟨S32x1x6144, .f32⟩
  | .hbm, ⟨13, _⟩ => ⟨S8x1x2048x256, .f32⟩
  | .hbm, ⟨14, _⟩ => ⟨S8x1x2048x256, .f32⟩
  | .hbm, ⟨15, _⟩ => ⟨S8x2x2048x256, .f32⟩
  | .hbm, ⟨16, _⟩ => ⟨S8x2x2048x256, .bf16⟩
  | .hbm, ⟨17, _⟩ => ⟨S1x1x64x64, .f32⟩
  | .hbm, ⟨18, _⟩ => ⟨S64x64, .f32⟩
  | .hbm, ⟨19, _⟩ => ⟨S1x1x64x64, .f32⟩
  | .hbm, ⟨20, _⟩ => ⟨S64x64, .f32⟩
  | .hbm, ⟨21, _⟩ => ⟨S1x1x64x64, .f32⟩
  | .hbm, ⟨22, _⟩ => ⟨S64x64, .f32⟩
  | .hbm, ⟨23, _⟩ => ⟨S1x1x64x64, .f32⟩
  | .hbm, ⟨24, _⟩ => ⟨S64x64, .f32⟩
  | .hbm, ⟨25, _⟩ => ⟨S_, .f32⟩
  | .hbm, ⟨26, _⟩ => ⟨S64x256, .f32⟩
  | .hbm, ⟨27, _⟩ => ⟨S_, .f32⟩
  | .hbm, ⟨28, _⟩ => ⟨S64x256, .f32⟩
  | .hbm, ⟨29, _⟩ => ⟨S_, .f32⟩
  | .hbm, ⟨30, _⟩ => ⟨S64x256, .f32⟩
  | .hbm, ⟨31, _⟩ => ⟨S_, .f32⟩
  | .hbm, ⟨32, _⟩ => ⟨S64x256, .f32⟩
  | .hbm, ⟨33, _⟩ => ⟨S256x256, .f32⟩
  | .hbm, ⟨34, _⟩ => ⟨S256x256, .bf16⟩
  | .hbm, ⟨35, _⟩ => ⟨S1x1024, .f32⟩
  | .hbm, ⟨36, _⟩ => ⟨S1024, .f32⟩
  | .hbm, ⟨37, _⟩ => ⟨S1x1024, .f32⟩
  | .hbm, ⟨38, _⟩ => ⟨S1x1024, .f32⟩
  | .hbm, ⟨39, _⟩ => ⟨S1024, .f32⟩
  | .hbm, ⟨40, _⟩ => ⟨S1x1024, .f32⟩
  | .hbm, ⟨41, _⟩ => ⟨S2048x2048, .bf16⟩
  | .hbm, ⟨42, _⟩ => ⟨S2048x2048, .bf16⟩
  | .hbm, ⟨43, _⟩ => ⟨S8x2048x512, .bf16⟩
  | .hbm, ⟨44, _⟩ => ⟨S8x2048x256, .bf16⟩
  | .hbm, ⟨45, _⟩ => ⟨S2x1024x1024, .bf16⟩
  | .hbm, ⟨46, _⟩ => ⟨S8x2048x1024, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S1x2x2048x256, .bf16⟩
  | .local _ .vmem, ⟨5, _⟩ => ⟨S1x2x2048x256, .bf16⟩
  | .local _ .vmem, ⟨6, _⟩ => ⟨S256x256, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x256, .bf16⟩
  | .local _ .vmem, ⟨10, _⟩ => ⟨S1x512x256, .bf16⟩
  | .local _ .vmem, ⟨11, _⟩ => ⟨S1x512x1024, .f32⟩
  | .local _ .vmem, ⟨12, _⟩ => ⟨S1x512x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1024x1024, .bf16⟩
  | .local _ .vmem, ⟨16, _⟩ => ⟨S1x1024, .f32⟩
  | .local _ .vmem, ⟨17, _⟩ => ⟨S1x1024, .f32⟩
  | .local _ .vmem, ⟨18, _⟩ => ⟨S1x512x1024, .f32⟩
  | .local _ .vmem, ⟨19, _⟩ => ⟨S1x512x1024, .f32⟩
  | .local _ .vmem, ⟨20, _⟩ => ⟨S512x256, .bf16⟩
  | .local _ .vmem, ⟨21, _⟩ => ⟨S512x256, .bf16⟩
  | .local _ .vmem, ⟨22, _⟩ => ⟨S512x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call0_cst : Ref sig .tc := ⟨.hbm, 25, rfl⟩
abbrev main_call0_v4 : Ref sig .tc := ⟨.hbm, 26, rfl⟩
abbrev main_call0_cst_0 : Ref sig .tc := ⟨.hbm, 27, rfl⟩
abbrev main_call0_v5 : Ref sig .tc := ⟨.hbm, 28, rfl⟩
abbrev main_call0_cst_1 : Ref sig .tc := ⟨.hbm, 29, rfl⟩
abbrev main_call0_v6 : Ref sig .tc := ⟨.hbm, 30, rfl⟩
abbrev main_call0_cst_2 : Ref sig .tc := ⟨.hbm, 31, rfl⟩
abbrev main_call0_v7 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c2_i32 : BitVec 32 := 2#32
  let c0_i32_0 : BitVec 32 := 0#32
  ![v0.toNat, c0_i32.toNat, c2_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== MixRefIdeal.lean ====
abbrev S2048x2048 : Shape := ⟨2, ![2048, 2048]⟩
abbrev S8x2048x256 : Shape := ⟨3, ![8, 2048, 256]⟩
abbrev S8x2048x512 : Shape := ⟨3, ![8, 2048, 512]⟩
abbrev S8x2048x1024 : Shape := ⟨3, ![8, 2048, 1024]⟩
abbrev S2x16x6144 : Shape := ⟨3, ![2, 16, 6144]⟩
abbrev S2x4x64x64 : Shape := ⟨4, ![2, 4, 64, 64]⟩
abbrev S2x1024x1024 : Shape := ⟨3, ![2, 1024, 1024]⟩
abbrev S2x1024 : Shape := ⟨2, ![2, 1024]⟩
abbrev S1x8x6144 : Shape := ⟨3, ![1, 8, 6144]⟩
abbrev S8x6144 : Shape := ⟨2, ![8, 6144]⟩
abbrev S8x1x6144 : Shape := ⟨3, ![8, 1, 6144]⟩
abbrev S8x1x1024 : Shape := ⟨3, ![8, 1, 1024]⟩
abbrev S8x256x2048 : Shape := ⟨3, ![8, 256, 2048]⟩
abbrev S8x2048x4x64 : Shape := ⟨4, ![8, 2048, 4, 64]⟩
abbrev S1x4x64x64 : Shape := ⟨4, ![1, 4, 64, 64]⟩
abbrev S4x64x64 : Shape := ⟨3, ![4, 64, 64]⟩
abbrev S4x64x8x2048 : Shape := ⟨4, ![4, 64, 8, 2048]⟩
abbrev S1x1024x1024 : Shape := ⟨3, ![1, 1024, 1024]⟩
abbrev S1024x1024 : Shape := ⟨2, ![1024, 1024]⟩
abbrev S_ : Shape := ⟨0, ![]⟩
abbrev S1x1024 : Shape := ⟨2, ![1, 1024]⟩
abbrev S1024 : Shape := ⟨1, ![1024]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 75
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S8x2048x256, .f32⟩
  | .hbm, ⟨3, _⟩ => ⟨S8x2048x256, .f32⟩
  | .hbm, ⟨4, _⟩ => ⟨S8x2048x512, .f32⟩
  | .hbm, ⟨5, _⟩ => ⟨S8x2048x256, .f32⟩
  | .hbm, ⟨6, _⟩ => ⟨S8x2048x1024, .f32⟩
  | .hbm, ⟨7, _⟩ => ⟨S2x16x6144, .f32⟩
  | .hbm, ⟨8, _⟩ => ⟨S2x4x64x64, .f32⟩
  | .hbm, ⟨9, _⟩ => ⟨S2x1024x1024, .f32⟩
  | .hbm, ⟨10, _⟩ => ⟨S2x1024, .f32⟩
  | .hbm, ⟨11, _⟩ => ⟨S2x1024, .f32⟩
  | .hbm, ⟨12, _⟩ => ⟨S1x8x6144, .f32⟩
  | .hbm, ⟨13, _⟩ => ⟨S8x6144, .f32⟩
  | .hbm, ⟨14, _⟩ => ⟨S8x1x6144, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S8x1x1024, .f32⟩
  | .hbm, ⟨19, _⟩ => ⟨S8x1x1024, .f32⟩
  | .hbm, ⟨20, _⟩ => ⟨S8x1x1024, .f32⟩
  | .hbm, ⟨21, _⟩ => ⟨S8x256x2048, .f32⟩
  | .hbm, ⟨22, _⟩ => ⟨S8x2048x256, .f32⟩
  | .hbm, ⟨23, _⟩ => ⟨S8x256x2048, .f32⟩
  | .hbm, ⟨24, _⟩ => ⟨S8x2048x256, .f32⟩
  | .hbm, ⟨25, _⟩ => ⟨S8x2048x256, .f32⟩
  | .hbm, ⟨26, _⟩ => ⟨S8x2048x4x64, .f32⟩
  | .hbm, ⟨27, _⟩ => ⟨S1x4x64x64, .f32⟩
  | .hbm, ⟨28, _⟩ => ⟨S4x64x64, .f32⟩
  | .hbm, ⟨29, _⟩ => ⟨S4x64x8x2048, .f32⟩
  | .hbm, ⟨30, _⟩ => ⟨S8x2048x4x64, .f32⟩
  | .hbm, ⟨31, _⟩ => ⟨S8x2048x256, .f32⟩
  | .hbm, ⟨32, _⟩ => ⟨S8x2048x1024, .f32⟩
  | .hbm, ⟨33, _⟩ => ⟨S1x1024x1024, .f32⟩
  | .hbm, ⟨34, _⟩ => ⟨S1024x1024, .f32⟩
  | .hbm, ⟨35, _⟩ => ⟨S8x2048x1024, .f32⟩
  | .hbm, ⟨36, _⟩ => ⟨S_, .f32⟩
  | .hbm, ⟨37, _⟩ => ⟨S8x2048x1024, .f32⟩
  | .hbm, ⟨38, _⟩ => ⟨S8x2048x1024, .f32⟩
  | .hbm, ⟨39, _⟩ => ⟨S8x2048x1024, .f32⟩
  | .hbm, ⟨40, _⟩ => ⟨S8x2048x1024, .f32⟩
  | .hbm, ⟨41, _⟩ => ⟨S8x2048x1024, .f32⟩
  | .hbm, ⟨42, _⟩ => ⟨S1x1024, .f32⟩
  | .hbm, ⟨43, _⟩ => ⟨S1024, .f32⟩
  | .hbm, ⟨44, _⟩ => ⟨S1x1024, .f32⟩
  | .hbm, ⟨45, _⟩ => ⟨S1024, .f32⟩
  | .hbm, ⟨46, _⟩ => ⟨S_, .f32⟩
  | .hbm, ⟨47, _⟩ => ⟨S8x2048, .f32⟩
  | .hbm, ⟨48, _⟩ => ⟨S8x2048x1, .f32⟩
  | .hbm, ⟨49, _⟩ => ⟨S_, .f32⟩
  | .hbm, ⟨50, _⟩ => ⟨S8x2048x1, .f32⟩
  | .hbm, ⟨51, _⟩ => ⟨S8x2048x1, .f32⟩
  | .hbm, ⟨52, _⟩ => ⟨S8x2048x1024, .f32⟩
  | .hbm, ⟨53, _⟩ => ⟨S8x2048x1024, .f32⟩
  | .hbm, ⟨54, _⟩ => ⟨S8x2048x1024, .f32⟩
  | .hbm, ⟨55, _⟩ => ⟨S_, .f32⟩
  | .hbm, ⟨56, _⟩ => ⟨S8x2048, .f32⟩
  | .hbm, ⟨57, _⟩ => ⟨S8x2048x1, .f32⟩
  | .hbm, ⟨58, _⟩ => ⟨S_, .f32⟩
  | .hbm, ⟨59, _⟩ => ⟨S8x2048x1, .f32⟩
  | .hbm, ⟨60, _⟩ => ⟨S8x2048x1, .f32⟩
  | .hbm, ⟨61, _⟩ => ⟨S8x2048x1024, .f32⟩
  | .hbm, ⟨62, _⟩ => ⟨S8x2048x1024, .f32⟩
  | .hbm, ⟨63, _⟩ => ⟨S_, .f32⟩
  | .hbm, ⟨64, _⟩ => ⟨S8x2048x1, .f32⟩
  | .hbm, ⟨65, _⟩ => ⟨S8x2048x1, .f32⟩
  | .hbm, ⟨66, _⟩ => ⟨S8x2048x1, .f32⟩
  | .hbm, ⟨67, _⟩ => ⟨S8x2048x1024, .f32⟩
  | .hbm, ⟨68, _⟩ => ⟨S8x2048x1024, .f32⟩
  | .hbm, ⟨69, _⟩ => ⟨S1x1x1024, .f32⟩
  | .hbm, ⟨70, _⟩ => ⟨S8x2048x1024, .f32⟩
  | .hbm, ⟨71, _⟩ => ⟨S8x2048x1024, .f32⟩
  | .hbm, ⟨72, _⟩ => ⟨S1x1x1024, .f32⟩
  | .hbm, ⟨73, _⟩ => ⟨S8x2048x1024, .f32⟩
  | .hbm, ⟨74, _⟩ => ⟨S8x2048x1024, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_0 : Ref sig .tc := ⟨.hbm, 46, rfl⟩
abbrev main_v33 : Ref sig .tc := ⟨.hbm, 47, rfl⟩
abbrev main_v34 : Ref sig .tc := ⟨.hbm, 48, rfl⟩
abbrev main_cst_1 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_2 : Ref sig .tc := ⟨.hbm, 55, rfl⟩
abbrev main_v40 : Ref sig .tc := ⟨.hbm, 56, rfl⟩
abbrev main_v41 : Ref sig .tc := ⟨.hbm, 57, rfl⟩
abbrev main_cst_3 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_4 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩

abbrev nD : Nat := 1
abbrev τ : Topo := Topo.v7x

variable {F : FTy → Type} [FloatOps F]
-- ==== Proof.AttnBlock.lean ====
/- The attention kernel's output block, element by element, from the point's blocks of queries, keys and values. -/
module

public import proofs.«01_k».proof.Proof.Gen.AttnIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AttnV
open Idealize.ShloMosaic Idealize.ShloMosaic.TcCoe Idealize.SL.Sem
open Idealize.ShloMosaic.Pipeline (Dat)

/-- A load that lies inside the piece stored last reads that piece, at the load's place in it. -/
theorem readCov_inside {sig : RefSig} {κ : Kind} {sp : Space} {s : Shape} {e : EltTy} {Val : EltTy → Type} [∀ e, Nonempty (Val e)]
    (v : View sig κ sp s e) (off size off' size' : Fin s.rank → ℕ) (inb : ∀ a, off a + size a ≤ s.size a)
    (inb' : ∀ a, off' a + size' a ≤ s.size a) (w : (Rect.unit off size inb).shape.Idx → Val e) (L : List (View.Piece Val s e))
    (h : ∀ a, off a ≤ off' a ∧ off' a - off a + size' a ≤ size a) :
    v.readCov (⟨Rect.unit off size inb, w⟩ :: L) (Rect.unit off' size' inb').toLoadRect
      = View.ld (S := ⟨s.rank, size⟩) w (Rect.unit (fun a => off' a - off a) size' fun a => (h a).2) := by
  funext j
  rw [View.readCov_eq_canon']
  have hj : (Rect.unit off' size' inb').toLoadRect.idx j
      = (Rect.unit off size inb).emb ((Rect.unit (s := ⟨s.rank, size⟩) (fun a => off' a - off a) size' fun a => (h a).2).idx j) := by
    funext a
    apply Fin.ext
    have := (h a).1
    show off' a + 1 * (j a).val = off a + 1 * (off' a - off a + 1 * (j a).val)
    omega
  show View.canon _ ((Rect.unit off' size' inb').toLoadRect.idx j) = _
  rw [hj, View.canon_cons_emb]
open Cert.AttnIdeal Cert.AttnIdeal.Gen
variable (m : (ℓ : Loc nD τ sig) → Buf (Elt Ideal) ℓ)

/-- One query row's products with the keys. -/
def score (q : Fin 64 → EReal) (K : FVec Ideal S1x1x64x2304 .bf16) (k : Fin 2304) : EReal := ∑ e : Fin 64, q e * K (ix4 0 0 e k)

/-- The weight of key k before the division. -/
def wt (q : Fin 64 → EReal) (K : FVec Ideal S1x1x64x2304 .bf16) (k : Fin 2304) : EReal :=
  Ideal.exp2 (score q K k - Finset.univ.fold max ⊥ (score q K))

/-- The weighted sum of a column of the values, the keys in two halves. -/
def acc (p : Fin 2304 → EReal) (W : FVec Ideal S1x1x2304x128 .bf16) (d : Fin 128) : EReal :=
  (∑ k : Fin 1024, p ⟨k.val, by omega⟩ * W (ix4 0 0 ⟨k.val, by omega⟩ d))
    + ∑ k : Fin 1280, p ⟨1024 + k.val, by omega⟩ * W (ix4 0 0 ⟨1024 + k.val, by omega⟩ d)

theorem prob_core (K : FVec Ideal S1x1x64x2304 .bf16) (q : FVec Ideal S1x256x64 .bf16) (r : Fin 256) (k : Fin 2304) :
    k0_pay11 (F := Ideal) (k0_pay5 (F := Ideal) K q) (k0_pay6 (F := Ideal) K q) (ix3 0 r k) = wt (fun e => q (ix3 0 r e)) K k := by
  unfold wt score
  pointwise [k0_pay11, k0_pay5, k0_pay6, k0_pay4, k0_pay2]
  rw [show Ideal.ofBits FTy.f32 4286578688#32 = ⊥ by simp [Ideal.ofBits, Ideal.ieee]]
  rfl

theorem pv_core (W : FVec Ideal S1x1x2304x128 .bf16) (P1 : FVec Ideal S1x256x1024 .bf16) (P2 : FVec Ideal S1x256x1280 .bf16)
    (r : Fin 256) (d : Fin 128) :
    k0_pay48 (F := Ideal) (k0_pay3 W) P1 P2 (ix2 r d) = (∑ k : Fin 1024, P1 (ix3 0 r k) * W (ix4 0 0 ⟨k.val, by omega⟩ d))
    + ∑ k : Fin 1280, P2 (ix3 0 r k) * W (ix4 0 0 ⟨1024 + k.val, by omega⟩ d) := by
  pointwise [k0_pay48, k0_pay3]
theorem pv_div (W : FVec Ideal S1x1x2304x128 .bf16) (P1 : FVec Ideal S1x256x1024 .bf16) (P2 : FVec Ideal S1x256x1280 .bf16)
    (r : Fin 256) (d : Fin 64) :
    k0_pay17 (F := Ideal) (k0_pay3 W) P1 P2 (ix2 r d) = Ideal.div (k0_pay48 (F := Ideal) (k0_pay3 W) P1 P2 (ix2 r ⟨d.val, by omega⟩))
      (k0_pay48 (F := Ideal) (k0_pay3 W) P1 P2 (ix2 r 64)) := by
  pointwise [k0_pay17, k0_pay48]
theorem pv_slice (W : FVec Ideal S1x1x2304x128 .bf16) (P1 : FVec Ideal S1x256x1024 .bf16) (P2 : FVec Ideal S1x256x1280 .bf16)
    (r : Fin 256) (d : Fin 64) :
    k0_pay49 (F := Ideal) (k0_pay3 W) P1 P2 (ix2 r d) = k0_pay48 (F := Ideal) (k0_pay3 W) P1 P2 (ix2 r ⟨d.val, by omega⟩) := by
  pointwise [k0_pay49, k0_pay48]

theorem ld_cols (P : FVec Ideal S1x256x2304 .bf16) (n w : ℕ) (i : ∀ a, ![0, 0, n] a + ![1, 256, w] a ≤ S1x256x2304.size a)
    (r : Fin 256) (k : Fin w) (hk : n + k.val < 2304) :
    View.ld (Val := Elt Ideal) (e' := .bf16) P (Rect.unit (s := S1x256x2304) ![0, 0, n] ![1, 256, w] i) (ix3 0 r k) = P (ix3 0 r ⟨n + k.val, hk⟩) := by
  refine congrArg P (funext fun a => ?_)
  fin_cases a <;> apply Fin.ext <;> simp

theorem acc_eq (W : FVec Ideal S1x1x2304x128 .bf16) (K : FVec Ideal S1x1x64x2304 .bf16) (q : FVec Ideal S1x256x64 .bf16)
    (o1 o2 : Fin 3 → ℕ) (i1 : ∀ a, o1 a + ![1, 256, 1024] a ≤ S1x256x2304.size a) (i2 : ∀ a, o2 a + ![1, 256, 1280] a ≤ S1x256x2304.size a)
    (h1 : o1 = ![0, 0, 0]) (h2 : o2 = ![0, 0, 1024]) (r : Fin 256) (d : Fin 128) :
    k0_pay48 (F := Ideal) (k0_pay3 W)
      (View.ld (Val := Elt Ideal) (e' := .bf16) (k0_pay11 (F := Ideal) (k0_pay5 (F := Ideal) K q) (k0_pay6 (F := Ideal) K q)) (Rect.unit (s := S1x256x2304) o1 ![1, 256, 1024] i1) : Vec Ideal S1x256x1024 .bf16)
      (View.ld (Val := Elt Ideal) (e' := .bf16) (k0_pay11 (F := Ideal) (k0_pay5 (F := Ideal) K q) (k0_pay6 (F := Ideal) K q)) (Rect.unit (s := S1x256x2304) o2 ![1, 256, 1280] i2) : Vec Ideal S1x256x1280 .bf16)
      (ix2 r d) = acc (wt (fun e => q (ix3 0 r e)) K) W d := by
  subst h1 h2
  refine (pv_core _ _ _ _ _).trans ?_
  unfold acc
  refine congrArg₂ _ (Finset.sum_congr rfl fun k _ => congrArg (· * _) ?_) (Finset.sum_congr rfl fun k _ => congrArg (· * _) ?_)
  · rw [← prob_core]
    generalize k0_pay11 (F := Ideal) (k0_pay5 (F := Ideal) K q) (k0_pay6 (F := Ideal) K q) = P
    exact (ld_cols P 0 1024 i1 r k (by omega)).trans (congrArg P (by simp))
  · rw [← prob_core]
    generalize k0_pay11 (F := Ideal) (k0_pay5 (F := Ideal) K q) (k0_pay6 (F := Ideal) K q) = P
    exact (ld_cols P 1024 1280 i2 r k (by omega))

/-- One element of the output of one query row. -/
def attnOut (q : Fin 64 → EReal) (K : FVec Ideal S1x1x64x2304 .bf16) (W : FVec Ideal S1x1x2304x128 .bf16) (d : Fin 64) : EReal :=
  Ideal.div (acc (wt q K) W ⟨d.val, by omega⟩) (acc (wt q K) W 64)

theorem attnOut_congr (p p' : Fin 64 → EReal) (K : FVec Ideal S1x1x64x2304 .bf16) (W : FVec Ideal S1x1x2304x128 .bf16) (d d' : Fin 64)
    (hp : ∀ e, p e = p' e) (hd : d.val = d'.val) : attnOut p K W d = attnOut p' K W d' := by
  rw [funext hp, Fin.ext hd]

theorem unit_eq (W : FVec Ideal S1x1x2304x128 .bf16) (K : FVec Ideal S1x1x64x2304 .bf16) (q : FVec Ideal S1x256x64 .bf16)
    (o1 o2 : Fin 3 → ℕ) (i1 : ∀ a, o1 a + ![1, 256, 1024] a ≤ S1x256x2304.size a) (i2 : ∀ a, o2 a + ![1, 256, 1280] a ≤ S1x256x2304.size a)
    (h1 : o1 = ![0, 0, 0]) (h2 : o2 = ![0, 0, 1024]) (r : Fin 256) (d : Fin 64) :
    k0_pay17 (F := Ideal) (k0_pay3 W)
      (View.ld (Val := Elt Ideal) (e' := .bf16) (k0_pay11 (F := Ideal) (k0_pay5 (F := Ideal) K q) (k0_pay6 (F := Ideal) K q)) (Rect.unit (s := S1x256x2304) o1 ![1, 256, 1024] i1) : Vec Ideal S1x256x1024 .bf16)
      (View.ld (Val := Elt Ideal) (e' := .bf16) (k0_pay11 (F := Ideal) (k0_pay5 (F := Ideal) K q) (k0_pay6 (F := Ideal) K q)) (Rect.unit (s := S1x256x2304) o2 ![1, 256, 1280] i2) : Vec Ideal S1x256x1280 .bf16)
      (ix2 r d) = attnOut (fun e => q (ix3 0 r e)) K W d := by
  rw [pv_div, acc_eq _ _ _ _ _ _ _ h1 h2, acc_eq _ _ _ _ _ _ _ h1 h2]
  rfl

theorem e23 : k0_pay23 (F := Ideal) = k0_pay17 := rfl
theorem e28 : k0_pay28 (F := Ideal) = k0_pay17 := rfl
theorem e34 : k0_pay34 (F := Ideal) = k0_pay17 := rfl
theorem e39 : k0_pay39 (F := Ideal) = k0_pay17 := rfl
theorem e45 : k0_pay45 (F := Ideal) = k0_pay17 := rfl
theorem e47 : k0_pay47 (F := Ideal) = k0_pay17 := rfl
theorem p1 (K q) : k0_pay16 (F := Ideal) (k0_pay15 (k0_pay8 K q) (k0_pay10 (k0_pay9 K q))) = k0_pay11 (k0_pay5 K q) (k0_pay6 K q) := rfl
theorem p2 (K q) : k0_pay22 (F := Ideal) (k0_pay21 (k0_pay13 (k0_pay2 K) q)) (k0_pay14 (k0_pay2 K) q) = k0_pay11 (k0_pay5 K q) (k0_pay6 K q) := rfl
theorem p3 (K q) : k0_pay27 (F := Ideal) (k0_pay19 (k0_pay2 K) q) (k0_pay20 (k0_pay2 K) q) = k0_pay11 (k0_pay5 K q) (k0_pay6 K q) := rfl
theorem p4 (K q) : k0_pay33 (F := Ideal) (k0_pay25 (k0_pay2 K) q) (k0_pay26 (k0_pay2 K) q) = k0_pay11 (k0_pay5 K q) (k0_pay6 K q) := rfl
theorem p5 (K q) : k0_pay38 (F := Ideal) (k0_pay30 (k0_pay2 K) q) (k0_pay32 (k0_pay31 (k0_pay2 K) q)) = k0_pay11 (k0_pay5 K q) (k0_pay6 K q) := rfl
theorem p6 (K q) : k0_pay44 (F := Ideal) (k0_pay36 (k0_pay35 (k0_pay2 K) q)) (k0_pay37 (k0_pay35 (k0_pay2 K) q)) = k0_pay11 (k0_pay5 K q) (k0_pay6 K q) := rfl
theorem p7 (K q) : k0_pay46 (F := Ideal) (k0_pay42 (k0_pay2 K) (k0_pay40 q) (constant S256x2304 FTy.f32 0#32)) (k0_pay43 (k0_pay2 K) (k0_pay40 q) (constant S256x2304 FTy.f32 0#32)) = k0_pay11 (k0_pay5 K q) (k0_pay6 K q) := rfl

theorem unit_last (W : FVec Ideal S1x1x2304x128 .bf16) (K : FVec Ideal S1x1x64x2304 .bf16) (q : FVec Ideal S1x256x64 .bf16)
    (o1 o2 : Fin 3 → ℕ) (i1 : ∀ a, o1 a + ![1, 256, 1024] a ≤ S1x256x2304.size a) (i2 : ∀ a, o2 a + ![1, 256, 1280] a ≤ S1x256x2304.size a)
    (h1 : o1 = ![0, 0, 0]) (h2 : o2 = ![0, 0, 1024]) (r : Fin 256) (d : Fin 64) :
    Ideal.div (k0_pay49 (F := Ideal) (k0_pay3 W)
      (View.ld (Val := Elt Ideal) (e' := .bf16) (k0_pay11 (F := Ideal) (k0_pay5 (F := Ideal) K q) (k0_pay6 (F := Ideal) K q)) (Rect.unit (s := S1x256x2304) o1 ![1, 256, 1024] i1) : Vec Ideal S1x256x1024 .bf16)
      (View.ld (Val := Elt Ideal) (e' := .bf16) (k0_pay11 (F := Ideal) (k0_pay5 (F := Ideal) K q) (k0_pay6 (F := Ideal) K q)) (Rect.unit (s := S1x256x2304) o2 ![1, 256, 1280] i2) : Vec Ideal S1x256x1280 .bf16) (ix2 r d))
    (k0_pay48 (F := Ideal) (k0_pay3 W)
      (View.ld (Val := Elt Ideal) (e' := .bf16) (k0_pay11 (F := Ideal) (k0_pay5 (F := Ideal) K q) (k0_pay6 (F := Ideal) K q)) (Rect.unit (s := S1x256x2304) o1 ![1, 256, 1024] i1) : Vec Ideal S1x256x1024 .bf16)
      (View.ld (Val := Elt Ideal) (e' := .bf16) (k0_pay11 (F := Ideal) (k0_pay5 (F := Ideal) K q) (k0_pay6 (F := Ideal) K q)) (Rect.unit (s := S1x256x2304) o2 ![1, 256, 1280] i2) : Vec Ideal S1x256x1280 .bf16) (ix2 r 64)) = attnOut (fun e => q (ix3 0 r e)) K W d := by
  rw [pv_slice, acc_eq _ _ _ _ _ _ _ h1 h2, acc_eq _ _ _ _ _ _ _ h1 h2]
  rfl

theorem ld_q (X : Vec Ideal S1x512x256 .bf16) (n w : ℕ) (i : ∀ a, ![0, n, w] a + ![1, 256, 64] a ≤ S1x512x256.size a)
    (r : Fin 256) (e : Fin 64) (y : Fin 512) (z : Fin 256) (hy : n + r.val = y.val) (hz : w + e.val = z.val) :
    View.ld (Val := Elt Ideal) (e' := .bf16) X (Rect.unit (s := S1x512x256) ![0, n, w] ![1, 256, 64] i) (ix3 0 r e) = X (ix3 0 y z) := by
  refine congrArg X (funext fun a => ?_)
  fin_cases a <;> apply Fin.ext <;> simp [hy, hz]

/-- One point of the grid: the output block at an index, from the point's three input blocks. -/
theorem out_apply (c : Dev nD) (t : Fin cfg0.N) (X : Vec Ideal S1x512x256 .bf16) (K : Vec Ideal S1x1x64x2304 .bf16) (W : Vec Ideal S1x1x2304x128 .bf16)
    (y0 : Fin 1) (y1 : Fin 512) (y2 : Fin 256) (y : S1x512x256.Idx) (hy : y = ix3 y0 y1 y2) :
    out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) X K W y
      = attnOut (fun e => X (ix3 0 y1 ⟨y2.val / 64 * 64 + e.val, by omega⟩)) K W ⟨y2.val % 64, by omega⟩ := by
  frame_open
  simp (disch := decide) only [↓ View.readCov_skip, ↓ View.readCov_cons_toLoadRect, ↓ View.readCov_fill, ↓ readCov_inside]
  frame_out
  generalize hA : attnOut _ _ _ _ = A
  simp only [e23, e28, e34, e39, e45, e47, p1, p2, p3, p4, p5, p6, p7]
  subst hy
  pointwise [k0_pay1]
  refine dite_eq_iff'.2 ⟨fun h0 => dite_eq_iff'.2 ⟨fun h1 => ?_, fun h1 => ?_⟩, fun h0 =>
    dite_eq_iff'.2 ⟨fun h2 => dite_eq_iff'.2 ⟨fun h1 => ?_, fun h1 => ?_⟩, fun h2 =>
    dite_eq_iff'.2 ⟨fun h3 => dite_eq_iff'.2 ⟨fun h1 => ?_, fun h1 => ?_⟩, fun h3 => dite_eq_iff'.2 ⟨fun h1 => ?_, fun h1 => ?_⟩⟩⟩⟩
  iterate 7
    subst hA
    rw [unit_eq _ _ _ _ _ _ _ (by decide) (by decide)]
    exact attnOut_congr _ _ _ _ _ _ (fun e => ld_q X _ _ _ _ _ _ _ (by dsimp only; omega) (by dsimp only; omega)) (by dsimp only; omega)
  subst hA
  rw [unit_last _ _ _ _ _ _ _ (by decide) (by decide)]
  exact attnOut_congr _ _ _ _ _ _ (fun e => ld_q X _ _ _ _ _ _ _ (by dsimp only; omega) (by dsimp only; omega)) (by dsimp only; omega)
end Cert.AttnV

end
-- ==== Proof.AttnArray.lean ====
/- The attention kernel's result array from the arrays it is launched on, and those arrays from the arguments. -/
module

public import proofs.«01_k».proof.Proof.AttnBlock

@[expose] public section

set_option maxRecDepth 16384

noncomputable section

namespace Cert.AttnV
open Idealize.ShloMosaic Idealize.ShloMosaic.TcCoe Idealize.SL.Sem
open Idealize.ShloMosaic.Pipeline (Dat)
open Cert.AttnIdeal Cert.AttnIdeal.Gen Idealize.ShloMosaic.Pointwise
variable (m : (ℓ : Loc nD τ sig) → Buf (Elt Ideal) ℓ)

theorem idx : ∀ t : Fin cfg0.N, win0_0.index t = ![(grid0.coords t 0).val, (grid0.coords t 2).val, (grid0.coords t 1).val]
    ∧ win0_1.index t = ![(grid0.coords t 0).val, (grid0.coords t 1).val, 0, 0]
    ∧ win0_2.index t = ![(grid0.coords t 0).val, (grid0.coords t 1).val, 0, 0]
    ∧ win0_3.index t = ![(grid0.coords t 0).val, (grid0.coords t 2).val, (grid0.coords t 1).val] :=
  (by decide +kernel : ∀ t : Fin grid0.N, _)

/-- The result array, from the three arrays the call is launched on. -/
def G (X : Vec Ideal S8x2048x512 .bf16) (K : Vec Ideal S8x2x64x2304 .bf16) (W : Vec Ideal S8x2x2304x128 .bf16)
    (b : Fin 8) (t : Fin 2048) (j : Fin 512) : EReal :=
  attnOut (fun e => X (ix3 b t ⟨j.val / 64 * 64 + e.val, by omega⟩)) (fun i => K (ix4 b ⟨j.val / 256, by omega⟩ (i 2) (i 3)))
    (fun i => W (ix4 b ⟨j.val / 256, by omega⟩ (i 2) (i 3))) ⟨j.val % 64, by omega⟩

theorem attnOut_congr' (p p' : Fin 64 → EReal) (K K' : FVec Ideal S1x1x64x2304 .bf16) (W W' : FVec Ideal S1x1x2304x128 .bf16) (d d' : Fin 64)
    (hp : ∀ e, p e = p' e) (hK : K = K') (hW : W = W') (hd : d.val = d'.val) : attnOut p K W d = attnOut p' K' W' d' := by
  rw [funext hp, hK, hW, Fin.ext hd]

theorem final (c : Dev nD) : (dats m 0 c).arrAt 3 cfg0.N = fun i : S8x2048x512.Idx =>
    G (V m c main_v6) (V m c main_v11) (V m c main_v20) (i 0) (i 1) (i 2) := by
  refine (dats m 0 c).arrAt_eq_of_covers 3 _ (by decide +kernel) fun t _ y => ?_
  blk_simp
  rw [after0_3]
  unfold outsAt0
  refine (out_apply c t _ _ _ (y 0) (y 1) (y 2) y ?_).trans ?_
  · funext a; fin_cases a <;> rfl
  unfold G
  have h2 : (y 2).val < 256 := (y 2).isLt
  refine attnOut_congr' _ _ _ _ _ _ _ _ (fun e => ?_) (funext fun i => ?_) (funext fun i => ?_) ?_
  · blk_ext [iblk, idx t]
  · blk_ext [iblk, idx t]
  · blk_ext [iblk, idx t]
  · blk_simp [idx t]
    dsimp only
    omega

theorem V_v12 (c : Dev nD) : V m c main_v12 = (broadcastInDim (α := Elt Ideal .f32) S8x2x256x1 ![] bcast_S_S8x2x256x1 (constant (F := Ideal) S_ .f32 0x3F800000#32) : Vec Ideal S8x2x256x1 .f32) := rfl
theorem V_v13 (c : Dev nD) : V m c main_v13 = (broadcastInDim (α := Elt Ideal .f32) S8x2x256x63 ![] bcast_S_S8x2x256x63 (constant (F := Ideal) S_ .f32 0x00000000#32) : Vec Ideal S8x2x256x63 .f32) := rfl
theorem V_v15 (c : Dev nD) : V m c main_v15 = (truncf (F := Ideal) .bf16 (concatenate S8x2x256x128 3 [⟨S8x2x256x64, m ((c : Thread nD τ).loc main_arg2)⟩, ⟨S8x2x256x1, V m c main_v12⟩, ⟨S8x2x256x63, V m c main_v13⟩] concatenates_S8x2x256x64_S8x2x256x1_S8x2x256x63_S8x2x256x128_d3 : Vec Ideal S8x2x256x128 .f32) bitsLt_bf16_f32 : Vec Ideal S8x2x256x128 .bf16) := rfl

theorem V_v16 (c : Dev nD) : V m c main_v16 = (broadcastInDim (α := Elt Ideal .f32) S8x2x2048x1 ![] bcast_S_S8x2x2048x1 (constant (F := Ideal) S_ .f32 0x3F800000#32) : Vec Ideal S8x2x2048x1 .f32) := rfl
theorem V_v17 (c : Dev nD) : V m c main_v17 = (broadcastInDim (α := Elt Ideal .f32) S8x2x2048x63 ![] bcast_S_S8x2x2048x63 (constant (F := Ideal) S_ .f32 0x00000000#32) : Vec Ideal S8x2x2048x63 .f32) := rfl
theorem V_v19 (c : Dev nD) : V m c main_v19 = (truncf (F := Ideal) .bf16 (concatenate S8x2x2048x128 3 [⟨S8x2x2048x64, m ((c : Thread nD τ).loc main_arg4)⟩, ⟨S8x2x2048x1, V m c main_v16⟩, ⟨S8x2x2048x63, V m c main_v17⟩] concatenates_S8x2x2048x64_S8x2x2048x1_S8x2x2048x63_S8x2x2048x128_d3 : Vec Ideal S8x2x2048x128 .f32) bitsLt_bf16_f32 : Vec Ideal S8x2x2048x128 .bf16) := rfl

theorem V_v20 (c : Dev nD) : V m c main_v20 = concatenate S8x2x2304x128 2 [⟨S8x2x256x128, V m c main_v15⟩, ⟨S8x2x2048x128, V m c main_v19⟩] concatenates_S8x2x256x128_S8x2x2048x128_S8x2x2304x128_d2 := by
  rfl
theorem v15_lt (c : Dev nD) (b : Fin 8) (g : Fin 2) (k : Fin 256) (d : Fin 64) (d' : Fin 128) (hd : d'.val = d.val) :
    (V m c main_v15 : Vec Ideal S8x2x256x128 .bf16) (ix4 b g k d') = (m ((c : Thread nD τ).loc main_arg2) : Vec Ideal S8x2x256x64 .f32) (ix4 b g k d) := by
  rw [show d' = ⟨d.val, by have := d.isLt; omega⟩ from Fin.ext hd]
  rw [V_v15, V_v12, V_v13]
  generalize m ((c : Thread nD τ).loc main_arg2) = Z
  pointwise
theorem v15_one (c : Dev nD) (b : Fin 8) (g : Fin 2) (k : Fin 256) :
    (V m c main_v15 : Vec Ideal S8x2x256x128 .bf16) (ix4 b g k 64) = (1 : EReal) := by
  rw [V_v15, V_v12, V_v13]
  generalize m ((c : Thread nD τ).loc main_arg2) = Z
  pointwise
theorem v19_lt (c : Dev nD) (b : Fin 8) (g : Fin 2) (k : Fin 2048) (d : Fin 64) (d' : Fin 128) (hd : d'.val = d.val) :
    (V m c main_v19 : Vec Ideal S8x2x2048x128 .bf16) (ix4 b g k d') = (m ((c : Thread nD τ).loc main_arg4) : Vec Ideal S8x2x2048x64 .f32) (ix4 b g k d) := by
  rw [show d' = ⟨d.val, by have := d.isLt; omega⟩ from Fin.ext hd]
  rw [V_v19, V_v16, V_v17]
  generalize m ((c : Thread nD τ).loc main_arg4) = Z
  pointwise
theorem v19_one (c : Dev nD) (b : Fin 8) (g : Fin 2) (k : Fin 2048) :
    (V m c main_v19 : Vec Ideal S8x2x2048x128 .bf16) (ix4 b g k 64) = (1 : EReal) := by
  rw [V_v19, V_v16, V_v17]
  generalize m ((c : Thread nD τ).loc main_arg4) = Z
  pointwise

theorem v20_read (c : Dev nD) (b : Fin 8) (g : Fin 2) (k : Fin 2304) (d : Fin 128) :
    (V m c main_v20 : Vec Ideal S8x2x2304x128 .bf16) (ix4 b g k d) =
      if h : k.val < 256 then (V m c main_v15 : Vec Ideal S8x2x256x128 .bf16) (ix4 b g ⟨k.val, h⟩ d)
      else (V m c main_v19 : Vec Ideal S8x2x2048x128 .bf16) (ix4 b g ⟨k.val - 256, by omega⟩ d) := by
  rw [V_v20]
  generalize V m c main_v15 = Z
  generalize V m c main_v19 = Z'
  pointwise

/-- The scale of the queries. -/
def scale : EReal := Ideal.div (Ideal.ofBits FTy.f32 0x3E000000#32) (Ideal.log (Ideal.ofBits FTy.f32 0x40000000#32))

/-- The queries' array. -/
def qArr (c : Dev nD) : FVec Ideal S8x8x2048x64 .f32 := m ((c : Thread nD τ).loc main_arg0)

theorem q_read (c : Dev nD) (b : Fin 8) (t : Fin 2048) (j : Fin 512) : (V m c main_v6 : Vec Ideal S8x2048x512 .bf16) (ix3 b t j)
    = qArr m c (ix4 b ⟨j.val / 64, by omega⟩ t ⟨j.val % 64, by omega⟩) * scale := by
  unfold scale qArr
  entry_read
  pointwise

theorem k_read (c : Dev nD) (b : Fin 8) (g : Fin 2) (d : Fin 64) (k : Fin 2304) : (V m c main_v11 : Vec Ideal S8x2x64x2304 .bf16) (ix4 b g d k)
    = if h : k.val < 256 then (m ((c : Thread nD τ).loc main_arg1) : Vec Ideal S8x2x256x64 .f32) (ix4 b g ⟨k.val, h⟩ d)
      else (m ((c : Thread nD τ).loc main_arg3) : Vec Ideal S8x2x2048x64 .f32) (ix4 b g ⟨k.val - 256, by omega⟩ d) := by
  entry_read
  pointwise
end Cert.AttnV

end
-- ==== Proof.AttnRead.lean ====
/- The attention reference, read one element at a time. -/
module

public import proofs.«01_k».proof.Proof.Gen.AttnRefIdeal.Read
public import Idealize.ShloMosaic.Lib.Pointwise

@[expose] public section

set_option maxRecDepth 16384

noncomputable section

namespace Cert.AttnV
open Idealize.ShloMosaic Idealize.ShloMosaic.TcCoe Idealize.SL.Sem Idealize.ShloMosaic.Pointwise
open Cert.AttnRefIdeal Cert.AttnRefIdeal.Read

variable (x0 : Vec Ideal S8x8x2048x64 .f32) (x1 x2 : Vec Ideal S8x2x256x64 .f32) (x3 x4 : Vec Ideal S8x2x2048x64 .f32)

theorem bot_eq : Ideal.ofBits FTy.f32 4286578688#32 = (⊥ : EReal) := by simp [Ideal.ofBits, Ideal.ieee]

theorem ref_out (b : Fin 8) (t : Fin 2048) (j : Fin 512) : val_main_v20 (F := Ideal) x0 x1 x2 x3 x4 (ix3 b t j)
    = val_main_v17 (F := Ideal) x0 x1 x2 x3 x4 (ix5 b ⟨j.val / 256, by omega⟩ ⟨j.val / 64 % 4, by omega⟩ t ⟨j.val % 64, by omega⟩) := by
  unfold val_main_v20 val_main_v19 val_main_v18
  generalize val_main_v17 (F := Ideal) x0 x1 x2 x3 x4 = Z
  pointwise

theorem ref_pv (b : Fin 8) (g : Fin 2) (h : Fin 4) (t : Fin 2048) (d : Fin 64) : val_main_v17 (F := Ideal) x0 x1 x2 x3 x4 (ix5 b g h t d)
    = ∑ k : Fin 2304, val_main_v16 (F := Ideal) x0 x1 x3 (ix5 b g h t k) * val_main_v1 (F := Ideal) x2 x4 (ix4 b g k d) := by
  unfold val_main_v17
  generalize val_main_v16 (F := Ideal) x0 x1 x3 = Z
  generalize val_main_v1 (F := Ideal) x2 x4 = Z2
  pointwise

theorem ref_weight (b : Fin 8) (g : Fin 2) (h : Fin 4) (t : Fin 2048) (k : Fin 2304) : val_main_v16 (F := Ideal) x0 x1 x3 (ix5 b g h t k)
    = Ideal.div (val_main_v12 (F := Ideal) x0 x1 x3 (ix5 b g h t k)) (∑ j, val_main_v12 (F := Ideal) x0 x1 x3 (ix5 b g h t j)) := by
  unfold val_main_v16 val_main_v15 val_main_v14 val_main_v13 val_main_cst_2
  generalize val_main_v12 (F := Ideal) x0 x1 x3 = Z
  pointwise

theorem ref_exp (b : Fin 8) (g : Fin 2) (h : Fin 4) (t : Fin 2048) (k : Fin 2304) : val_main_v12 (F := Ideal) x0 x1 x3 (ix5 b g h t k)
    = Ideal.exp (val_main_v5 (F := Ideal) x0 x1 x3 (ix5 b g h t k) - max ⊥ (val_main_v6 (F := Ideal) x0 x1 x3 (ix4 b g h t))) := by
  rw [val_main_v12_apply, val_main_v11_apply, val_main_v10_apply, val_main_v9_apply, val_main_v8_apply, val_main_v7_apply, val_main_cst_1_apply]
  rw [show idx_main_v9 (idx_main_v10 (ix5 b g h t k)) = ix4 b g h t by funext a; fin_cases a <;> rfl]
  generalize val_main_v5 (F := Ideal) x0 x1 x3 = Z
  generalize val_main_v6 (F := Ideal) x0 x1 x3 = Z1
  rw [show (FloatOps.ofBits FTy.f32 4286578688#32 : Ideal .f32) = (⊥ : EReal) from bot_eq]
  rfl

theorem ref_max (b : Fin 8) (g : Fin 2) (h : Fin 4) (t : Fin 2048) : val_main_v6 (F := Ideal) x0 x1 x3 (ix4 b g h t)
    = Finset.univ.fold max ⊥ fun k : Fin 2304 => val_main_v5 (F := Ideal) x0 x1 x3 (ix5 b g h t k) := by
  unfold val_main_v6 val_main_cst_0
  generalize val_main_v5 (F := Ideal) x0 x1 x3 = Z
  pointwise
  rw [bot_eq]

theorem ref_score (b : Fin 8) (g : Fin 2) (h : Fin 4) (t : Fin 2048) (k : Fin 2304) : val_main_v5 (F := Ideal) x0 x1 x3 (ix5 b g h t k)
    = (∑ e : Fin 64, x0 (ix4 b ⟨g.val * 4 + h.val, by omega⟩ t e) * val_main_v0 (F := Ideal) x1 x3 (ix4 b g k e)) * Ideal.ofBits FTy.f32 0x3E000000#32 := by
  unfold val_main_v5 val_main_v4 val_main_cst val_main_v3 val_main_v2
  generalize val_main_v0 (F := Ideal) x1 x3 = Z
  pointwise

theorem ref_keys (b : Fin 8) (g : Fin 2) (k : Fin 2304) (e : Fin 64) : val_main_v0 (F := Ideal) x1 x3 (ix4 b g k e)
    = if h : k.val < 256 then x1 (ix4 b g ⟨k.val, h⟩ e) else x3 (ix4 b g ⟨k.val - 256, by omega⟩ e) := by
  unfold val_main_v0
  pointwise

theorem ref_vals (b : Fin 8) (g : Fin 2) (k : Fin 2304) (e : Fin 64) : val_main_v1 (F := Ideal) x2 x4 (ix4 b g k e)
    = if h : k.val < 256 then x2 (ix4 b g ⟨k.val, h⟩ e) else x4 (ix4 b g ⟨k.val - 256, by omega⟩ e) := by
  unfold val_main_v1
  pointwise
end Cert.AttnV

end
-- ==== Proof.AttnMath.lean ====
/- The softmax identity: one row of the attention, written the kernel's way and the reference's way. -/
module

public import Idealize.ShloMosaic.PureOps.Ideal.Laws

@[expose] public section

set_option maxRecDepth 16384

noncomputable section

namespace Cert.AttnV
open Idealize.ShloMosaic

/-- A finite sum of reals, as extended reals. -/
theorem coe_sum {ι : Type} (s : Finset ι) (f : ι → ℝ) : (∑ i ∈ s, (f i : EReal)) = ((∑ i ∈ s, f i : ℝ) : EReal) := by
  classical
  induction s using Finset.induction_on with
  | empty => simp
  | insert a s h ih => rw [Finset.sum_insert h, Finset.sum_insert h, ih, EReal.coe_add]

/-- A nonnegative real factor distributes over any finite sum of extended reals. -/
theorem sum_mul_coe {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s h ih =>
    rw [Finset.sum_insert h, Finset.sum_insert h, ← ih, EReal.right_distrib_of_nonneg_of_ne_top (by exact_mod_cast hr) (EReal.coe_ne_top r)]

/-- The maximum of finitely many reals, from minus infinity, is the real one. -/
theorem fold_max_coe {n : ℕ} [NeZero n] (f : Fin n → ℝ) :
    Finset.univ.fold max ⊥ (fun k => (f k : EReal)) = ((Finset.univ.sup' Finset.univ_nonempty f : ℝ) : EReal) := by
  apply le_antisymm
  · rw [Finset.fold_max_le]
    exact ⟨bot_le, fun k hk => by exact_mod_cast Finset.le_sup' f hk⟩
  · rw [Finset.le_fold_max]
    obtain ⟨k, hk, h⟩ := Finset.exists_mem_eq_sup' Finset.univ_nonempty f
    exact Or.inr ⟨k, hk, by rw [h]⟩

/-- A positive factor passes through the maximum. -/
theorem sup'_mul {n : ℕ} [NeZero n] (f : Fin n → ℝ) (r : ℝ) (hr : 0 ≤ r) :
    Finset.univ.sup' Finset.univ_nonempty (fun k => f k * r) = Finset.univ.sup' Finset.univ_nonempty f * r := by
  apply le_antisymm
  · exact Finset.sup'_le _ _ fun k hk => mul_le_mul_of_nonneg_right (Finset.le_sup' f hk) hr
  · obtain ⟨k, hk, h⟩ := Finset.exists_mem_eq_sup' Finset.univ_nonempty f
    rw [h]
    exact Finset.le_sup' (fun k => f k * r) hk

theorem exp2_coe (r : ℝ) : Ideal.exp2 (r : EReal) = (Real.exp (Real.log 2 * r) : EReal) := by
  show ((Real.rpow 2 r : ℝ) : EReal) = _
  rw [show Real.rpow 2 r = (2 : ℝ) ^ r from rfl, Real.rpow_def_of_pos (by norm_num)]

theorem exp_coe (r : ℝ) : Ideal.exp (r : EReal) = (Real.exp r : EReal) := rfl

theorem scale_eq : Ideal.div (((1 / 8 : ℝ) : ℝ) : EReal) (Ideal.log ((2 : ℝ) : EReal)) = ((1 / 8 / Real.log 2 : ℝ) : EReal) := by
  have h : Real.log 2 ≠ 0 := (Real.log_pos (by norm_num)).ne'
  rw [show Ideal.log ((2 : ℝ) : EReal) = (Real.log 2 : EReal) by
    show (if (2 : ℝ) ≤ 0 then ⊥ else (Real.log 2 : EReal)) = _
    rw [if_neg (by norm_num)]]
  unfold Ideal.div
  rw [if_neg (by exact_mod_cast h), ← EReal.coe_inv, ← EReal.coe_mul]
  rfl

/-- The two ways of writing one element of the attention's result: softmax of the logits by powers of two, the values
    summed in two halves and divided once; and softmax by exponentials, each weight divided before the sum. -/
theorem softmax_eq (q : Fin 64 → EReal) (K : Fin 2304 → Fin 64 → EReal) (v : Fin 2304 → EReal)
    (hq : ∀ e, ∃ r : ℝ, q e = r) (hK : ∀ k e, ∃ r : ℝ, K k e = r) (p : Fin 2304 → EReal) (s : Fin 2304 → EReal)
    (hp : ∀ k, p k = Ideal.exp2 ((∑ e, (q e * Ideal.div (((1 / 8 : ℝ) : ℝ) : EReal) (Ideal.log ((2 : ℝ) : EReal))) * K k e)
      - Finset.univ.fold max ⊥ fun j => ∑ e, (q e * Ideal.div (((1 / 8 : ℝ) : ℝ) : EReal) (Ideal.log ((2 : ℝ) : EReal))) * K j e))
    (hs : ∀ k, s k = Ideal.exp ((∑ e, q e * K k e) * (((1 / 8 : ℝ) : ℝ) : EReal)
      - max ⊥ (Finset.univ.fold max ⊥ fun j => (∑ e, q e * K j e) * (((1 / 8 : ℝ) : ℝ) : EReal)))) :
    Ideal.div ((∑ k : Fin 1024, p ⟨k.val, by omega⟩ * v ⟨k.val, by omega⟩) + ∑ k : Fin 1280, p ⟨1024 + k.val, by omega⟩ * v ⟨1024 + k.val, by omega⟩)
        ((∑ k : Fin 1024, p ⟨k.val, by omega⟩ * 1) + ∑ k : Fin 1280, p ⟨1024 + k.val, by omega⟩ * 1)
      = ∑ k, Ideal.div (s k) (∑ j, s j) * v k := by
  choose q' hq using hq
  choose K' hK using hK
  set σ : Fin 2304 → ℝ := fun k => ∑ e, q' e * K' k e with hσ
  set M := Finset.univ.sup' Finset.univ_nonempty σ with hM
  set P : Fin 2304 → ℝ := fun k => Real.exp ((σ k - M) * (1 / 8)) with hP
  have hl : 0 < Real.log 2 := Real.log_pos (by norm_num)
  have e1 : ∀ k, (∑ e, (q e * Ideal.div (((1 / 8 : ℝ) : ℝ) : EReal) (Ideal.log ((2 : ℝ) : EReal))) * K k e)
      = ((σ k * (1 / 8 / Real.log 2) : ℝ) : EReal) := by
    intro k
    rw [scale_eq, hσ]
    dsimp only
    rw [Finset.sum_mul, ← coe_sum]
    refine Finset.sum_congr rfl fun e _ => ?_
    rw [hq, hK, ← EReal.coe_mul, ← EReal.coe_mul]
    congr 1
    ring
  have e2 : ∀ k, (∑ e, q e * K k e) * (((1 / 8 : ℝ) : ℝ) : EReal) = ((σ k * (1 / 8) : ℝ) : EReal) := by
    intro k
    rw [EReal.coe_mul, hσ]
    dsimp only
    rw [← coe_sum]
    congr 1
    refine Finset.sum_congr rfl fun e _ => ?_
    rw [hq, hK, ← EReal.coe_mul]
  have hp' : ∀ k, p k = (P k : EReal) := by
    intro k
    rw [hp, e1, funext e1, fold_max_coe, sup'_mul _ _ (by positivity), ← EReal.coe_sub, exp2_coe]
    congr 2
    field_simp
    rfl
  have hs' : ∀ k, s k = (P k : EReal) := by
    intro k
    rw [hs, e2, funext e2, fold_max_coe, sup'_mul _ _ (by positivity), max_eq_right bot_le, ← EReal.coe_sub, exp_coe]
    congr 2
    ring
  have split : ∀ f : Fin 2304 → EReal, (∑ k : Fin 1024, f ⟨k.val, by omega⟩) + ∑ k : Fin 1280, f ⟨1024 + k.val, by omega⟩ = ∑ k, f k := by
    intro f
    exact (Fin.sum_univ_add (M := EReal) (a := 1024) (b := 1280) f).symm
  rw [split fun k => p k * v k, split fun k => p k * 1]
  have hD : (∑ k, p k * 1) = ((∑ k, P k : ℝ) : EReal) := by
    rw [← coe_sum]
    exact Finset.sum_congr rfl fun k _ => by rw [mul_one, hp']
  have hD2 : (∑ k, s k) = ((∑ k, P k : ℝ) : EReal) := by
    rw [← coe_sum]
    exact Finset.sum_congr rfl fun k _ => hs' k
  have pos : 0 < ∑ k, P k := Finset.sum_pos (fun k _ => Real.exp_pos _) Finset.univ_nonempty
  have hdiv : ∀ x : EReal, Ideal.div x ((∑ k, P k : ℝ) : EReal) = x * (((∑ k, P k)⁻¹ : ℝ) : EReal) := by
    intro x
    unfold Ideal.div
    rw [if_neg (by exact_mod_cast pos.ne'), ← EReal.coe_inv]
  rw [hD, hD2, hdiv, sum_mul_coe _ _ _ (inv_nonneg.2 pos.le)]
  refine Finset.sum_congr rfl fun k _ => ?_
  rw [hdiv, hp', hs', mul_right_comm]

end Cert.AttnV

end
-- ==== Proof.AttnEq.lean ====
/- The attention kernel's result array is the reference's: its operands read as the arguments, its base-two softmax as
   the natural one. -/
module

public import proofs.«01_k».proof.Proof.AttnArray
public import proofs.«01_k».proof.Proof.AttnRead
public import proofs.«01_k».proof.Proof.AttnMath

@[expose] public section

set_option maxRecDepth 16384

noncomputable section

namespace Cert.AttnV
open Idealize.ShloMosaic Idealize.ShloMosaic.TcCoe Idealize.SL.Sem Idealize.ShloMosaic.Pointwise
open Cert.AttnIdeal Cert.AttnIdeal.Gen Cert.AttnRefIdeal.Read
variable (m : (ℓ : Loc nD τ sig) → Buf (Elt Ideal) ℓ)

/-- The reference's score scale, exactly. -/
theorem eighth_eq : Ideal.ofBits FTy.f32 0x3E000000#32 = ((1 / 8 : ℝ) : EReal) := by
  simp [Ideal.ofBits, Ideal.ieee]
  rw [← EReal.coe_mul]
  congr 1
  norm_num
theorem two_eq : Ideal.ofBits FTy.f32 0x40000000#32 = ((2 : ℝ) : EReal) := by
  simp [Ideal.ofBits, Ideal.ieee]
  rw [← EReal.coe_mul]
  congr 1
  norm_num

/-- The arguments of a memory, by name. -/
def kcArr (c : Dev nD) : FVec Ideal S8x2x256x64 .f32 := m ((c : Thread nD τ).loc main_arg1)
def vcArr (c : Dev nD) : FVec Ideal S8x2x256x64 .f32 := m ((c : Thread nD τ).loc main_arg2)
def kArr (c : Dev nD) : FVec Ideal S8x2x2048x64 .f32 := m ((c : Thread nD τ).loc main_arg3)
def vArr (c : Dev nD) : FVec Ideal S8x2x2048x64 .f32 := m ((c : Thread nD τ).loc main_arg4)

theorem k_eq (c : Dev nD) (b : Fin 8) (g : Fin 2) (d : Fin 64) (k : Fin 2304) : (V m c main_v11 : Vec Ideal S8x2x64x2304 .bf16) (ix4 b g d k)
    = val_main_v0 (F := Ideal) (kcArr m c) (kArr m c) (ix4 b g k d) := by
  rw [k_read, ref_keys]; rfl

theorem v_eq (c : Dev nD) (b : Fin 8) (g : Fin 2) (k : Fin 2304) (d : Fin 64) (d' : Fin 128) (hd : d'.val = d.val) :
    (V m c main_v20 : Vec Ideal S8x2x2304x128 .bf16) (ix4 b g k d') = val_main_v1 (F := Ideal) (vcArr m c) (vArr m c) (ix4 b g k d) := by
  rw [v20_read, ref_vals]
  split_ifs with h
  · exact v15_lt m c b g _ d d' hd
  · exact v19_lt m c b g _ d d' hd

theorem one_eq (c : Dev nD) (b : Fin 8) (g : Fin 2) (k : Fin 2304) :
    (V m c main_v20 : Vec Ideal S8x2x2304x128 .bf16) (ix4 b g k 64) = (1 : EReal) := by
  rw [v20_read]
  split_ifs with h
  · exact v15_one m c b g _
  · exact v19_one m c b g _

theorem G_eq (c : Dev nD) (hq : ∀ i, ∃ r : ℝ, qArr m c i = r) (hkc : ∀ i, ∃ r : ℝ, kcArr m c i = r) (hk : ∀ i, ∃ r : ℝ, kArr m c i = r)
    (b : Fin 8) (t : Fin 2048) (j : Fin 512) :
    G (V m c main_v6) (V m c main_v11) (V m c main_v20) b t j
      = val_main_v20 (F := Ideal) (qArr m c) (kcArr m c) (vcArr m c) (kArr m c) (vArr m c) (ix3 b t j) := by
  have hj := j.isLt
  rw [ref_out, ref_pv]
  set g : Fin 2 := ⟨j.val / 256, by omega⟩ with hg
  set h : Fin 4 := ⟨j.val / 64 % 4, by omega⟩ with hh
  set d : Fin 64 := ⟨j.val % 64, by omega⟩ with hd
  have hgh : (⟨g.val * 4 + h.val, by omega⟩ : Fin 8) = ⟨j.val / 64, by omega⟩ := Fin.ext (by simp [hg, hh]; omega)
  set q : Fin 64 → EReal := fun e => qArr m c (ix4 b ⟨j.val / 64, by omega⟩ t e) with hqd
  set K : Fin 2304 → Fin 64 → EReal := fun k e => val_main_v0 (F := Ideal) (kcArr m c) (kArr m c) (ix4 b g k e) with hKd
  have hK : ∀ k e, ∃ r : ℝ, K k e = r := by
    intro k e
    rw [hKd]
    dsimp only
    rw [ref_keys]
    split_ifs
    · exact hkc _
    · exact hk _
  have hqs : ∀ e : Fin 64, (V m c main_v6 : Vec Ideal S8x2048x512 .bf16) (ix3 b t ⟨j.val / 64 * 64 + e.val, by omega⟩) = q e * scale := by
    intro e
    rw [q_read]
    rw [show (⟨(j.val / 64 * 64 + e.val) / 64, by omega⟩ : Fin 8) = ⟨j.val / 64, by omega⟩ from Fin.ext (by dsimp only; omega),
      show (⟨(j.val / 64 * 64 + e.val) % 64, by omega⟩ : Fin 64) = e from Fin.ext (by dsimp only; omega)]
  have key := softmax_eq q K (fun k => val_main_v1 (F := Ideal) (vcArr m c) (vArr m c) (ix4 b g k d)) (fun e => hq _) hK _ _ (fun k => rfl) (fun k => rfl)
  have hs : ∀ k, val_main_v12 (F := Ideal) (qArr m c) (kcArr m c) (kArr m c) (ix5 b g h t k) = Ideal.exp ((∑ e, q e * K k e) * (((1 / 8 : ℝ) : ℝ) : EReal)
      - max ⊥ (Finset.univ.fold max ⊥ fun j => (∑ e, q e * K j e) * (((1 / 8 : ℝ) : ℝ) : EReal))) := by
    intro k
    rw [ref_exp, ref_max]
    simp only [ref_score, hgh, eighth_eq]
    rfl
  simp only [ref_weight, hs]
  refine Eq.trans ?_ key
  have hw : ∀ k, wt (fun e => (V m c main_v6 : Vec Ideal S8x2048x512 .bf16) (ix3 b t ⟨j.val / 64 * 64 + e.val, by omega⟩))
      (fun i => (V m c main_v11 : Vec Ideal S8x2x64x2304 .bf16) (ix4 b g (i 2) (i 3))) k
      = Ideal.exp2 ((∑ e, (q e * Ideal.div (((1 / 8 : ℝ) : ℝ) : EReal) (Ideal.log ((2 : ℝ) : EReal))) * K k e)
      - Finset.univ.fold max ⊥ fun j => ∑ e, (q e * Ideal.div (((1 / 8 : ℝ) : ℝ) : EReal) (Ideal.log ((2 : ℝ) : EReal))) * K j e) := by
    intro k
    have hsc : ∀ k, score (fun e => (V m c main_v6 : Vec Ideal S8x2048x512 .bf16) (ix3 b t ⟨j.val / 64 * 64 + e.val, by omega⟩))
      (fun i => (V m c main_v11 : Vec Ideal S8x2x64x2304 .bf16) (ix4 b g (i 2) (i 3))) k
      = ∑ e, (q e * Ideal.div (((1 / 8 : ℝ) : ℝ) : EReal) (Ideal.log ((2 : ℝ) : EReal))) * K k e := by
      intro k
      unfold score
      refine Finset.sum_congr rfl fun e _ => ?_
      refine congrArg₂ _ ((hqs e).trans ?_) (k_eq m c b g e k)
      rw [scale, eighth_eq, two_eq]
    unfold wt
    rw [hsc, funext hsc]
  unfold G attnOut acc
  refine congrArg₂ _ (congrArg₂ _ (Finset.sum_congr rfl fun k _ => ?_) (Finset.sum_congr rfl fun k _ => ?_))
    (congrArg₂ _ (Finset.sum_congr rfl fun k _ => ?_) (Finset.sum_congr rfl fun k _ => ?_))
  · exact congrArg₂ _ (hw _) (v_eq m c b g _ d _ rfl)
  · exact congrArg₂ _ (hw _) (v_eq m c b g _ d _ rfl)
  · exact congrArg₂ _ (hw _) (one_eq m c b g _)
  · exact congrArg₂ _ (hw _) (one_eq m c b g _)
/-- The result array of the attention call, as the reference's term of the arguments. -/
theorem attn_eq (c : Dev nD) (hq : ∀ i, ∃ r : ℝ, qArr m c i = r) (hkc : ∀ i, ∃ r : ℝ, kcArr m c i = r) (hk : ∀ i, ∃ r : ℝ, kArr m c i = r) :
    (dats m 0 c).arrAt 3 cfg0.N = val_main_v20 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  rw [final m c]
  funext i
  obtain ⟨b, t, j, rfl⟩ : ∃ (b : Fin 8) (t : Fin 2048) (j : Fin 512), i = ix3 b t j :=
    ⟨i 0, i 1, i 2, by funext a; fin_cases a <;> rfl⟩
  exact G_eq m c hq hkc hk b t j

end Cert.AttnV

end
-- ==== Proof.AttnFinite.lean ====
/- What the attention claim's precondition says: every query and key is a real number. -/
module

public import proofs.«01_k».proof.Proof.AttnEq
public import proofs.«01_k».proof.Defs
public import Idealize.ShloMosaic.Lib.ReduceAll

@[expose] public section

set_option maxRecDepth 16384

noncomputable section

namespace Cert.AttnV
open Idealize.ShloMosaic Idealize.ShloMosaic.TcCoe Idealize.SL.Sem
open Cert.AttnIdeal Cert.AttnIdeal.Gen

/-- The shape facts the precondition's operations take. -/
theorem facts_pre : Cert.Pre_finite.Facts where
  bcast_S_S8x8x2048x64 := by decide
  reducesTo_S8x8x2048x64_S_d0_1_2_3 := by decide
  h_S_ := by decide
  bcast_S_S8x2x256x64 := by decide
  reducesTo_S8x2x256x64_S_d0_1_2_3 := by decide
  bcast_S_S8x2x2048x64 := by decide
  reducesTo_S8x2x2048x64_S_d0_1_2_3 := by decide

theorem top_eq : Ideal.ofBits FTy.f32 0x7F800000#32 = (⊤ : EReal) := by
  simp [Ideal.ofBits, Ideal.ieee]

/-- A value whose magnitude is below infinity is a real number. -/
theorem real_of_abs (x : EReal) (h : Ideal.cmp .olt (max x (-x)) ⊤ = 1#1) : ∃ r : ℝ, x = r := by
  induction x using EReal.rec with
  | bot => simp [Ideal.cmp] at h
  | top => simp [Ideal.cmp] at h
  | coe r => exact ⟨r, rfl⟩

theorem and_one (a b : BitVec 1) (h : IntOp.andi a b = 1#1) : a = 1#1 ∧ b = 1#1 := by
  revert a b; decide

theorem real_of_pre (m : (ℓ : Loc nD τ sig) → Buf (Elt Ideal) ℓ) (hp : Cert.Pre_AttnIdeal_finite (hPre_finite := facts_pre) m) (c : Dev nD) :
    (∀ i, ∃ r : ℝ, qArr m c i = r) ∧ (∀ i, ∃ r : ℝ, kcArr m c i = r) ∧ (∀ i, ∃ r : ℝ, kArr m c i = r) := by
  have h := congrFun (hp c) (fun d => d.elim0)
  dsimp only [Cert.Pre_finite.fn] at h
  obtain ⟨h, hk⟩ := and_one _ _ h
  obtain ⟨hq, hkc⟩ := and_one _ _ h
  haveI : Subsingleton (Cert.Pre_finite.S_).Idx := ⟨fun a b => funext fun d => d.elim0⟩
  have eq := Host.reduce_andi_all _ _ _ _ _ hq
  have ekc := Host.reduce_andi_all _ _ _ _ _ hkc
  have ek := Host.reduce_andi_all _ _ _ _ _ hk
  refine ⟨fun i => real_of_abs _ ?_, fun i => real_of_abs _ ?_, fun i => real_of_abs _ ?_⟩
  · rw [← top_eq]; exact eq i
  · rw [← top_eq]; exact ekc i
  · rw [← top_eq]; exact ek i

end Cert.AttnV

end
-- ==== Proof.FfnBlock.lean ====
/- The feed-forward kernel's output block, element by element, from the point's blocks of rows, weights and modulation. -/
module

public import proofs.«01_k».proof.Proof.Gen.FfnIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.FfnV
open Idealize.ShloMosaic Idealize.ShloMosaic.TcCoe Idealize.SL.Sem Idealize.ShloMosaic.Pointwise
open Idealize.ShloMosaic.Pipeline (Dat)
open Cert.FfnIdeal Cert.FfnIdeal.Gen
variable (m : (ℓ : Loc nD τ sig) → Buf (Elt Ideal) ℓ)

/-- The activations of one block of 256 columns, the value's columns and the gate's. -/
def cols (H : Vec Ideal S544x1024 .bf16) (V W : Vec Ideal S1x1024x256 .bf16) (c d : Vec Ideal S3x256 .f32) (b e : Vec Ideal S1x256 .f32) :
    Vec Ideal S512x256 .bf16 :=
  k0_pay12 (F := Ideal) (k0_pay10 (k0_pay9 c) (k0_pay7 H V) b) (k0_pay11 d (k0_pay8 H W)) e

/- Every other block of columns is the same function of its operands. -/
theorem cols1 (H : Vec Ideal S544x1024 .bf16) (V W : Vec Ideal S1x1024x256 .bf16) (c d : Vec Ideal S3x256 .f32) (b e : Vec Ideal S1x256 .f32) :
    k0_pay18 (F := Ideal) (k0_pay17 (k0_pay15 c) (k0_pay16 (k0_pay13 H V)) (1#32) b d (k0_pay14 H W) e) = cols H V W c d b e := rfl
theorem cols2 (H : Vec Ideal S544x1024 .bf16) (V W : Vec Ideal S1x1024x256 .bf16) (c d : Vec Ideal S3x256 .f32) (b e : Vec Ideal S1x256 .f32) :
    k0_pay26 (F := Ideal) (k0_pay21 c) (k0_pay22 (k0_pay19 H V)) (k0_pay23 (k0_pay19 H V)) (k0_pay24 (k0_pay19 H V)) (k0_pay25 c) b d (k0_pay20 H W) e = cols H V W c d b e := rfl
theorem cols3 (H : Vec Ideal S544x1024 .bf16) (V W : Vec Ideal S1x1024x256 .bf16) (c d : Vec Ideal S3x256 .f32) (b e : Vec Ideal S1x256 .f32) :
    k0_pay34 (F := Ideal) (k0_pay29 c) (k0_pay31 (k0_pay27 H V)) (k0_pay32 c (k0_pay27 H V)) (k0_pay33 c (k0_pay27 H V)) b d (k0_pay28 H W) e = cols H V W c d b e := rfl
theorem cols4 (H : Vec Ideal S544x1024 .bf16) (V W : Vec Ideal S1x1024x256 .bf16) (c d : Vec Ideal S3x256 .f32) (b e : Vec Ideal S1x256 .f32) :
    k0_pay38 (F := Ideal) (k0_pay37 c (k0_pay35 H V)) b d (k0_pay36 H W) e = cols H V W c d b e := rfl
theorem cols5 (H : Vec Ideal S544x1024 .bf16) (V W : Vec Ideal S1x1024x256 .bf16) (c d : Vec Ideal S3x256 .f32) (b e : Vec Ideal S1x256 .f32) :
    k0_pay43 (F := Ideal) (k0_pay42 c (k0_pay40 (k0_pay39 H V)) b) d (k0_pay41 H W) e = cols H V W c d b e := rfl
theorem cols6 (H : Vec Ideal S544x1024 .bf16) (V W : Vec Ideal S1x1024x256 .bf16) (c d : Vec Ideal S3x256 .f32) (b e : Vec Ideal S1x256 .f32) :
    k0_pay48 (F := Ideal) (k0_pay46 c (k0_pay44 H V) b) (k0_pay47 d) (k0_pay45 H W) e = cols H V W c d b e := rfl
theorem cols7 (H : Vec Ideal S544x1024 .bf16) (V W : Vec Ideal S1x1024x256 .bf16) (c d : Vec Ideal S3x256 .f32) (b e : Vec Ideal S1x256 .f32) :
    k0_pay55 (F := Ideal) (k0_pay51 c (k0_pay49 H V) b) (k0_pay52 d) (k0_pay53 (k0_pay50 H W)) (k0_pay54 (k0_pay50 H W)) e = cols H V W c d b e := rfl
theorem cols8 (H : Vec Ideal S544x1024 .bf16) (V W : Vec Ideal S1x1024x256 .bf16) (c d : Vec Ideal S3x256 .f32) (b e : Vec Ideal S1x256 .f32) :
    k0_pay64 (F := Ideal) (k0_pay59 c (k0_pay56 H V) b) (k0_pay60 d) (k0_pay61 (k0_pay58 (k0_pay57 H W))) (k0_pay62 (k0_pay58 (k0_pay57 H W))) (k0_pay63 d (k0_pay58 (k0_pay57 H W))) e = cols H V W c d b e := rfl
theorem cols9 (H : Vec Ideal S544x1024 .bf16) (V W : Vec Ideal S1x1024x256 .bf16) (c d : Vec Ideal S3x256 .f32) (b e : Vec Ideal S1x256 .f32) :
    k0_pay73 (F := Ideal) (k0_pay67 c (k0_pay65 H V) b) (k0_pay70 (k0_pay66 H W)) (k0_pay71 d (k0_pay66 H W)) (k0_pay72 d) e = cols H V W c d b e := rfl
theorem cols10 (H : Vec Ideal S544x1024 .bf16) (V W : Vec Ideal S1x1024x256 .bf16) (c d : Vec Ideal S3x256 .f32) (b e : Vec Ideal S1x256 .f32) :
    k0_pay79 (F := Ideal) (k0_pay77 (k0_pay76 c) (k0_pay74 H V) b) (k0_pay78 d (k0_pay75 H W)) e = cols H V W c d b e := rfl
theorem cols0 (H : Vec Ideal S544x1024 .bf16) (V W : Vec Ideal S1x1024x256 .bf16) (c d : Vec Ideal S3x256 .f32) (b e : Vec Ideal S1x256 .f32) :
    k0_pay12 (F := Ideal) (k0_pay10 (k0_pay9 c) (k0_pay7 H V) b) (k0_pay11 d (k0_pay8 H W)) e = cols H V W c d b e := rfl

/-- One up-projected element of one row. -/
def up (H : Fin 1024 → EReal) (W : Fin 1024 → EReal) : EReal := ∑ e : Fin 1024, H e * W e

/-- Three taps and a bias. -/
def taps (u v w c0 c1 c2 b : EReal) : EReal := u * c0 + v * c1 + w * c2 + b

/-- The gated activation. -/
def gate (a g : EReal) : EReal := a * (g * Ideal.logistic g)

theorem gate_apply (A : FVec Ideal S512x256 .f32) (B : FVec Ideal S512x256 .f32) (e : Vec Ideal S1x256 .f32) (r : Fin 512) (j : Fin 256) :
    k0_pay12 (F := Ideal) A B e (ix2 r j) = gate (A (ix2 r j)) (B (ix2 r j) + e (ix2 0 j)) := by
  unfold gate
  pointwise [k0_pay12]

theorem up_apply (H : Vec Ideal S544x1024 .bf16) (V : Vec Ideal S1x1024x256 .bf16) (ρ : Fin 544) (j : Fin 256) :
    k0_pay7 (F := Ideal) H V (ix4 0 0 ρ j) = up (fun e => H (ix2 ρ e)) (fun e => V (ix3 0 e j)) := by
  unfold up
  pointwise [k0_pay7]
theorem up8 (H : Vec Ideal S544x1024 .bf16) (V : Vec Ideal S1x1024x256 .bf16) : k0_pay8 (F := Ideal) H V = k0_pay7 (F := Ideal) H V := rfl

theorem conv_apply (U : Vec Ideal S1x1x544x256 .f32) (c : Vec Ideal S3x256 .f32) (b : Vec Ideal S1x256 .f32) (r : Fin 512) (j : Fin 256) :
    k0_pay10 (F := Ideal) (k0_pay9 c) U b (ix2 r j) = taps (U (ix4 0 0 ⟨15 + r.val, by omega⟩ j)) (U (ix4 0 0 ⟨16 + r.val, by omega⟩ j)) (U (ix4 0 0 ⟨17 + r.val, by omega⟩ j))
      (c (ix2 0 j)) (c (ix2 1 j)) (c (ix2 2 j)) (b (ix2 0 j)) := by
  unfold taps
  pointwise [k0_pay10, k0_pay9]
  rw [show (⟨(16 + r.val + 544 - 1) % 544, by omega⟩ : Fin 544) = ⟨15 + r.val, by omega⟩ from Fin.ext (by dsimp only; omega),
    show (⟨(16 + r.val + 544 - 543) % 544, by omega⟩ : Fin 544) = ⟨17 + r.val, by omega⟩ from Fin.ext (by dsimp only; omega)]
theorem conv11 (U : Vec Ideal S1x1x544x256 .f32) (c : Vec Ideal S3x256 .f32) (b : Vec Ideal S1x256 .f32) (r : Fin 512) (j : Fin 256) :
    k0_pay11 (F := Ideal) c U (ix2 r j) + b (ix2 0 j) = k0_pay10 (F := Ideal) (k0_pay9 c) U b (ix2 r j) := by
  pointwise [k0_pay10, k0_pay9, k0_pay11]

/-- The layer norm of one row. -/
def norm (v g b : Fin 1024 → EReal) (e : Fin 1024) : EReal :=
  (v e - Ideal.div (∑ d : Fin 1024, v d) (Ideal.ofBits .f32 0x44800000#32))
    * Ideal.rsqrt (Ideal.div (∑ d : Fin 1024, (v d - Ideal.div (∑ d : Fin 1024, v d) (Ideal.ofBits .f32 0x44800000#32)) * (v d - Ideal.div (∑ d : Fin 1024, v d) (Ideal.ofBits .f32 0x44800000#32))) (Ideal.ofBits .f32 0x44800000#32) + Ideal.ofBits .f32 0x358637BD#32)
    * g e + b e

theorem norm_apply (A : FVec Ideal S256x1024 .f32) (B : FVec Ideal S1x1024 .f32) (Y : Vec Ideal S256x1024 .f32) (lg lb : Vec Ideal S1x1024 .f32) (r : Fin 256) (e : Fin 1024) :
    k0_pay84 (F := Ideal) A B Y lg lb (ix3 0 r e) = norm (fun e => A (ix2 r e) + B (ix2 0 e) * Y (ix2 r e)) (fun e => lg (ix2 0 e)) (fun e => lb (ix2 0 e)) e := by
  unfold norm
  pointwise [k0_pay84]

theorem res_apply (X : Vec Ideal S1x256x1024 .f32) (r : Fin 256) (e : Fin 1024) :
    k0_pay82 (F := Ideal) X (ix2 r e) = Ideal.ofBits .f32 0x3FB504F3#32 * X (ix3 0 r e) := by
  pointwise [k0_pay82]
theorem g_apply (X : Vec Ideal S1x1x1024 .f32) (e : Fin 1024) :
    k0_pay83 (F := Ideal) X (ix2 0 e) = X (ix3 0 0 e) := by
  pointwise [k0_pay83]
theorem down_apply (A : Vec Ideal S256x2816 .bf16) (W : Vec Ideal S1x2816x1024 .bf16) (r : Fin 256) (e : Fin 1024) :
    k0_pay80 (F := Ideal) A W (ix2 r e) = ∑ n : Fin 2816, A (ix2 r n) * W (ix3 0 n e) := by
  pointwise [k0_pay80]
theorem down81 (A : Vec Ideal S256x2816 .bf16) (W : Vec Ideal S1x2816x1024 .bf16) : k0_pay81 (F := Ideal) A W = k0_pay80 (F := Ideal) A W := rfl
theorem norm87 (X : Vec Ideal S1x256x1024 .f32) (B : Vec Ideal S1x1x1024 .f32) (Y : Vec Ideal S256x1024 .f32) (lg lb : Vec Ideal S1x1024 .f32) :
    k0_pay1 (F := Ideal) (k0_pay87 (k0_pay85 X) (k0_pay86 B) Y lg lb) = k0_pay84 (F := Ideal) (k0_pay82 X) (k0_pay83 B) Y lg lb := rfl

/-- A row's modulation. -/
def modu (x sc sh : EReal) : EReal := x * (1 + sc) + sh

theorem mod4 (i : grid0.Coords) (sc sh : Vec Ideal S1x1x1024 .f32) (x : Vec Ideal S1x16x1024 .f32) (r : Fin 16) (e : Fin 1024) :
    k0_pay4 (F := Ideal) i sc sh x (ix2 r e) = if 0 < (i 1).val then modu (x (ix3 0 r e)) (sc (ix3 0 0 e)) (sh (ix3 0 0 e)) else 0 := by
  unfold modu
  pointwise [k0_pay4, k0_pay2, k0_pay3]
  generalize x (ix3 0 r e) * (1 + sc (ix3 0 0 e)) + sh (ix3 0 0 e) = z
  have h : ∀ k : Fin 4, Scalar.select (Scalar.cmpi CmpIPredicate.sgt (BitVec.ofNat 32 k.val) 0#32) z 0 = if 0 < k.val then z else 0 := by
    intro k
    fin_cases k <;> rfl
  exact h (i 1)
theorem mod5 (sc sh : Vec Ideal S1x1x1024 .f32) (x : Vec Ideal S1x512x1024 .f32) (r : Fin 512) (e : Fin 1024) :
    k0_pay5 (F := Ideal) sc sh x (ix2 r e) = modu (x (ix3 0 r e)) (sc (ix3 0 0 e)) (sh (ix3 0 0 e)) := by
  unfold modu
  pointwise [k0_pay5, k0_pay2, k0_pay3]
theorem mod6 (i : grid0.Coords) (sc sh : Vec Ideal S1x1x1024 .f32) (x : Vec Ideal S1x16x1024 .f32) (r : Fin 16) (e : Fin 1024) :
    k0_pay6 (F := Ideal) (k0_pay2 sc) (k0_pay3 sh) (Scalar.cmpi CmpIPredicate.slt (BitVec.ofNat 32 (i 1).val) 3#32) x (ix2 r e) = if (i 1).val < 3 then modu (x (ix3 0 r e)) (sc (ix3 0 0 e)) (sh (ix3 0 0 e)) else 0 := by
  unfold modu
  pointwise [k0_pay6, k0_pay2, k0_pay3]
  generalize x (ix3 0 r e) * (1 + sc (ix3 0 0 e)) + sh (ix3 0 0 e) = z
  have h : ∀ k : Fin 4, Scalar.select (Scalar.cmpi CmpIPredicate.slt (BitVec.ofNat 32 k.val) 3#32) z 0 = if k.val < 3 then z else 0 := by
    intro k
    fin_cases k <;> rfl
  exact h (i 1)

/-- A row of the rows' buffer: the tile before it, the tile, the tile after it; nothing outside the sequence. -/
def rowAt (i : grid0.Coords) (x : Vec Ideal S1x512x1024 .f32) (xp xn : Vec Ideal S1x16x1024 .f32) (sh sc : Vec Ideal S1x1x1024 .f32)
    (ρ : Fin 544) (e : Fin 1024) : EReal :=
  if h : 528 ≤ ρ.val then if (i 1).val < 3 then modu (xn (ix3 0 ⟨ρ.val - 528, by omega⟩ e)) (sc (ix3 0 0 e)) (sh (ix3 0 0 e)) else 0
  else if h' : 16 ≤ ρ.val then modu (x (ix3 0 ⟨ρ.val - 16, by omega⟩ e)) (sc (ix3 0 0 e)) (sh (ix3 0 0 e))
  else if 0 < (i 1).val then modu (xp (ix3 0 ⟨ρ.val, by omega⟩ e)) (sc (ix3 0 0 e)) (sh (ix3 0 0 e)) else 0

/-- The last piece holds an index of its rows and columns. -/
theorem canon_hit {M N R C o p : ℕ} {e : EltTy} (inb : ∀ a, ![o, p] a + ![R, C] a ≤ (⟨2, ![M, N]⟩ : Shape).size a)
    (w : (Rect.unit (s := ⟨2, ![M, N]⟩) ![o, p] ![R, C] inb).shape.Idx → Elt Ideal e) (L : List (View.Piece (Elt Ideal) ⟨2, ![M, N]⟩ e))
    (r : Fin M) (n : Fin N) (r' : Fin R) (n' : Fin C) (hr : r.val = o + r'.val) (hn : n.val = p + n'.val) :
    View.canon (⟨Rect.unit (s := ⟨2, ![M, N]⟩) ![o, p] ![R, C] inb, w⟩ :: L) (ix2 r n) = w (ix2 r' n') := by
  have h : (ix2 r n : (⟨2, ![M, N]⟩ : Shape).Idx) = (Rect.unit (s := ⟨2, ![M, N]⟩) ![o, p] ![R, C] inb).emb (ix2 r' n') := by
    funext a
    fin_cases a <;> apply Fin.ext
    · show r.val = o + 1 * r'.val; omega
    · show n.val = p + 1 * n'.val; omega
  rw [h, View.canon_cons_emb]
/-- The last piece does not hold an index outside them. -/
theorem canon_miss {M N R C o p : ℕ} {e : EltTy} (inb : ∀ a, ![o, p] a + ![R, C] a ≤ (⟨2, ![M, N]⟩ : Shape).size a)
    (w : (Rect.unit (s := ⟨2, ![M, N]⟩) ![o, p] ![R, C] inb).shape.Idx → Elt Ideal e) (L : List (View.Piece (Elt Ideal) ⟨2, ![M, N]⟩ e))
    (r : Fin M) (n : Fin N) (h : r.val < o ∨ n.val < p) :
    View.canon (⟨Rect.unit (s := ⟨2, ![M, N]⟩) ![o, p] ![R, C] inb, w⟩ :: L) (ix2 r n) = View.canon L (ix2 r n) := by
  refine View.canon_cons_of_not_mem _ _ fun hm => ?_
  obtain ⟨z, hz⟩ := LoadRect.exists_idx_of_mem _ hm
  have h0 := congrArg Fin.val (congrFun hz 0)
  have h1 := congrArg Fin.val (congrFun hz 1)
  have h0' : o + 1 * (z 0).val = r.val := h0
  have h1' : p + 1 * (z 1).val = n.val := h1
  omega

theorem h_canon (i : grid0.Coords) (x : Vec Ideal S1x512x1024 .f32) (xp xn : Vec Ideal S1x16x1024 .f32) (sh sc : Vec Ideal S1x1x1024 .f32) (ρ : Fin 544) (e : Fin 1024) :
    View.canon ([⟨Rect.unit ![528, 0] ![16, 1024] inb_S544x1024_S16x1024_528_0, k0_pay6 (F := Ideal) (k0_pay2 sc) (k0_pay3 sh) (Scalar.cmpi CmpIPredicate.slt (BitVec.ofNat 32 (i 1).val) 3#32) xn⟩,
      ⟨Rect.unit ![16, 0] ![512, 1024] inb_S544x1024_S512x1024_16_0, k0_pay5 (F := Ideal) sc sh x⟩,
      ⟨Rect.unit ![0, 0] ![16, 1024] inb_S544x1024_S16x1024_0_0, k0_pay4 (F := Ideal) i sc sh xp⟩] : List (View.Piece (Elt Ideal) S544x1024 .bf16)) (ix2 ρ e) = rowAt i x xp xn sh sc ρ e := by
  unfold rowAt
  by_cases h : 528 ≤ ρ.val
  · rw [dif_pos h, canon_hit _ _ _ _ _ ⟨ρ.val - 528, by omega⟩ e (by dsimp only; omega) (by omega)]
    exact mod6 _ _ _ _ _ _
  rw [dif_neg h, canon_miss _ _ _ _ _ (Or.inl (by omega))]
  by_cases h' : 16 ≤ ρ.val
  · rw [dif_pos h', canon_hit _ _ _ _ _ ⟨ρ.val - 16, by omega⟩ e (by dsimp only; omega) (by omega)]
    exact mod5 _ _ _ _ _
  rw [dif_neg h', canon_miss _ _ _ _ _ (Or.inl (by omega)), canon_hit _ _ _ _ _ ⟨ρ.val, by omega⟩ e (by dsimp only; omega) (by omega)]
  exact mod4 _ _ _ _ _ _

/-- The rows as an array. -/
def rowsOf (H : Fin 544 → Fin 1024 → EReal) : Vec Ideal S544x1024 .bf16 := fun j => H (j 0) (j 1)
/-- 256 rows of the activations as an array. -/
def actRows (G : Fin 512 → Fin 2816 → EReal) (o : ℕ) (ho : o ≤ 256) : Vec Ideal S256x2816 .bf16 := fun j =>
  G ⟨o + (j 0).val, by have h : (j 0).val < 256 := (j 0).isLt; omega⟩ (j 1)

/-- The load of the whole rows' buffer. -/
theorem h_read {κ : Kind} {sp : Space} (v : View sig κ sp S544x1024 .bf16) (i : grid0.Coords) (x : Vec Ideal S1x512x1024 .f32) (xp xn : Vec Ideal S1x16x1024 .f32) (sh sc : Vec Ideal S1x1x1024 .f32) :
    v.readCov (Val := Elt Ideal) [⟨Rect.unit ![528, 0] ![16, 1024] inb_S544x1024_S16x1024_528_0, k0_pay6 (F := Ideal) (k0_pay2 sc) (k0_pay3 sh) (Scalar.cmpi CmpIPredicate.slt (BitVec.ofNat 32 (i 1).val) 3#32) xn⟩,
      ⟨Rect.unit ![16, 0] ![512, 1024] inb_S544x1024_S512x1024_16_0, k0_pay5 (F := Ideal) sc sh x⟩,
      ⟨Rect.unit ![0, 0] ![16, 1024] inb_S544x1024_S16x1024_0_0, k0_pay4 (F := Ideal) i sc sh xp⟩]
      (Rect.unit ![0, 0] ![544, 1024] inb_S544x1024_S544x1024_0_0).toLoadRect
      = rowsOf (rowAt i x xp xn sh sc) := by
  rw [View.readCov_eq_canon']
  funext j
  have hj : (Rect.unit (s := S544x1024) ![0, 0] ![544, 1024] inb_S544x1024_S544x1024_0_0).toLoadRect.idx j = ix2 (j 0) (j 1) := by
    funext a
    fin_cases a <;> apply Fin.ext
    · show 0 + 1 * (j 0).val = (j 0).val; omega
    · show 0 + 1 * (j 1).val = (j 1).val; omega
  exact (congrArg (View.canon (Val := Elt Ideal) (e := .bf16) _) hj).trans (h_canon i x xp xn sh sc (j 0) (j 1))

theorem act_canon (G : Fin 512 → Fin 2816 → EReal) (w0 w1 w2 w3 w4 w5 w6 w7 w8 w9 w10 : Vec Ideal S512x256 .bf16)
    (h0 : ∀ (r : Fin 512) (n : Fin 256), w0 (ix2 r n) = G r ⟨0 + n.val, by omega⟩)
    (h1 : ∀ (r : Fin 512) (n : Fin 256), w1 (ix2 r n) = G r ⟨256 + n.val, by omega⟩)
    (h2 : ∀ (r : Fin 512) (n : Fin 256), w2 (ix2 r n) = G r ⟨512 + n.val, by omega⟩)
    (h3 : ∀ (r : Fin 512) (n : Fin 256), w3 (ix2 r n) = G r ⟨768 + n.val, by omega⟩)
    (h4 : ∀ (r : Fin 512) (n : Fin 256), w4 (ix2 r n) = G r ⟨1024 + n.val, by omega⟩)
    (h5 : ∀ (r : Fin 512) (n : Fin 256), w5 (ix2 r n) = G r ⟨1280 + n.val, by omega⟩)
    (h6 : ∀ (r : Fin 512) (n : Fin 256), w6 (ix2 r n) = G r ⟨1536 + n.val, by omega⟩)
    (h7 : ∀ (r : Fin 512) (n : Fin 256), w7 (ix2 r n) = G r ⟨1792 + n.val, by omega⟩)
    (h8 : ∀ (r : Fin 512) (n : Fin 256), w8 (ix2 r n) = G r ⟨2048 + n.val, by omega⟩)
    (h9 : ∀ (r : Fin 512) (n : Fin 256), w9 (ix2 r n) = G r ⟨2304 + n.val, by omega⟩)
    (h10 : ∀ (r : Fin 512) (n : Fin 256), w10 (ix2 r n) = G r ⟨2560 + n.val, by omega⟩)
    (r : Fin 512) (n : Fin 2816) :
    View.canon ([⟨Rect.unit ![0, 2560] ![512, 256] inb_S512x2816_S512x256_0_2560, w10⟩,
      ⟨Rect.unit ![0, 2304] ![512, 256] inb_S512x2816_S512x256_0_2304, w9⟩,
      ⟨Rect.unit ![0, 2048] ![512, 256] inb_S512x2816_S512x256_0_2048, w8⟩,
      ⟨Rect.unit ![0, 1792] ![512, 256] inb_S512x2816_S512x256_0_1792, w7⟩,
      ⟨Rect.unit ![0, 1536] ![512, 256] inb_S512x2816_S512x256_0_1536, w6⟩,
      ⟨Rect.unit ![0, 1280] ![512, 256] inb_S512x2816_S512x256_0_1280, w5⟩,
      ⟨Rect.unit ![0, 1024] ![512, 256] inb_S512x2816_S512x256_0_1024, w4⟩,
      ⟨Rect.unit ![0, 768] ![512, 256] inb_S512x2816_S512x256_0_768, w3⟩,
      ⟨Rect.unit ![0, 512] ![512, 256] inb_S512x2816_S512x256_0_512, w2⟩,
      ⟨Rect.unit ![0, 256] ![512, 256] inb_S512x2816_S512x256_0_256, w1⟩,
      ⟨Rect.unit ![0, 0] ![512, 256] inb_S512x2816_S512x256_0_0, w0⟩] : List (View.Piece (Elt Ideal) S512x2816 .bf16)) (ix2 r n) = G r n := by
  by_cases k10 : 2560 ≤ n.val
  · rw [canon_hit _ _ _ _ _ r ⟨n.val - 2560, by omega⟩ (by omega) (by dsimp only; omega), h10]
    exact congrArg _ (Fin.ext (by dsimp only; omega))
  rw [canon_miss _ _ _ _ _ (Or.inr (by omega))]
  by_cases k9 : 2304 ≤ n.val
  · rw [canon_hit _ _ _ _ _ r ⟨n.val - 2304, by omega⟩ (by omega) (by dsimp only; omega), h9]
    exact congrArg _ (Fin.ext (by dsimp only; omega))
  rw [canon_miss _ _ _ _ _ (Or.inr (by omega))]
  by_cases k8 : 2048 ≤ n.val
  · rw [canon_hit _ _ _ _ _ r ⟨n.val - 2048, by omega⟩ (by omega) (by dsimp only; omega), h8]
    exact congrArg _ (Fin.ext (by dsimp only; omega))
  rw [canon_miss _ _ _ _ _ (Or.inr (by omega))]
  by_cases k7 : 1792 ≤ n.val
  · rw [canon_hit _ _ _ _ _ r ⟨n.val - 1792, by omega⟩ (by omega) (by dsimp only; omega), h7]
    exact congrArg _ (Fin.ext (by dsimp only; omega))
  rw [canon_miss _ _ _ _ _ (Or.inr (by omega))]
  by_cases k6 : 1536 ≤ n.val
  · rw [canon_hit _ _ _ _ _ r ⟨n.val - 1536, by omega⟩ (by omega) (by dsimp only; omega), h6]
    exact congrArg _ (Fin.ext (by dsimp only; omega))
  rw [canon_miss _ _ _ _ _ (Or.inr (by omega))]
  by_cases k5 : 1280 ≤ n.val
  · rw [canon_hit _ _ _ _ _ r ⟨n.val - 1280, by omega⟩ (by omega) (by dsimp only; omega), h5]
    exact congrArg _ (Fin.ext (by dsimp only; omega))
  rw [canon_miss _ _ _ _ _ (Or.inr (by omega))]
  by_cases k4 : 1024 ≤ n.val
  · rw [canon_hit _ _ _ _ _ r ⟨n.val - 1024, by omega⟩ (by omega) (by dsimp only; omega), h4]
    exact congrArg _ (Fin.ext (by dsimp only; omega))
  rw [canon_miss _ _ _ _ _ (Or.inr (by omega))]
  by_cases k3 : 768 ≤ n.val
  · rw [canon_hit _ _ _ _ _ r ⟨n.val - 768, by omega⟩ (by omega) (by dsimp only; omega), h3]
    exact congrArg _ (Fin.ext (by dsimp only; omega))
  rw [canon_miss _ _ _ _ _ (Or.inr (by omega))]
  by_cases k2 : 512 ≤ n.val
  · rw [canon_hit _ _ _ _ _ r ⟨n.val - 512, by omega⟩ (by omega) (by dsimp only; omega), h2]
    exact congrArg _ (Fin.ext (by dsimp only; omega))
  rw [canon_miss _ _ _ _ _ (Or.inr (by omega))]
  by_cases k1 : 256 ≤ n.val
  · rw [canon_hit _ _ _ _ _ r ⟨n.val - 256, by omega⟩ (by omega) (by dsimp only; omega), h1]
    exact congrArg _ (Fin.ext (by dsimp only; omega))
  rw [canon_miss _ _ _ _ _ (Or.inr (by omega))]
  rw [canon_hit _ _ _ _ _ r ⟨n.val, by omega⟩ (by omega) (by dsimp only; omega), h0]
  exact congrArg _ (Fin.ext (by dsimp only; omega))

/-- A load of 256 rows reads, column block by column block, the one function the blocks are values of. -/
theorem act_read {κ : Kind} {sp : Space} (v : View sig κ sp S512x2816 .bf16) (G : Fin 512 → Fin 2816 → EReal) (w0 w1 w2 w3 w4 w5 w6 w7 w8 w9 w10 : Vec Ideal S512x256 .bf16)
    (h0 : ∀ (r : Fin 512) (n : Fin 256), w0 (ix2 r n) = G r ⟨0 + n.val, by omega⟩)
    (h1 : ∀ (r : Fin 512) (n : Fin 256), w1 (ix2 r n) = G r ⟨256 + n.val, by omega⟩)
    (h2 : ∀ (r : Fin 512) (n : Fin 256), w2 (ix2 r n) = G r ⟨512 + n.val, by omega⟩)
    (h3 : ∀ (r : Fin 512) (n : Fin 256), w3 (ix2 r n) = G r ⟨768 + n.val, by omega⟩)
    (h4 : ∀ (r : Fin 512) (n : Fin 256), w4 (ix2 r n) = G r ⟨1024 + n.val, by omega⟩)
    (h5 : ∀ (r : Fin 512) (n : Fin 256), w5 (ix2 r n) = G r ⟨1280 + n.val, by omega⟩)
    (h6 : ∀ (r : Fin 512) (n : Fin 256), w6 (ix2 r n) = G r ⟨1536 + n.val, by omega⟩)
    (h7 : ∀ (r : Fin 512) (n : Fin 256), w7 (ix2 r n) = G r ⟨1792 + n.val, by omega⟩)
    (h8 : ∀ (r : Fin 512) (n : Fin 256), w8 (ix2 r n) = G r ⟨2048 + n.val, by omega⟩)
    (h9 : ∀ (r : Fin 512) (n : Fin 256), w9 (ix2 r n) = G r ⟨2304 + n.val, by omega⟩)
    (h10 : ∀ (r : Fin 512) (n : Fin 256), w10 (ix2 r n) = G r ⟨2560 + n.val, by omega⟩)
    (o : ℕ) (ho : o ≤ 256) (inb : ∀ a, ![o, 0] a + ![256, 2816] a ≤ S512x2816.size a) :
    v.readCov (Val := Elt Ideal) [⟨Rect.unit ![0, 2560] ![512, 256] inb_S512x2816_S512x256_0_2560, w10⟩,
      ⟨Rect.unit ![0, 2304] ![512, 256] inb_S512x2816_S512x256_0_2304, w9⟩,
      ⟨Rect.unit ![0, 2048] ![512, 256] inb_S512x2816_S512x256_0_2048, w8⟩,
      ⟨Rect.unit ![0, 1792] ![512, 256] inb_S512x2816_S512x256_0_1792, w7⟩,
      ⟨Rect.unit ![0, 1536] ![512, 256] inb_S512x2816_S512x256_0_1536, w6⟩,
      ⟨Rect.unit ![0, 1280] ![512, 256] inb_S512x2816_S512x256_0_1280, w5⟩,
      ⟨Rect.unit ![0, 1024] ![512, 256] inb_S512x2816_S512x256_0_1024, w4⟩,
      ⟨Rect.unit ![0, 768] ![512, 256] inb_S512x2816_S512x256_0_768, w3⟩,
      ⟨Rect.unit ![0, 512] ![512, 256] inb_S512x2816_S512x256_0_512, w2⟩,
      ⟨Rect.unit ![0, 256] ![512, 256] inb_S512x2816_S512x256_0_256, w1⟩,
      ⟨Rect.unit ![0, 0] ![512, 256] inb_S512x2816_S512x256_0_0, w0⟩]
      (Rect.unit (s := S512x2816) ![o, 0] ![256, 2816] inb).toLoadRect
      = actRows G o ho := by
  rw [View.readCov_eq_canon']
  funext j
  have hj0 : (j 0).val < 256 := (j 0).isLt
  have hj : (Rect.unit (s := S512x2816) ![o, 0] ![256, 2816] inb).toLoadRect.idx j = ix2 ⟨o + (j 0).val, by omega⟩ (j 1) := by
    funext a
    fin_cases a <;> apply Fin.ext
    · show o + 1 * (j 0).val = o + (j 0).val; omega
    · show 0 + 1 * (j 1).val = (j 1).val; omega
  exact (congrArg (View.canon (Val := Elt Ideal) (e := .bf16) _) hj).trans
    (act_canon G w0 w1 w2 w3 w4 w5 w6 w7 w8 w9 w10 h0 h1 h2 h3 h4 h5 h6 h7 h8 h9 h10 ⟨o + (j 0).val, by omega⟩ (j 1))

/-- The activation at a row and a column of the tile, from the rows' buffer. -/
def act (H : Fin 544 → Fin 1024 → EReal) (wup : Vec Ideal S1x1024x5632 .bf16) (cw : Vec Ideal S3x5632 .f32) (cb : Vec Ideal S1x5632 .f32)
    (r : Fin 512) (n : Fin 2816) : EReal :=
  gate (taps (up (H ⟨15 + r.val, by omega⟩) fun e => wup (ix3 0 e ⟨n.val, by omega⟩)) (up (H ⟨16 + r.val, by omega⟩) fun e => wup (ix3 0 e ⟨n.val, by omega⟩))
      (up (H ⟨17 + r.val, by omega⟩) fun e => wup (ix3 0 e ⟨n.val, by omega⟩))
      (cw (ix2 0 ⟨n.val, by omega⟩)) (cw (ix2 1 ⟨n.val, by omega⟩)) (cw (ix2 2 ⟨n.val, by omega⟩)) (cb (ix2 0 ⟨n.val, by omega⟩)))
    (taps (up (H ⟨15 + r.val, by omega⟩) fun e => wup (ix3 0 e ⟨2816 + n.val, by omega⟩)) (up (H ⟨16 + r.val, by omega⟩) fun e => wup (ix3 0 e ⟨2816 + n.val, by omega⟩))
      (up (H ⟨17 + r.val, by omega⟩) fun e => wup (ix3 0 e ⟨2816 + n.val, by omega⟩))
      (cw (ix2 0 ⟨2816 + n.val, by omega⟩)) (cw (ix2 1 ⟨2816 + n.val, by omega⟩)) (cw (ix2 2 ⟨2816 + n.val, by omega⟩)) (cb (ix2 0 ⟨2816 + n.val, by omega⟩)))

theorem cols_apply (H : Vec Ideal S544x1024 .bf16) (V W : Vec Ideal S1x1024x256 .bf16) (c d : Vec Ideal S3x256 .f32) (b e : Vec Ideal S1x256 .f32)
    (r : Fin 512) (j : Fin 256) :
    cols H V W c d b e (ix2 r j) =
      gate (taps (up (fun e => H (ix2 ⟨15 + r.val, by omega⟩ e)) fun e => V (ix3 0 e j)) (up (fun e => H (ix2 ⟨16 + r.val, by omega⟩ e)) fun e => V (ix3 0 e j))
      (up (fun e => H (ix2 ⟨17 + r.val, by omega⟩ e)) fun e => V (ix3 0 e j)) (c (ix2 0 j)) (c (ix2 1 j)) (c (ix2 2 j)) (b (ix2 0 j)))
    (taps (up (fun e => H (ix2 ⟨15 + r.val, by omega⟩ e)) fun e => W (ix3 0 e j)) (up (fun e => H (ix2 ⟨16 + r.val, by omega⟩ e)) fun e => W (ix3 0 e j))
      (up (fun e => H (ix2 ⟨17 + r.val, by omega⟩ e)) fun e => W (ix3 0 e j)) (d (ix2 0 j)) (d (ix2 1 j)) (d (ix2 2 j)) (e (ix2 0 j))) := by
  unfold cols
  rw [gate_apply, conv11, conv_apply, conv_apply, up8, up_apply, up_apply, up_apply, up_apply, up_apply, up_apply]

/-- One block of columns, its operands loaded from the whole weights at its place. -/
theorem cols_ld (H : Fin 544 → Fin 1024 → EReal) (wup : Vec Ideal S1x1024x5632 .bf16) (cw : Vec Ideal S3x5632 .f32) (cb : Vec Ideal S1x5632 .f32) (o p : ℕ)
    (i1 : ∀ a, ![0, 0, o] a + ![1, 1024, 256] a ≤ S1x1024x5632.size a) (i2 : ∀ a, ![0, 0, p] a + ![1, 1024, 256] a ≤ S1x1024x5632.size a)
    (i3 : ∀ a, ![0, o] a + ![3, 256] a ≤ S3x5632.size a) (i4 : ∀ a, ![0, p] a + ![3, 256] a ≤ S3x5632.size a)
    (i5 : ∀ a, ![0, o] a + ![1, 256] a ≤ S1x5632.size a) (i6 : ∀ a, ![0, p] a + ![1, 256] a ≤ S1x5632.size a)
    (ho : o + 256 ≤ 2816) (hp : p = 2816 + o) (r : Fin 512) (n : Fin 256) :
    cols (rowsOf H) (View.ld (Val := Elt Ideal) (e' := .bf16) wup (Rect.unit (s := S1x1024x5632) ![0, 0, o] ![1, 1024, 256] i1))
      (View.ld (Val := Elt Ideal) (e' := .bf16) wup (Rect.unit (s := S1x1024x5632) ![0, 0, p] ![1, 1024, 256] i2))
      (View.ld (Val := Elt Ideal) (e' := .f32) cw (Rect.unit (s := S3x5632) ![0, o] ![3, 256] i3))
      (View.ld (Val := Elt Ideal) (e' := .f32) cw (Rect.unit (s := S3x5632) ![0, p] ![3, 256] i4))
      (View.ld (Val := Elt Ideal) (e' := .f32) cb (Rect.unit (s := S1x5632) ![0, o] ![1, 256] i5))
      (View.ld (Val := Elt Ideal) (e' := .f32) cb (Rect.unit (s := S1x5632) ![0, p] ![1, 256] i6)) (ix2 r n)
      = act H wup cw cb r ⟨o + n.val, by omega⟩ := by
  subst hp
  have hw : ∀ (q : ℕ) (i : ∀ a, ![0, 0, q] a + ![1, 1024, 256] a ≤ S1x1024x5632.size a) (e : Fin 1024) (k : Fin 5632), k.val = q + n.val →
      View.ld (Val := Elt Ideal) (e' := .bf16) wup (Rect.unit (s := S1x1024x5632) ![0, 0, q] ![1, 1024, 256] i) (ix3 0 e n) = wup (ix3 0 e k) := by
    intro q i e k hk
    refine congrArg wup (funext fun a => ?_)
    fin_cases a <;> apply Fin.ext <;> simp [hk]
  have hc : ∀ (q : ℕ) (i : ∀ a, ![0, q] a + ![3, 256] a ≤ S3x5632.size a) (z : Fin 3) (k : Fin 5632), k.val = q + n.val →
      View.ld (Val := Elt Ideal) (e' := .f32) cw (Rect.unit (s := S3x5632) ![0, q] ![3, 256] i) (ix2 z n) = cw (ix2 z k) := by
    intro q i z k hk
    refine congrArg cw (funext fun a => ?_)
    fin_cases a <;> apply Fin.ext <;> simp [hk]
  have hb : ∀ (q : ℕ) (i : ∀ a, ![0, q] a + ![1, 256] a ≤ S1x5632.size a) (k : Fin 5632), k.val = q + n.val →
      View.ld (Val := Elt Ideal) (e' := .f32) cb (Rect.unit (s := S1x5632) ![0, q] ![1, 256] i) (ix2 0 n) = cb (ix2 0 k) := by
    intro q i k hk
    refine congrArg cb (funext fun a => ?_)
    fin_cases a <;> apply Fin.ext <;> simp [hk]
  rw [cols_apply]
  unfold act
  have hk1 : (⟨o + n.val, by omega⟩ : Fin 5632).val = o + n.val := rfl
  have hk2 : (⟨2816 + (o + n.val), by omega⟩ : Fin 5632).val = 2816 + o + n.val := by dsimp only; omega
  simp only [hw o i1 _ _ hk1, hw _ i2 _ _ hk2, hc o i3 _ _ hk1, hc _ i4 _ _ hk2, hb o i5 _ hk1, hb _ i6 _ hk2]
  rfl

/-- One element of the output block. -/
def outRow (H : Fin 544 → Fin 1024 → EReal) (x : Vec Ideal S1x512x1024 .f32) (g2 : Vec Ideal S1x1x1024 .f32) (wup : Vec Ideal S1x1024x5632 .bf16) (cw : Vec Ideal S3x5632 .f32)
    (cb : Vec Ideal S1x5632 .f32) (wdn : Vec Ideal S1x2816x1024 .bf16) (lg lb : Vec Ideal S1x1024 .f32) (r : Fin 512) (e : Fin 1024) : EReal :=
  norm (fun e => Ideal.ofBits .f32 0x3FB504F3#32 * x (ix3 0 r e) + g2 (ix3 0 0 e) * ∑ n : Fin 2816, act H wup cw cb r n * wdn (ix3 0 n e))
    (fun e => lg (ix2 0 e)) (fun e => lb (ix2 0 e)) e

/-- A half's rows, from the activations' rows it reads. -/
theorem half (H : Fin 544 → Fin 1024 → EReal) (x : Vec Ideal S1x512x1024 .f32) (g2 : Vec Ideal S1x1x1024 .f32) (wup : Vec Ideal S1x1024x5632 .bf16) (cw : Vec Ideal S3x5632 .f32)
    (cb : Vec Ideal S1x5632 .f32) (wdn : Vec Ideal S1x2816x1024 .bf16) (lg lb : Vec Ideal S1x1024 .f32) (o : ℕ) (ho : o ≤ 256)
    (i : ∀ a, ![0, o, 0] a + ![1, 256, 1024] a ≤ S1x512x1024.size a) (R : Vec Ideal S256x2816 .bf16) (hR : R = actRows (act H wup cw cb) o ho)
    (r : Fin 256) (e : Fin 1024) :
    k0_pay84 (F := Ideal) (k0_pay82 (View.ld (Val := Elt Ideal) (e' := .f32) x (Rect.unit (s := S1x512x1024) ![0, o, 0] ![1, 256, 1024] i))) (k0_pay83 g2)
      (k0_pay80 R wdn) lg lb (ix3 0 r e)
      = outRow H x g2 wup cw cb wdn lg lb ⟨o + r.val, by omega⟩ e := by
  subst hR
  rw [norm_apply]
  unfold outRow
  refine congrArg (fun v => norm v _ _ e) (funext fun d => ?_)
  rw [res_apply, g_apply, down_apply]
  refine congrArg₂ (· + ·) (congrArg (_ * ·) (congrArg x (funext fun a => ?_))) rfl
  fin_cases a <;> apply Fin.ext <;> simp

theorem out_hit {o : ℕ} (inb : ∀ a, ![0, o, 0] a + ![1, 256, 1024] a ≤ S1x512x1024.size a)
    (w : (Rect.unit (s := S1x512x1024) ![0, o, 0] ![1, 256, 1024] inb).shape.Idx → Elt Ideal .f32) (L : List (View.Piece (Elt Ideal) S1x512x1024 .f32))
    (y0 : Fin 1) (r : Fin 512) (e : Fin 1024) (r' : Fin 256) (hr : r.val = o + r'.val) :
    View.canon (⟨Rect.unit (s := S1x512x1024) ![0, o, 0] ![1, 256, 1024] inb, w⟩ :: L) (ix3 y0 r e) = w (ix3 0 r' e) := by
  have h : (ix3 y0 r e : S1x512x1024.Idx) = (Rect.unit (s := S1x512x1024) ![0, o, 0] ![1, 256, 1024] inb).emb (ix3 0 r' e) := by
    funext a
    fin_cases a <;> apply Fin.ext
    · show y0.val = 0 + 1 * 0; omega
    · show r.val = o + 1 * r'.val; omega
    · show e.val = 0 + 1 * e.val; omega
  rw [h, View.canon_cons_emb]
theorem out_miss {o : ℕ} (inb : ∀ a, ![0, o, 0] a + ![1, 256, 1024] a ≤ S1x512x1024.size a)
    (w : (Rect.unit (s := S1x512x1024) ![0, o, 0] ![1, 256, 1024] inb).shape.Idx → Elt Ideal .f32) (L : List (View.Piece (Elt Ideal) S1x512x1024 .f32))
    (y0 : Fin 1) (r : Fin 512) (e : Fin 1024) (hr : r.val < o) :
    View.canon (⟨Rect.unit (s := S1x512x1024) ![0, o, 0] ![1, 256, 1024] inb, w⟩ :: L) (ix3 y0 r e) = View.canon L (ix3 y0 r e) := by
  refine View.canon_cons_of_not_mem _ _ fun hm => ?_
  obtain ⟨z, hz⟩ := LoadRect.exists_idx_of_mem _ hm
  have h1 : o + 1 * (z 1).val = r.val := congrArg Fin.val (congrFun hz 1)
  omega

/-- One point of the grid: the output block at an index, from the point's input blocks. -/
theorem out_apply (c : Dev nD) (t : Fin cfg0.N) (x : Vec Ideal S1x512x1024 .f32) (xp xn : Vec Ideal S1x16x1024 .f32) (sh sc g2 : Vec Ideal S1x1x1024 .f32)
    (wup : Vec Ideal S1x1024x5632 .bf16) (cw : Vec Ideal S3x5632 .f32) (cb : Vec Ideal S1x5632 .f32) (wdn : Vec Ideal S1x2816x1024 .bf16) (lg lb : Vec Ideal S1x1024 .f32)
    (y0 : Fin 1) (y1 : Fin 512) (y2 : Fin 1024) (y : S1x512x1024.Idx) (hy : y = ix3 y0 y1 y2) :
    out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) x xp xn sh sc g2 wup cw cb wdn lg lb y
      = outRow (rowAt (grid0.coords t) x xp xn sh sc) x g2 wup cw cb wdn lg lb y1 y2 := by
  frame_open
  simp (disch := decide) only [↓ View.readCov_skip, ↓ View.readCov_cons_toLoadRect, ↓ View.readCov_fill]
  frame_out
  generalize hA : outRow _ _ _ _ _ _ _ _ _ _ _ = A
  simp only [cols0, cols1, cols2, cols3, cols4, cols5, cols6, cols7, cols8, cols9, cols10, norm87, down81]
  rw [h_read]
  subst hA
  generalize rowAt (grid0.coords t) x xp xn sh sc = H
  subst hy
  by_cases hr : 256 ≤ y1.val
  · rw [out_hit _ _ _ _ _ _ ⟨y1.val - 256, by omega⟩ (by dsimp only; omega)]
    refine (half H x g2 wup cw cb wdn lg lb 256 (by omega) _ _ (act_read _ (act H wup cw cb) _ _ _ _ _ _ _ _ _ _ _ (fun r n => cols_ld H wup cw cb 0 2816 _ _ _ _ _ _ (by omega) rfl r n) (fun r n => cols_ld H wup cw cb 256 3072 _ _ _ _ _ _ (by omega) rfl r n) (fun r n => cols_ld H wup cw cb 512 3328 _ _ _ _ _ _ (by omega) rfl r n) (fun r n => cols_ld H wup cw cb 768 3584 _ _ _ _ _ _ (by omega) rfl r n) (fun r n => cols_ld H wup cw cb 1024 3840 _ _ _ _ _ _ (by omega) rfl r n) (fun r n => cols_ld H wup cw cb 1280 4096 _ _ _ _ _ _ (by omega) rfl r n) (fun r n => cols_ld H wup cw cb 1536 4352 _ _ _ _ _ _ (by omega) rfl r n) (fun r n => cols_ld H wup cw cb 1792 4608 _ _ _ _ _ _ (by omega) rfl r n) (fun r n => cols_ld H wup cw cb 2048 4864 _ _ _ _ _ _ (by omega) rfl r n) (fun r n => cols_ld H wup cw cb 2304 5120 _ _ _ _ _ _ (by omega) rfl r n) (fun r n => cols_ld H wup cw cb 2560 5376 _ _ _ _ _ _ (by omega) rfl r n) 256 (by omega) _) ⟨y1.val - 256, by omega⟩ y2).trans ?_
    exact congrArg (fun r => outRow H x g2 wup cw cb wdn lg lb r y2) (Fin.ext (by dsimp only; omega))
  · rw [out_miss _ _ _ _ _ _ (by omega), out_hit _ _ _ _ _ _ ⟨y1.val, by omega⟩ (by dsimp only; omega)]
    refine (half H x g2 wup cw cb wdn lg lb 0 (by omega) _ _ (act_read _ (act H wup cw cb) _ _ _ _ _ _ _ _ _ _ _ (fun r n => cols_ld H wup cw cb 0 2816 _ _ _ _ _ _ (by omega) rfl r n) (fun r n => cols_ld H wup cw cb 256 3072 _ _ _ _ _ _ (by omega) rfl r n) (fun r n => cols_ld H wup cw cb 512 3328 _ _ _ _ _ _ (by omega) rfl r n) (fun r n => cols_ld H wup cw cb 768 3584 _ _ _ _ _ _ (by omega) rfl r n) (fun r n => cols_ld H wup cw cb 1024 3840 _ _ _ _ _ _ (by omega) rfl r n) (fun r n => cols_ld H wup cw cb 1280 4096 _ _ _ _ _ _ (by omega) rfl r n) (fun r n => cols_ld H wup cw cb 1536 4352 _ _ _ _ _ _ (by omega) rfl r n) (fun r n => cols_ld H wup cw cb 1792 4608 _ _ _ _ _ _ (by omega) rfl r n) (fun r n => cols_ld H wup cw cb 2048 4864 _ _ _ _ _ _ (by omega) rfl r n) (fun r n => cols_ld H wup cw cb 2304 5120 _ _ _ _ _ _ (by omega) rfl r n) (fun r n => cols_ld H wup cw cb 2560 5376 _ _ _ _ _ _ (by omega) rfl r n) 0 (by omega) _) ⟨y1.val, by omega⟩ y2).trans ?_
    exact congrArg (fun r => outRow H x g2 wup cw cb wdn lg lb r y2) (Fin.ext (by dsimp only; omega))

/-- The activation of one row at one column, from the rows before it, at it and after it. -/
def actOf (h0 h1 h2 : Fin 1024 → EReal) (wu : Fin 1024 → Fin 5632 → EReal) (cw : Fin 3 → Fin 5632 → EReal) (cb : Fin 5632 → EReal) (n : Fin 2816) : EReal :=
  gate (taps (up h0 fun e => wu e ⟨n.val, by omega⟩) (up h1 fun e => wu e ⟨n.val, by omega⟩) (up h2 fun e => wu e ⟨n.val, by omega⟩)
      (cw 0 ⟨n.val, by omega⟩) (cw 1 ⟨n.val, by omega⟩) (cw 2 ⟨n.val, by omega⟩) (cb ⟨n.val, by omega⟩))
    (taps (up h0 fun e => wu e ⟨2816 + n.val, by omega⟩) (up h1 fun e => wu e ⟨2816 + n.val, by omega⟩) (up h2 fun e => wu e ⟨2816 + n.val, by omega⟩)
      (cw 0 ⟨2816 + n.val, by omega⟩) (cw 1 ⟨2816 + n.val, by omega⟩) (cw 2 ⟨2816 + n.val, by omega⟩) (cb ⟨2816 + n.val, by omega⟩))

/-- One row of the result, from the three modulated rows, the row itself, the gate's row and the weights. -/
def outOf (h0 h1 h2 x g : Fin 1024 → EReal) (wu : Fin 1024 → Fin 5632 → EReal) (cw : Fin 3 → Fin 5632 → EReal) (cb : Fin 5632 → EReal)
    (wd : Fin 2816 → Fin 1024 → EReal) (lg lb : Fin 1024 → EReal) (e : Fin 1024) : EReal :=
  norm (fun e => Ideal.ofBits .f32 0x3FB504F3#32 * x e + g e * ∑ n : Fin 2816, actOf h0 h1 h2 wu cw cb n * wd n e) lg lb e

theorem outRow_eq (H : Fin 544 → Fin 1024 → EReal) (x : Vec Ideal S1x512x1024 .f32) (g2 : Vec Ideal S1x1x1024 .f32) (wup : Vec Ideal S1x1024x5632 .bf16) (cw : Vec Ideal S3x5632 .f32)
    (cb : Vec Ideal S1x5632 .f32) (wdn : Vec Ideal S1x2816x1024 .bf16) (lg lb : Vec Ideal S1x1024 .f32) (r : Fin 512) (e : Fin 1024) :
    outRow H x g2 wup cw cb wdn lg lb r e = outOf (H ⟨15 + r.val, by omega⟩) (H ⟨16 + r.val, by omega⟩) (H ⟨17 + r.val, by omega⟩) (fun e => x (ix3 0 r e)) (fun e => g2 (ix3 0 0 e))
      (fun e k => wup (ix3 0 e k)) (fun z k => cw (ix2 z k)) (fun k => cb (ix2 0 k)) (fun n e => wdn (ix3 0 n e)) (fun e => lg (ix2 0 e)) (fun e => lb (ix2 0 e)) e := rfl
end Cert.FfnV

end
-- ==== Proof.FfnArray.lean ====
/- The feed-forward kernel's result array from the arrays it is launched on, and those arrays from the arguments. -/
module

public import proofs.«01_k».proof.Proof.FfnBlock

@[expose] public section

set_option maxRecDepth 16384

noncomputable section

namespace Cert.FfnV
open Idealize.ShloMosaic Idealize.ShloMosaic.TcCoe Idealize.SL.Sem
open Idealize.ShloMosaic.Pipeline (Dat)
open Cert.FfnIdeal Cert.FfnIdeal.Gen Idealize.ShloMosaic.Pointwise
variable (m : (ℓ : Loc nD τ sig) → Buf (Elt Ideal) ℓ)

theorem idx : ∀ t : Fin cfg0.N, win0_0.index t = ![(grid0.coords t 0).val, (grid0.coords t 1).val, 0]
    ∧ win0_1.index t = ![(grid0.coords t 0).val, (grid0.coords t 1).val * 32 - 1, 0]
    ∧ win0_2.index t = ![(grid0.coords t 0).val, min ((grid0.coords t 1).val * 32 + 32) 127, 0]
    ∧ win0_3.index t = ![16 + (grid0.coords t 0).val, 0, 3]
    ∧ win0_4.index t = ![16 + (grid0.coords t 0).val, 0, 4]
    ∧ win0_5.index t = ![16 + (grid0.coords t 0).val, 0, 5]
    ∧ win0_6.index t = ![1, 0, 0]
    ∧ win0_7.index t = ![0, 0]
    ∧ win0_8.index t = ![0, 0]
    ∧ win0_9.index t = ![1, 0, 0]
    ∧ win0_10.index t = ![0, 0]
    ∧ win0_11.index t = ![0, 0]
    ∧ win0_12.index t = ![(grid0.coords t 0).val, (grid0.coords t 1).val, 0] :=
  (by decide +kernel : ∀ t : Fin grid0.N, _)

theorem mod_read (c : Dev nD) (b : Fin 32) (j : Fin 6144) : (V m c main_v0 : Vec Ideal S32x1x6144 .f32) (ix3 b 0 j)
    = (m ((c : Thread nD τ).loc main_arg1) : Vec Ideal S2x16x6144 .f32) (ix3 ⟨b.val / 16, by omega⟩ ⟨b.val % 16, by omega⟩ j) := by
  entry_read
  pointwise
theorem wup_read (c : Dev nD) (l : Fin 2) (e : Fin 1024) (k : Fin 5632) : (V m c main_v1 : Vec Ideal S2x1024x5632 .bf16) (ix3 l e k)
    = (m ((c : Thread nD τ).loc main_arg2) : Vec Ideal S2x1024x5632 .f32) (ix3 l e k) := by
  entry_read
  pointwise
theorem wdn_read (c : Dev nD) (l : Fin 2) (n : Fin 2816) (e : Fin 1024) : (V m c main_v2 : Vec Ideal S2x2816x1024 .bf16) (ix3 l n e)
    = (m ((c : Thread nD τ).loc main_arg5) : Vec Ideal S2x2816x1024 .f32) (ix3 l n e) := by
  entry_read
  pointwise
theorem lg_read (c : Dev nD) (e : Fin 1024) : (V m c main_v5 : Vec Ideal S1x1024 .f32) (ix2 0 e)
    = (m ((c : Thread nD τ).loc main_arg6) : Vec Ideal S2x1024 .f32) (ix2 1 e) := by
  entry_read
  pointwise
theorem lb_read (c : Dev nD) (e : Fin 1024) : (V m c main_v8 : Vec Ideal S1x1024 .f32) (ix2 0 e)
    = (m ((c : Thread nD τ).loc main_arg7) : Vec Ideal S2x1024 .f32) (ix2 1 e) := by
  entry_read
  pointwise
theorem cw_read (c : Dev nD) (z : Fin 3) (k : Fin 5632) : (V m c main_v10 : Vec Ideal S3x5632 .f32) (ix2 z k)
    = (m ((c : Thread nD τ).loc main_arg3) : Vec Ideal S2x3x5632 .f32) (ix3 1 z k) := by
  entry_read
  pointwise
theorem cb_read (c : Dev nD) (k : Fin 5632) : (V m c main_v13 : Vec Ideal S1x5632 .f32) (ix2 0 k)
    = (m ((c : Thread nD τ).loc main_arg4) : Vec Ideal S2x5632 .f32) (ix2 1 k) := by
  entry_read
  pointwise
theorem x_read (c : Dev nD) : V m c main_arg0 = m ((c : Thread nD τ).loc main_arg0) := V_main_arg0 m c

/-- The modulated rows with one row of zeros at each end, from the arrays the call is launched on. -/
def padRow (X : Vec Ideal S8x2048x1024 .f32) (M : Vec Ideal S32x1x6144 .f32) (b : Fin 8) (p : ℕ) (e : Fin 1024) : EReal :=
  if h : 1 ≤ p ∧ p < 2049 then modu (X (ix3 b ⟨p - 1, by omega⟩ e)) (M (ix3 ⟨16 + b.val, by omega⟩ 0 ⟨4096 + e.val, by omega⟩)) (M (ix3 ⟨16 + b.val, by omega⟩ 0 ⟨3072 + e.val, by omega⟩)) else 0

/-- One element of the result. -/
def G (X : Vec Ideal S8x2048x1024 .f32) (M : Vec Ideal S32x1x6144 .f32) (wup : Vec Ideal S2x1024x5632 .bf16) (cw : Vec Ideal S3x5632 .f32) (cb : Vec Ideal S1x5632 .f32)
    (wdn : Vec Ideal S2x2816x1024 .bf16) (lg lb : Vec Ideal S1x1024 .f32) (b : Fin 8) (t : Fin 2048) (e : Fin 1024) : EReal :=
  outOf (padRow X M b t.val) (padRow X M b (1 + t.val)) (padRow X M b (2 + t.val)) (fun e => X (ix3 b t e)) (fun e => M (ix3 ⟨16 + b.val, by omega⟩ 0 ⟨5120 + e.val, by omega⟩))
    (fun e k => wup (ix3 1 e k)) (fun z k => cw (ix2 z k)) (fun k => cb (ix2 0 k)) (fun n e => wdn (ix3 1 n e)) (fun e => lg (ix2 0 e)) (fun e => lb (ix2 0 e)) e

theorem outOf_congr {h0 h1 h2 x g h0' h1' h2' x' g' : Fin 1024 → EReal} {wu wu' : Fin 1024 → Fin 5632 → EReal} {cw cw' : Fin 3 → Fin 5632 → EReal} {cb cb' : Fin 5632 → EReal}
    {wd wd' : Fin 2816 → Fin 1024 → EReal} {lg lb lg' lb' : Fin 1024 → EReal} {e e' : Fin 1024}
    (a0 : ∀ e, h0 e = h0' e) (a1 : ∀ e, h1 e = h1' e) (a2 : ∀ e, h2 e = h2' e) (a3 : ∀ e, x e = x' e) (a4 : ∀ e, g e = g' e) (a5 : ∀ e k, wu e k = wu' e k)
    (a6 : ∀ z k, cw z k = cw' z k) (a7 : ∀ k, cb k = cb' k) (a8 : ∀ n e, wd n e = wd' n e) (a9 : ∀ e, lg e = lg' e) (a10 : ∀ e, lb e = lb' e) (a11 : e.val = e'.val) :
    outOf h0 h1 h2 x g wu cw cb wd lg lb e = outOf h0' h1' h2' x' g' wu' cw' cb' wd' lg' lb' e' := by
  obtain rfl := funext a0; obtain rfl := funext a1; obtain rfl := funext a2; obtain rfl := funext a3; obtain rfl := funext a4
  obtain rfl := funext fun e => funext (a5 e); obtain rfl := funext fun z => funext (a6 z); obtain rfl := funext a7
  obtain rfl := funext fun n => funext (a8 n); obtain rfl := funext a9; obtain rfl := funext a10; obtain rfl := Fin.ext a11
  rfl

/-- The rows' buffer at a point holds the sequence's modulated rows around the tile. -/
theorem rowAt_eq (c : Dev nD) (t : Fin cfg0.N) (ρ : Fin 544) (e : Fin 1024) (p : ℕ) (b : Fin 8) (hb : b.val = (grid0.coords t 0).val)
    (hp : p + 15 = 512 * (grid0.coords t 1).val + ρ.val) (h1 : 15 ≤ ρ.val) (h2 : ρ.val ≤ 528) :
    rowAt (grid0.coords t) (iblk m c 0 t) (iblk m c 1 t) (iblk m c 2 t) (iblk m c 3 t) (iblk m c 4 t) ρ e
      = padRow (V m c main_arg0) (V m c main_v0) b p e := by
  have hi : (grid0.coords t 1).val < 4 := (grid0.coords t 1).isLt
  have hsc : (iblk m c 4 t : Vec Ideal S1x1x1024 .f32) (ix3 0 0 e) = (V m c main_v0 : Vec Ideal S32x1x6144 .f32) (ix3 ⟨16 + b.val, by omega⟩ 0 ⟨4096 + e.val, by omega⟩) := by
    blk_ext [iblk, idx t]
  have hsh : (iblk m c 3 t : Vec Ideal S1x1x1024 .f32) (ix3 0 0 e) = (V m c main_v0 : Vec Ideal S32x1x6144 .f32) (ix3 ⟨16 + b.val, by omega⟩ 0 ⟨3072 + e.val, by omega⟩) := by
    blk_ext [iblk, idx t]
  unfold rowAt padRow
  rw [hsc, hsh]
  by_cases k1 : 528 ≤ ρ.val
  · rw [dif_pos k1]
    by_cases k2 : (grid0.coords t 1).val < 3
    · rw [if_pos k2, dif_pos (by omega)]
      refine congrArg (fun v => modu v _ _) ?_
      blk_ext [iblk, idx t]
    · rw [if_neg k2, dif_neg (by omega)]
  rw [dif_neg k1]
  by_cases k2 : 16 ≤ ρ.val
  · rw [dif_pos k2, dif_pos (by omega)]
    refine congrArg (fun v => modu v _ _) ?_
    blk_ext [iblk, idx t]
  rw [dif_neg k2]
  by_cases k3 : 0 < (grid0.coords t 1).val
  · rw [if_pos k3, dif_pos (by omega)]
    refine congrArg (fun v => modu v _ _) ?_
    blk_ext [iblk, idx t]
  · rw [if_neg k3, dif_neg (by omega)]

theorem final (c : Dev nD) : (dats m 0 c).arrAt 12 cfg0.N = fun i : S8x2048x1024.Idx =>
    G (V m c main_arg0) (V m c main_v0) (V m c main_v1) (V m c main_v10) (V m c main_v13) (V m c main_v2) (V m c main_v5) (V m c main_v8) (i 0) (i 1) (i 2) := by
  refine (dats m 0 c).arrAt_eq_of_covers 12 _ (by decide +kernel) fun t _ y => ?_
  blk_simp
  rw [after0_12]
  unfold outsAt0
  refine (out_apply c t _ _ _ _ _ _ _ _ _ _ _ _ (y 0) (y 1) (y 2) y ?_).trans ?_
  · funext a; fin_cases a <;> rfl
  refine (outRow_eq _ _ _ _ _ _ _ _ _ _ _).trans ?_
  have hy1 : (y 1).val < 512 := (y 1).isLt
  have key : ∀ (B : Fin 8) (T : Fin 2048) (E : Fin 1024), B.val = (grid0.coords t 0).val → T.val = 512 * (grid0.coords t 1).val + (y 1).val → (y 2).val = E.val →
      outOf (rowAt (grid0.coords t) (iblk m c 0 t) (iblk m c 1 t) (iblk m c 2 t) (iblk m c 3 t) (iblk m c 4 t) ⟨15 + (y 1).val, by omega⟩)
        (rowAt (grid0.coords t) (iblk m c 0 t) (iblk m c 1 t) (iblk m c 2 t) (iblk m c 3 t) (iblk m c 4 t) ⟨16 + (y 1).val, by omega⟩)
        (rowAt (grid0.coords t) (iblk m c 0 t) (iblk m c 1 t) (iblk m c 2 t) (iblk m c 3 t) (iblk m c 4 t) ⟨17 + (y 1).val, by omega⟩)
        (fun e => (iblk m c 0 t : Vec Ideal S1x512x1024 .f32) (ix3 0 ⟨(y 1).val, hy1⟩ e)) (fun e => (iblk m c 5 t : Vec Ideal S1x1x1024 .f32) (ix3 0 0 e))
        (fun e k => (iblk m c 6 t : Vec Ideal S1x1024x5632 .bf16) (ix3 0 e k)) (fun z k => (iblk m c 7 t : Vec Ideal S3x5632 .f32) (ix2 z k))
        (fun k => (iblk m c 8 t : Vec Ideal S1x5632 .f32) (ix2 0 k)) (fun n e => (iblk m c 9 t : Vec Ideal S1x2816x1024 .bf16) (ix3 0 n e))
        (fun e => (iblk m c 10 t : Vec Ideal S1x1024 .f32) (ix2 0 e)) (fun e => (iblk m c 11 t : Vec Ideal S1x1024 .f32) (ix2 0 e)) ⟨(y 2).val, (y 2).isLt⟩
      = G (V m c main_arg0) (V m c main_v0) (V m c main_v1) (V m c main_v10) (V m c main_v13) (V m c main_v2) (V m c main_v5) (V m c main_v8) B T E := by
    intro B T E hB hT hE
    unfold G
    refine outOf_congr (fun e => rowAt_eq m c t _ e _ _ hB ?_ ?_ ?_) (fun e => rowAt_eq m c t _ e _ _ hB ?_ ?_ ?_) (fun e => rowAt_eq m c t _ e _ _ hB ?_ ?_ ?_)
      (fun e => ?_) (fun e => ?_) (fun e k => ?_) (fun z k => ?_) (fun k => ?_) (fun n e => ?_) (fun e => ?_) (fun e => ?_) hE
    iterate 9
      · dsimp only
        omega
    iterate 8
      · blk_ext [iblk, idx t]
  refine key _ _ _ ?_ ?_ ?_
  · have h0 : (y 0).val < 1 := (y 0).isLt
    blk_simp [idx t]
  · blk_simp [idx t]
    omega
  · blk_simp [idx t]
end Cert.FfnV

end
-- ==== Proof.FfnRead.lean ====
/- The feed-forward reference, read one element at a time. -/
module

public import proofs.«01_k».proof.Proof.Gen.FfnRefIdeal.Read
public import proofs.«01_k».proof.Proof.FfnBlock
public import Idealize.ShloMosaic.Lib.Pointwise

@[expose] public section

set_option maxRecDepth 16384

noncomputable section

namespace Cert.FfnV
open Idealize.ShloMosaic Idealize.ShloMosaic.TcCoe Idealize.SL.Sem Idealize.ShloMosaic.Pointwise
open Cert.FfnRefIdeal Cert.FfnRefIdeal.Read

variable (x0 : Vec Ideal S8x2048x1024 .f32) (x1 : Vec Ideal S2x16x6144 .f32) (x2 : Vec Ideal S2x1024x5632 .f32) (x3 : Vec Ideal S2x3x5632 .f32)
  (x4 : Vec Ideal S2x5632 .f32) (x5 : Vec Ideal S2x2816x1024 .f32) (x6 x7 : Vec Ideal S2x1024 .f32)

theorem ref_mod (b : Fin 8) (j : Fin 6144) : val_main_v2 (F := Ideal) x1 (ix3 b 0 j) = x1 (ix3 1 ⟨b.val, by omega⟩ j) := by
  unfold val_main_v2 val_main_v1 val_main_v0
  pointwise

theorem ref_h (b : Fin 8) (t : Fin 2048) (e : Fin 1024) : val_main_v14 (F := Ideal) x0 x1 (ix3 b t e)
    = modu (x0 (ix3 b t e)) (x1 (ix3 1 ⟨b.val, by omega⟩ ⟨4096 + e.val, by omega⟩)) (x1 (ix3 1 ⟨b.val, by omega⟩ ⟨3072 + e.val, by omega⟩)) := by
  rw [← ref_mod x1, ← ref_mod x1]
  unfold modu val_main_v14 val_main_v13 val_main_v12 val_main_v11 val_main_v10 val_main_v9 val_main_v7 val_main_v6 val_main_cst
  generalize val_main_v2 (F := Ideal) x1 = Z
  pointwise

theorem ref_u (b : Fin 8) (t : Fin 2048) (k : Fin 5632) : val_main_v17 (F := Ideal) x0 x1 x2 (ix3 b t k)
    = up (fun e => val_main_v14 (F := Ideal) x0 x1 (ix3 b t e)) (fun e => x2 (ix3 1 e k)) := by
  unfold up val_main_v17 val_main_v16 val_main_v15
  generalize val_main_v14 (F := Ideal) x0 x1 = Z
  pointwise

theorem ref_pad (b : Fin 8) (t : Fin 2050) (k : Fin 5632) : val_main_v18 (F := Ideal) x0 x1 x2 (ix3 b t k)
    = if h : 1 ≤ t.val ∧ t.val < 2049 then val_main_v17 (F := Ideal) x0 x1 x2 (ix3 b ⟨t.val - 1, by omega⟩ k) else 0 := by
  unfold val_main_v18
  generalize val_main_v17 (F := Ideal) x0 x1 x2 = Z
  pointwise [val_main_call0_v0]
  by_cases h : 1 ≤ t.val ∧ t.val < 2049
  · rw [dif_pos h, dif_pos ⟨h.1, by omega⟩]
  · rw [dif_neg h, dif_neg (fun h' => h ⟨h'.1, by omega⟩)]
    show ((((0#32 : BitVec 32).toInt : ℝ)) : EReal) = 0
    simp

theorem ref_taps (b : Fin 8) (t : Fin 2048) (k : Fin 5632) : val_main_v49 (F := Ideal) x0 x1 x2 x3 x4 (ix3 b t k)
    = taps (val_main_v18 (F := Ideal) x0 x1 x2 (ix3 b ⟨t.val, by omega⟩ k)) (val_main_v18 (F := Ideal) x0 x1 x2 (ix3 b ⟨1 + t.val, by omega⟩ k))
      (val_main_v18 (F := Ideal) x0 x1 x2 (ix3 b ⟨2 + t.val, by omega⟩ k)) (x3 (ix3 1 0 k)) (x3 (ix3 1 1 k)) (x3 (ix3 1 2 k)) (x4 (ix2 1 k)) := by
  unfold taps val_main_v49 val_main_v48 val_main_v47 val_main_v46 val_main_v45 val_main_v44 val_main_v43 val_main_v42 val_main_v41 val_main_v40 val_main_v39
    val_main_v38 val_main_v37 val_main_v36 val_main_v35 val_main_v34 val_main_v33 val_main_v32 val_main_v31 val_main_v30 val_main_v29 val_main_v28 val_main_v27
    val_main_v26 val_main_v25 val_main_v24 val_main_v23 val_main_v22 val_main_v21 val_main_v20 val_main_v19
  generalize val_main_v18 (F := Ideal) x0 x1 x2 = Z
  pointwise

theorem ref_act (b : Fin 8) (t : Fin 2048) (n : Fin 2816) : val_main_v53 (F := Ideal) x0 x1 x2 x3 x4 (ix3 b t n)
    = gate (val_main_v49 (F := Ideal) x0 x1 x2 x3 x4 (ix3 b t ⟨n.val, by omega⟩)) (val_main_v49 (F := Ideal) x0 x1 x2 x3 x4 (ix3 b t ⟨2816 + n.val, by omega⟩)) := by
  unfold gate val_main_v53 val_main_v52 val_main_v51 val_main_v50
  unfold val_main_call1_v5 val_main_call1_v4 val_main_call1_v3 val_main_call1_v2 val_main_call1_v1 val_main_call1_v0 val_main_call1_cst val_main_call1_cst_0 val_main_v51
  generalize val_main_v49 (F := Ideal) x0 x1 x2 x3 x4 = Z
  pointwise
  rfl

theorem ref_down (b : Fin 8) (t : Fin 2048) (e : Fin 1024) : val_main_v56 (F := Ideal) x0 x1 x2 x3 x4 x5 (ix3 b t e)
    = ∑ n : Fin 2816, val_main_v53 (F := Ideal) x0 x1 x2 x3 x4 (ix3 b t n) * x5 (ix3 1 n e) := by
  unfold val_main_v56 val_main_v55 val_main_v54
  generalize val_main_v53 (F := Ideal) x0 x1 x2 x3 x4 = Z
  pointwise

theorem ref_res (b : Fin 8) (t : Fin 2048) (e : Fin 1024) : val_main_v61 (F := Ideal) x0 x1 x2 x3 x4 x5 (ix3 b t e)
    = Ideal.ofBits .f32 0x3FB504F3#32 * x0 (ix3 b t e) + x1 (ix3 1 ⟨b.val, by omega⟩ ⟨5120 + e.val, by omega⟩) * val_main_v56 (F := Ideal) x0 x1 x2 x3 x4 x5 (ix3 b t e) := by
  rw [← ref_mod x1]
  unfold val_main_v61 val_main_v60 val_main_v59 val_main_v58 val_main_v57 val_main_v8
  generalize val_main_v56 (F := Ideal) x0 x1 x2 x3 x4 x5 = Z
  generalize val_main_v2 (F := Ideal) x1 = Z'
  pointwise [val_main_cst_0]

theorem ref_mean (b : Fin 8) (t : Fin 2048) : val_main_v69 (F := Ideal) x0 x1 x2 x3 x4 x5 (ix3 b t 0)
    = Ideal.div (∑ d : Fin 1024, val_main_v61 (F := Ideal) x0 x1 x2 x3 x4 x5 (ix3 b t d)) (Ideal.ofBits .f32 0x44800000#32) := by
  unfold val_main_v69 val_main_v68 val_main_v67 val_main_v66
  generalize val_main_v61 (F := Ideal) x0 x1 x2 x3 x4 x5 = Z
  pointwise [val_main_cst_1, val_main_cst_2]

theorem ref_norm (b : Fin 8) (t : Fin 2048) (e : Fin 1024) : val_main_v89 (F := Ideal) x0 x1 x2 x3 x4 x5 x6 x7 (ix3 b t e)
    = norm (fun d => val_main_v61 (F := Ideal) x0 x1 x2 x3 x4 x5 (ix3 b t d)) (fun d => x6 (ix2 1 d)) (fun d => x7 (ix2 1 d)) e := by
  unfold norm
  rw [← ref_mean]
  unfold val_main_v89 val_main_v88 val_main_v87 val_main_v86 val_main_v85 val_main_v84 val_main_v83 val_main_v82 val_main_v81 val_main_v80 val_main_v79 val_main_v78
    val_main_v77 val_main_v76 val_main_v75 val_main_v74 val_main_v73 val_main_v72 val_main_v71 val_main_v70 val_main_v65 val_main_v64 val_main_v63 val_main_v62
  generalize val_main_v69 (F := Ideal) x0 x1 x2 x3 x4 x5 = M
  generalize val_main_v61 (F := Ideal) x0 x1 x2 x3 x4 x5 = Z
  pointwise [val_main_cst_3, val_main_cst_4, val_main_cst_5]

/-- The modulated row before a place, at the place and after it are rows of the sequence with one row of zeros at each end. -/
def refRow (b : Fin 8) (p : ℕ) (e : Fin 1024) : EReal :=
  if h : 1 ≤ p ∧ p < 2049 then modu (x0 (ix3 b ⟨p - 1, by omega⟩ e)) (x1 (ix3 1 ⟨b.val, by omega⟩ ⟨4096 + e.val, by omega⟩)) (x1 (ix3 1 ⟨b.val, by omega⟩ ⟨3072 + e.val, by omega⟩)) else 0

theorem ref_row (b : Fin 8) (t : Fin 2050) (k : Fin 5632) : val_main_v18 (F := Ideal) x0 x1 x2 (ix3 b t k)
    = up (refRow x0 x1 b t.val) (fun e => x2 (ix3 1 e k)) := by
  rw [ref_pad]
  unfold refRow
  split_ifs with h
  · rw [ref_u]
    exact congrArg (fun v => up v _) (funext fun e => ref_h _ _ _ _ _)
  · unfold up
    simp

theorem ref_final (b : Fin 8) (t : Fin 2048) (e : Fin 1024) : val_main_v89 (F := Ideal) x0 x1 x2 x3 x4 x5 x6 x7 (ix3 b t e)
    = outOf (refRow x0 x1 b t.val) (refRow x0 x1 b (1 + t.val)) (refRow x0 x1 b (2 + t.val)) (fun e => x0 (ix3 b t e))
      (fun e => x1 (ix3 1 ⟨b.val, by omega⟩ ⟨5120 + e.val, by omega⟩)) (fun e k => x2 (ix3 1 e k)) (fun z k => x3 (ix3 1 z k)) (fun k => x4 (ix2 1 k))
      (fun n e => x5 (ix3 1 n e)) (fun e => x6 (ix2 1 e)) (fun e => x7 (ix2 1 e)) e := by
  rw [ref_norm]
  unfold outOf
  refine congrArg (fun v => norm v _ _ e) (funext fun d => ?_)
  rw [ref_res, ref_down]
  refine congrArg (fun s => _ + _ * s) (Finset.sum_congr rfl fun n _ => congrArg (· * _) ?_)
  rw [ref_act, ref_taps, ref_taps]
  simp only [ref_row]
  rfl
end Cert.FfnV

end
-- ==== Proof.FfnEq.lean ====
/- The feed-forward kernel's result array is the reference's term of the arguments. -/
module

public import proofs.«01_k».proof.Proof.FfnArray
public import proofs.«01_k».proof.Proof.FfnRead

@[expose] public section

set_option maxRecDepth 16384

noncomputable section

namespace Cert.FfnV
open Idealize.ShloMosaic Idealize.ShloMosaic.TcCoe Idealize.SL.Sem Idealize.ShloMosaic.Pointwise
open Idealize.ShloMosaic.Pipeline (Dat)
open Cert.FfnIdeal Cert.FfnIdeal.Gen
variable (m : (ℓ : Loc nD τ sig) → Buf (Elt Ideal) ℓ)

theorem mod_latent (c : Dev nD) (b : Fin 8) (j : Fin 6144) : (V m c main_v0 : Vec Ideal S32x1x6144 .f32) (ix3 ⟨16 + b.val, by omega⟩ 0 j)
    = (m ((c : Thread nD τ).loc main_arg1) : Vec Ideal S2x16x6144 .f32) (ix3 1 ⟨b.val, by omega⟩ j) := by
  rw [mod_read]
  refine congrArg (m ((c : Thread nD τ).loc main_arg1) : Vec Ideal S2x16x6144 .f32) (funext fun a => ?_)
  fin_cases a <;> apply Fin.ext
  · show (16 + b.val) / 16 = 1; omega
  · show (16 + b.val) % 16 = b.val; omega
  · rfl

theorem pad_eq (c : Dev nD) (b : Fin 8) (p : ℕ) (e : Fin 1024) : padRow (V m c main_arg0) (V m c main_v0) b p e
    = refRow (m ((c : Thread nD τ).loc main_arg0)) (m ((c : Thread nD τ).loc main_arg1)) b p e := by
  unfold padRow refRow
  rw [mod_latent, mod_latent, x_read]

/-- The result array of the feed-forward call, as the reference's term of the arguments. -/
theorem ffn_eq (c : Dev nD) : (dats m 0 c).arrAt 12 cfg0.N
    = Cert.FfnRefIdeal.Read.val_main_v89 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7)) := by
  rw [final m c]
  funext i
  obtain ⟨b, t, e, rfl⟩ : ∃ (b : Fin 8) (t : Fin 2048) (e : Fin 1024), i = ix3 b t e :=
    ⟨i 0, i 1, i 2, by funext a; fin_cases a <;> rfl⟩
  refine Eq.trans ?_ (ref_final _ _ _ _ _ _ _ _ b t e).symm
  show G _ _ _ _ _ _ _ _ b t e = _
  unfold G
  exact outOf_congr (fun e => pad_eq m c b _ e) (fun e => pad_eq m c b _ e) (fun e => pad_eq m c b _ e) (fun e => congrFun (x_read m c) _)
    (fun e => mod_latent m c b _) (fun e k => wup_read m c 1 e k) (fun z k => cw_read m c z k) (fun k => cb_read m c k) (fun n e => wdn_read m c 1 n e)
    (fun e => lg_read m c e) (fun e => lb_read m c e) rfl
end Cert.FfnV

end
-- ==== Proof.MixBlock.lean ====
/- The mixing kernel's output block, element by element, from the point's blocks. -/
module

public import proofs.«01_k».proof.Proof.Gen.MixIdeal.Value
public import proofs.«01_k».proof.Proof.FfnBlock

@[expose] public section

set_option maxRecDepth 16384

noncomputable section

namespace Cert.MixV
open Idealize.ShloMosaic Idealize.ShloMosaic.TcCoe Idealize.SL.Sem Idealize.ShloMosaic.Pointwise
open Idealize.ShloMosaic.Pipeline (Dat)
open Cert.MixIdeal Cert.MixIdeal.Gen
open Cert.FfnV (canon_hit canon_miss out_hit out_miss)
variable (m : (ℓ : Loc nD τ sig) → Buf (Elt Ideal) ℓ)

/-- The position transform of 256 rows: cosines times the one part, negated sines times the other. -/
theorem dft_apply (C S : Vec Ideal S256x2048 .bf16) (A B : Vec Ideal S1x1x2048x256 .bf16) (r j : Fin 256) :
    k0_pay1 (F := Ideal) C A S B (ix2 r j) = (∑ t : Fin 2048, C (ix2 r t) * A (ix4 0 0 t j)) + ∑ t : Fin 2048, S (ix2 r t) * B (ix4 0 0 t j) := by
  pointwise [k0_pay1]
theorem dft23 (C S : Vec Ideal S256x2048 .bf16) (A B : Vec Ideal S1x1x2048x256 .bf16) :
    k0_pay3 (F := Ideal) (k0_pay2 C A S B) = k0_pay1 (F := Ideal) C A S B := rfl

/-- The channel map of 256 rows. -/
theorem map_apply (Z W : Vec Ideal S256x256 .bf16) (r j : Fin 256) :
    k0_pay4 (F := Ideal) Z W (ix2 r j) = ∑ k : Fin 256, Z (ix2 r k) * W (ix2 k j) := by
  pointwise [k0_pay4]
theorem map5 (Z W : Vec Ideal S256x256 .bf16) : k0_pay5 (F := Ideal) Z W = k0_pay4 (F := Ideal) Z W := rfl

/-- The output projection of 256 rows: a sum over each of the three groups' columns. -/
theorem proj_apply (A : Vec Ideal S1x256x512 .bf16) (R : Vec Ideal S1x256x256 .bf16) (F : Vec Ideal S256x256 .bf16) (Wa : Vec Ideal S1x512x1024 .bf16)
    (Wr Wf : Vec Ideal S1x256x1024 .bf16) (r : Fin 256) (e : Fin 1024) :
    k0_pay9 (F := Ideal) (k0_pay6 A Wa) (k0_pay7 R) (k0_pay8 Wr) F Wf (ix2 r e)
      = (∑ k : Fin 512, A (ix3 0 r k) * Wa (ix3 0 k e)) + (∑ k : Fin 256, R (ix3 0 r k) * Wr (ix3 0 k e)) + ∑ k : Fin 256, F (ix2 r k) * Wf (ix3 0 k e) := by
  pointwise [k0_pay9, k0_pay6, k0_pay7, k0_pay8]
theorem proj10 (A : Vec Ideal S1x256x512 .bf16) (R : Vec Ideal S1x256x256 .bf16) (F : Vec Ideal S256x256 .bf16) (Wa : Vec Ideal S1x512x1024 .bf16)
    (Wr Wf : Vec Ideal S1x256x1024 .bf16) :
    k0_pay11 (F := Ideal) (k0_pay10 A Wa R Wr F Wf) = k0_pay9 (F := Ideal) (k0_pay6 A Wa) (k0_pay7 R) (k0_pay8 Wr) F Wf := rfl

/-- The update and its layer norm. -/
theorem norm_apply (X : Vec Ideal S1x256x1024 .f32) (B : Vec Ideal S1x1x1024 .f32) (Y : Vec Ideal S256x1024 .f32) (lg lb : Vec Ideal S1x1024 .f32) (r : Fin 256) (e : Fin 1024) :
    k0_pay12 (F := Ideal) X B Y lg lb (ix3 0 r e)
      = FfnV.norm (fun e => Ideal.ofBits .f32 0x3FB504F3#32 * X (ix3 0 r e) + B (ix3 0 0 e) * Y (ix2 r e)) (fun e => lg (ix2 0 e)) (fun e => lb (ix2 0 e)) e := by
  unfold FfnV.norm
  pointwise [k0_pay12]
theorem norm13 (X : Vec Ideal S1x256x1024 .f32) (B : Vec Ideal S1x1x1024 .f32) (Y : Vec Ideal S256x1024 .f32) (lg lb : Vec Ideal S1x1024 .f32) :
    k0_pay13 (F := Ideal) X B Y lg lb = k0_pay12 (F := Ideal) X B Y lg lb := rfl

/-- One element of the position transform, the channel map and the output projection of a tile's row. -/
def zAt (C S : Fin 2048 → EReal) (re im : Fin 2048 → Fin 256 → EReal) (j : Fin 256) : EReal := (∑ t : Fin 2048, C t * re t j) + ∑ t : Fin 2048, S t * im t j
def fAt (C S : Fin 2048 → EReal) (re im : Fin 2048 → Fin 256 → EReal) (wf : Fin 256 → Fin 256 → EReal) (j : Fin 256) : EReal := ∑ k : Fin 256, zAt C S re im k * wf k j
def mixAt (C S : Fin 2048 → EReal) (re im : Fin 2048 → Fin 256 → EReal) (wf : Fin 256 → Fin 256 → EReal) (a : Fin 512 → EReal) (ρ : Fin 256 → EReal)
    (w : Fin 1024 → Fin 1024 → EReal) (e : Fin 1024) : EReal :=
  (∑ k : Fin 512, a k * w ⟨k.val, by omega⟩ e) + (∑ k : Fin 256, ρ k * w ⟨512 + k.val, by omega⟩ e) + ∑ k : Fin 256, fAt C S re im wf k * w ⟨768 + k.val, by omega⟩ e
def outOf (C S : Fin 2048 → EReal) (re im : Fin 2048 → Fin 256 → EReal) (wf : Fin 256 → Fin 256 → EReal) (a : Fin 512 → EReal) (ρ : Fin 256 → EReal)
    (x g : Fin 1024 → EReal) (w : Fin 1024 → Fin 1024 → EReal) (lg lb : Fin 1024 → EReal) (e : Fin 1024) : EReal :=
  FfnV.norm (fun e => Ideal.ofBits .f32 0x3FB504F3#32 * x e + g e * mixAt C S re im wf a ρ w e) lg lb e

/-- One element of the output block. -/
def rowOut (x0 x1 : Vec Ideal S512x2048 .bf16) (x2 : Vec Ideal S1x2x2048x256 .bf16) (x3 : Vec Ideal S256x256 .bf16) (x4 : Vec Ideal S1x512x512 .bf16) (x5 : Vec Ideal S1x512x256 .bf16) (x6 : Vec Ideal S1x512x1024 .f32) (x7 : Vec Ideal S1x1x1024 .f32) (x8 : Vec Ideal S1x1024x1024 .bf16) (x9 x10 : Vec Ideal S1x1024 .f32)
    (r : Fin 512) (e : Fin 1024) : EReal :=
  outOf (fun t => x0 (ix2 r t)) (fun t => x1 (ix2 r t)) (fun t j => x2 (ix4 0 0 t j)) (fun t j => x2 (ix4 0 1 t j)) (fun k j => x3 (ix2 k j)) (fun k => x4 (ix3 0 r k)) (fun k => x5 (ix3 0 r k))
    (fun e => x6 (ix3 0 r e)) (fun e => x7 (ix3 0 0 e)) (fun k e => x8 (ix3 0 k e)) (fun e => x9 (ix2 0 e)) (fun e => x10 (ix2 0 e)) e

/-- A half of the tile's rows, each operand loaded at its place. -/
theorem half (x0 x1 : Vec Ideal S512x2048 .bf16) (x2 : Vec Ideal S1x2x2048x256 .bf16) (x3 : Vec Ideal S256x256 .bf16) (x4 : Vec Ideal S1x512x512 .bf16) (x5 : Vec Ideal S1x512x256 .bf16) (x6 : Vec Ideal S1x512x1024 .f32) (x7 : Vec Ideal S1x1x1024 .f32) (x8 : Vec Ideal S1x1024x1024 .bf16) (x9 x10 : Vec Ideal S1x1024 .f32)
    (o : ℕ) (ho : o ≤ 256) (i6 : ∀ a, ![0, o, 0] a + ![1, 256, 1024] a ≤ S1x512x1024.size a) (i4 : ∀ a, ![0, o, 0] a + ![1, 256, 512] a ≤ S1x512x512.size a)
    (i5 : ∀ a, ![0, o, 0] a + ![1, 256, 256] a ≤ S1x512x256.size a) (i0 : ∀ a, ![o, 0] a + ![256, 2048] a ≤ S512x2048.size a)
    (r : Fin 256) (e : Fin 1024) :
    k0_pay12 (F := Ideal) (View.ld (Val := Elt Ideal) (e' := .f32) x6 (Rect.unit (s := S1x512x1024) ![0, o, 0] ![1, 256, 1024] i6)) x7
      (k0_pay9 (k0_pay6 (View.ld (Val := Elt Ideal) (e' := .bf16) x4 (Rect.unit (s := S1x512x512) ![0, o, 0] ![1, 256, 512] i4))
          (View.ld (Val := Elt Ideal) (e' := .bf16) x8 (Rect.unit ![0, 0, 0] ![1, 512, 1024] inb_S1x1024x1024_S1x512x1024_0_0_0)))
        (k0_pay7 (View.ld (Val := Elt Ideal) (e' := .bf16) x5 (Rect.unit (s := S1x512x256) ![0, o, 0] ![1, 256, 256] i5)))
        (k0_pay8 (View.ld (Val := Elt Ideal) (e' := .bf16) x8 (Rect.unit ![0, 512, 0] ![1, 256, 1024] inb_S1x1024x1024_S1x256x1024_0_512_0)))
        (k0_pay4 (k0_pay1 (View.ld (Val := Elt Ideal) (e' := .bf16) x0 (Rect.unit (s := S512x2048) ![o, 0] ![256, 2048] i0))
            (View.ld (Val := Elt Ideal) (e' := .bf16) x2 (Rect.unit ![0, 0, 0, 0] ![1, 1, 2048, 256] inb_S1x2x2048x256_S1x1x2048x256_0_0_0_0))
            (View.ld (Val := Elt Ideal) (e' := .bf16) x1 (Rect.unit (s := S512x2048) ![o, 0] ![256, 2048] i0))
            (View.ld (Val := Elt Ideal) (e' := .bf16) x2 (Rect.unit ![0, 1, 0, 0] ![1, 1, 2048, 256] inb_S1x2x2048x256_S1x1x2048x256_0_1_0_0))) x3)
        (View.ld (Val := Elt Ideal) (e' := .bf16) x8 (Rect.unit ![0, 768, 0] ![1, 256, 1024] inb_S1x1024x1024_S1x256x1024_0_768_0)))
      x9 x10 (ix3 0 r e)
      = rowOut x0 x1 x2 x3 x4 x5 x6 x7 x8 x9 x10 ⟨o + r.val, by omega⟩ e := by
  have h0 : ∀ (x : Vec Ideal S512x2048 .bf16) (t : Fin 2048), View.ld (Val := Elt Ideal) (e' := .bf16) x (Rect.unit (s := S512x2048) ![o, 0] ![256, 2048] i0) (ix2 r t) = x (ix2 ⟨o + r.val, by omega⟩ t) := by
    intro x t
    refine congrArg x (funext fun a => ?_)
    fin_cases a <;> apply Fin.ext <;> simp
  have h2 : ∀ (t : Fin 2048) (j : Fin 256), View.ld (Val := Elt Ideal) (e' := .bf16) x2 (Rect.unit ![0, 0, 0, 0] ![1, 1, 2048, 256] inb_S1x2x2048x256_S1x1x2048x256_0_0_0_0) (ix4 0 0 t j) = x2 (ix4 0 0 t j) := by
    intro t j
    refine congrArg x2 (funext fun a => ?_)
    fin_cases a <;> apply Fin.ext <;> simp
  have h2' : ∀ (t : Fin 2048) (j : Fin 256), View.ld (Val := Elt Ideal) (e' := .bf16) x2 (Rect.unit ![0, 1, 0, 0] ![1, 1, 2048, 256] inb_S1x2x2048x256_S1x1x2048x256_0_1_0_0) (ix4 0 0 t j) = x2 (ix4 0 1 t j) := by
    intro t j
    refine congrArg x2 (funext fun a => ?_)
    fin_cases a <;> apply Fin.ext <;> simp
  have h4 : ∀ k : Fin 512, View.ld (Val := Elt Ideal) (e' := .bf16) x4 (Rect.unit (s := S1x512x512) ![0, o, 0] ![1, 256, 512] i4) (ix3 0 r k) = x4 (ix3 0 ⟨o + r.val, by omega⟩ k) := by
    intro k
    refine congrArg x4 (funext fun a => ?_)
    fin_cases a <;> apply Fin.ext <;> simp
  have h5 : ∀ k : Fin 256, View.ld (Val := Elt Ideal) (e' := .bf16) x5 (Rect.unit (s := S1x512x256) ![0, o, 0] ![1, 256, 256] i5) (ix3 0 r k) = x5 (ix3 0 ⟨o + r.val, by omega⟩ k) := by
    intro k
    refine congrArg x5 (funext fun a => ?_)
    fin_cases a <;> apply Fin.ext <;> simp
  have h6 : ∀ k : Fin 1024, View.ld (Val := Elt Ideal) (e' := .f32) x6 (Rect.unit (s := S1x512x1024) ![0, o, 0] ![1, 256, 1024] i6) (ix3 0 r k) = x6 (ix3 0 ⟨o + r.val, by omega⟩ k) := by
    intro k
    refine congrArg x6 (funext fun a => ?_)
    fin_cases a <;> apply Fin.ext <;> simp
  have h8 : ∀ (k : Fin 512) (e : Fin 1024), View.ld (Val := Elt Ideal) (e' := .bf16) x8 (Rect.unit ![0, 0, 0] ![1, 512, 1024] inb_S1x1024x1024_S1x512x1024_0_0_0) (ix3 0 k e) = x8 (ix3 0 ⟨k.val, by omega⟩ e) := by
    intro k e
    refine congrArg x8 (funext fun a => ?_)
    fin_cases a <;> apply Fin.ext <;> simp
  have h8' : ∀ (p : ℕ) (hp : p ≤ 768) (i : ∀ a, ![0, p, 0] a + ![1, 256, 1024] a ≤ S1x1024x1024.size a) (k : Fin 256) (e : Fin 1024),
      View.ld (Val := Elt Ideal) (e' := .bf16) x8 (Rect.unit (s := S1x1024x1024) ![0, p, 0] ![1, 256, 1024] i) (ix3 0 k e) = x8 (ix3 0 ⟨p + k.val, by omega⟩ e) := by
    intro p hp i k e
    refine congrArg x8 (funext fun a => ?_)
    fin_cases a <;> apply Fin.ext <;> simp
  rw [norm_apply]
  unfold rowOut outOf
  refine congrArg (fun v => FfnV.norm v _ _ e) (funext fun d => ?_)
  rw [h6, proj_apply]
  unfold mixAt fAt zAt
  simp only [map_apply, dft_apply, h0 x0, h0 x1, h2, h2', h4, h5, h8, h8' 512 (by omega) _, h8' 768 (by omega) _]

/-- One point of the grid: the output block at an index, from the point's input blocks. -/
theorem out_apply (c : Dev nD) (t : Fin cfg0.N) (x0 x1 : Vec Ideal S512x2048 .bf16) (x2 : Vec Ideal S1x2x2048x256 .bf16) (x3 : Vec Ideal S256x256 .bf16) (x4 : Vec Ideal S1x512x512 .bf16) (x5 : Vec Ideal S1x512x256 .bf16) (x6 : Vec Ideal S1x512x1024 .f32) (x7 : Vec Ideal S1x1x1024 .f32) (x8 : Vec Ideal S1x1024x1024 .bf16) (x9 x10 : Vec Ideal S1x1024 .f32)
    (y0 : Fin 1) (y1 : Fin 512) (y2 : Fin 1024) (y : S1x512x1024.Idx) (hy : y = ix3 y0 y1 y2) :
    out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) x0 x1 x2 x3 x4 x5 x6 x7 x8 x9 x10 y
      = rowOut x0 x1 x2 x3 x4 x5 x6 x7 x8 x9 x10 y1 y2 := by
  frame_open
  simp (disch := decide) only [↓ View.readCov_skip, ↓ View.readCov_cons_toLoadRect, ↓ View.readCov_fill]
  frame_out
  generalize hA : rowOut _ _ _ _ _ _ _ _ _ _ _ _ _ = A
  simp only [dft23, map5, proj10, norm13]
  subst hA
  subst hy
  by_cases hr : 256 ≤ y1.val
  · rw [out_hit _ _ _ _ _ _ ⟨y1.val - 256, by omega⟩ (by dsimp only; omega)]
    refine (half x0 x1 x2 x3 x4 x5 x6 x7 x8 x9 x10 256 (by omega) _ _ _ _ ⟨y1.val - 256, by omega⟩ y2).trans ?_
    exact congrArg (fun r => rowOut x0 x1 x2 x3 x4 x5 x6 x7 x8 x9 x10 r y2) (Fin.ext (by dsimp only; omega))
  · rw [out_miss _ _ _ _ _ _ (by omega), out_hit _ _ _ _ _ _ ⟨y1.val, by omega⟩ (by dsimp only; omega)]
    refine (half x0 x1 x2 x3 x4 x5 x6 x7 x8 x9 x10 0 (by omega) _ _ _ _ ⟨y1.val, by omega⟩ y2).trans ?_
    exact congrArg (fun r => rowOut x0 x1 x2 x3 x4 x5 x6 x7 x8 x9 x10 r y2) (Fin.ext (by dsimp only; omega))
end Cert.MixV

end
-- ==== Proof.MixWeight.lean ====
/- The block-diagonal weight of the channel map, as the host code before the call puts it together. -/
module

public import proofs.«01_k».proof.Proof.MixBlock

@[expose] public section

set_option maxRecDepth 16384

noncomputable section

namespace Cert.MixV
open Idealize.ShloMosaic Idealize.ShloMosaic.TcCoe Idealize.SL.Sem
open Idealize.ShloMosaic.Pipeline (Dat)
open Cert.MixIdeal Cert.MixIdeal.Gen Idealize.ShloMosaic.Pointwise

variable (m : (ℓ : Loc nD τ sig) → Buf (Elt Ideal) ℓ)

theorem after_append (l₁ l₂ : List (HloOp τ sig (Elt Ideal))) (σ : Valuation τ sig (Elt Ideal)) :
    StableHlo.after (l₁ ++ l₂) σ = StableHlo.after l₂ (StableHlo.after l₁ σ) := by
  induction l₁ generalizing σ with
  | nil => rfl
  | cons op l ih => exact ih _

theorem stage2 (σ : Valuation τ sig (Elt Ideal)) (k j : Fin 256) : (StableHlo.after hostOps0_2 σ (Proc.devRef .tc main_v14) : Vec Ideal S256x256 .bf16) (ix2 k j)
    = (σ (Proc.devRef .tc main_v13) : Vec Ideal S256x256 .f32) (ix2 k j) := by
  entry_read
  rfl

/-- The four blocks of columns, zeros elsewhere. -/
def pad0 (W : Vec Ideal S64x64 .f32) : Vec Ideal S64x256 .f32 := pad S64x256 ![0, 0] ![0, 192] ![0, 0] W (constant (F := Ideal) S_ .f32 0x00000000#32) pads_S64x64_S64x256_000_01920 h_S_
def pad1 (W : Vec Ideal S64x64 .f32) : Vec Ideal S64x256 .f32 := pad S64x256 ![0, 64] ![0, 128] ![0, 0] W (constant (F := Ideal) S_ .f32 0x00000000#32) pads_S64x64_S64x256_000_641280 h_S_
def pad2 (W : Vec Ideal S64x64 .f32) : Vec Ideal S64x256 .f32 := pad S64x256 ![0, 128] ![0, 64] ![0, 0] W (constant (F := Ideal) S_ .f32 0x00000000#32) pads_S64x64_S64x256_000_128640 h_S_
def pad3 (W : Vec Ideal S64x64 .f32) : Vec Ideal S64x256 .f32 := pad S64x256 ![0, 192] ![0, 0] ![0, 0] W (constant (F := Ideal) S_ .f32 0x00000000#32) pads_S64x64_S64x256_000_19200 h_S_

theorem stage1 (σ : Valuation τ sig (Elt Ideal)) : (StableHlo.after hostOps0_1 σ (Proc.devRef .tc main_v13) : Vec Ideal S256x256 .f32)
    = concatenate S256x256 0 [⟨S64x256, pad0 (σ (Proc.devRef .tc main_v6))⟩, ⟨S64x256, pad1 (σ (Proc.devRef .tc main_v8))⟩, ⟨S64x256, pad2 (σ (Proc.devRef .tc main_v10))⟩,
      ⟨S64x256, pad3 (σ (Proc.devRef .tc main_v12))⟩] concatenates_S64x256_S64x256_S64x256_S64x256_S256x256_d0 := by
  rfl

theorem pad0_apply (W : Vec Ideal S64x64 .f32) (k : Fin 64) (j : Fin 256) : pad0 W (ix2 k j) = if 0 = j.val / 64 then W (ix2 k ⟨j.val % 64, by omega⟩) else (0 : EReal) := by
  pointwise [pad0]
  by_cases h : 0 = j.val / 64
  · rw [if_pos h, dif_pos (by omega)]
    exact congrArg (fun j => W (ix2 k j)) (Fin.ext (by dsimp only; omega))
  · rw [if_neg h, dif_neg (by omega)]
theorem pad1_apply (W : Vec Ideal S64x64 .f32) (k : Fin 64) (j : Fin 256) : pad1 W (ix2 k j) = if 1 = j.val / 64 then W (ix2 k ⟨j.val % 64, by omega⟩) else (0 : EReal) := by
  pointwise [pad1]
  by_cases h : 1 = j.val / 64
  · rw [if_pos h, dif_pos (by omega)]
    exact congrArg (fun j => W (ix2 k j)) (Fin.ext (by dsimp only; omega))
  · rw [if_neg h, dif_neg (by omega)]
theorem pad2_apply (W : Vec Ideal S64x64 .f32) (k : Fin 64) (j : Fin 256) : pad2 W (ix2 k j) = if 2 = j.val / 64 then W (ix2 k ⟨j.val % 64, by omega⟩) else (0 : EReal) := by
  pointwise [pad2]
  by_cases h : 2 = j.val / 64
  · rw [if_pos h, dif_pos (by omega)]
    exact congrArg (fun j => W (ix2 k j)) (Fin.ext (by dsimp only; omega))
  · rw [if_neg h, dif_neg (by omega)]
theorem pad3_apply (W : Vec Ideal S64x64 .f32) (k : Fin 64) (j : Fin 256) : pad3 W (ix2 k j) = if 3 = j.val / 64 then W (ix2 k ⟨j.val % 64, by omega⟩) else (0 : EReal) := by
  pointwise [pad3]
  by_cases h : 3 = j.val / 64
  · rw [if_pos h, dif_pos (by omega)]
    exact congrArg (fun j => W (ix2 k j)) (Fin.ext (by dsimp only; omega))
  · rw [if_neg h, dif_neg (by omega)]
theorem cat_apply (A B C D : Vec Ideal S64x256 .f32) (k j : Fin 256) : concatenate S256x256 0 [⟨S64x256, A⟩, ⟨S64x256, B⟩, ⟨S64x256, C⟩, ⟨S64x256, D⟩] concatenates_S64x256_S64x256_S64x256_S64x256_S256x256_d0 (ix2 k j)
    = if k.val < 64 then A (ix2 ⟨k.val % 64, by omega⟩ j) else if k.val < 128 then B (ix2 ⟨k.val % 64, by omega⟩ j) else if k.val < 192 then C (ix2 ⟨k.val % 64, by omega⟩ j) else D (ix2 ⟨k.val % 64, by omega⟩ j) := by
  have key : ∀ (X : Vec Ideal S64x256 .f32) (n : Fin 64), n.val = k.val % 64 → X (ix2 n j) = X (ix2 ⟨k.val % 64, by omega⟩ j) := fun X n h => congrArg (fun n => X (ix2 n j)) (Fin.ext h)
  pointwise
  by_cases h : k.val < 64
  · rw [dif_pos h, if_pos h]
    exact key A _ (by dsimp only; omega)
  rw [dif_neg h, if_neg h]
  by_cases h' : k.val < 128
  · rw [dif_pos (show k.val - 64 < 64 by omega), if_pos h']
    exact key B _ (by dsimp only; omega)
  rw [dif_neg (show ¬ k.val - 64 < 64 by omega), if_neg h']
  by_cases h'' : k.val < 192
  · rw [dif_pos (show k.val - 64 - 64 < 64 by omega), if_pos h'']
    exact key C _ (by dsimp only; omega)
  rw [dif_neg (show ¬ k.val - 64 - 64 < 64 by omega), if_neg h'']
  exact key D _ (by dsimp only; omega)

theorem block0 (c : Dev nD) (k j : Fin 64) : (StableHlo.after hostOps0 (fun b => m (c, b)) (Proc.devRef .tc main_v6) : Vec Ideal S64x64 .f32) (ix2 k j)
    = (m ((c : Thread nD τ).loc main_arg8) : Vec Ideal S2x4x64x64 .f32) (ix4 1 0 k j) := by
  entry_read
  pointwise
theorem block1 (c : Dev nD) (k j : Fin 64) : (StableHlo.after hostOps0 (fun b => m (c, b)) (Proc.devRef .tc main_v8) : Vec Ideal S64x64 .f32) (ix2 k j)
    = (m ((c : Thread nD τ).loc main_arg8) : Vec Ideal S2x4x64x64 .f32) (ix4 1 1 k j) := by
  entry_read
  pointwise
theorem block2 (c : Dev nD) (k j : Fin 64) : (StableHlo.after hostOps0 (fun b => m (c, b)) (Proc.devRef .tc main_v10) : Vec Ideal S64x64 .f32) (ix2 k j)
    = (m ((c : Thread nD τ).loc main_arg8) : Vec Ideal S2x4x64x64 .f32) (ix4 1 2 k j) := by
  entry_read
  pointwise
theorem block3 (c : Dev nD) (k j : Fin 64) : (StableHlo.after hostOps0 (fun b => m (c, b)) (Proc.devRef .tc main_v12) : Vec Ideal S64x64 .f32) (ix2 k j)
    = (m ((c : Thread nD τ).loc main_arg8) : Vec Ideal S2x4x64x64 .f32) (ix4 1 3 k j) := by
  entry_read
  pointwise

/-- The channel map's weight is block-diagonal: one block for each group of 64 channels. -/
theorem wf_read (c : Dev nD) (k j : Fin 256) : (V m c main_v14 : Vec Ideal S256x256 .bf16) (ix2 k j)
    = if k.val / 64 = j.val / 64 then (m ((c : Thread nD τ).loc main_arg8) : Vec Ideal S2x4x64x64 .f32) (ix4 1 ⟨k.val / 64, by omega⟩ ⟨k.val % 64, by omega⟩ ⟨j.val % 64, by omega⟩) else (0 : EReal) := by
  show (StableHlo.after (hostOps0 ++ (hostOps0_1 ++ (hostOps0_2 ++ []))) (fun b => m (c, b)) (Proc.devRef .tc main_v14) : Vec Ideal S256x256 .bf16) (ix2 k j) = _
  rw [after_append, after_append, after_append]
  refine (stage2 _ k j).trans ?_
  rw [stage1, cat_apply, pad0_apply, pad1_apply, pad2_apply, pad3_apply, block0, block1, block2, block3]
  have key : ∀ n : Fin 4, k.val / 64 = n.val →
      (if n.val = j.val / 64 then (m ((c : Thread nD τ).loc main_arg8) : Vec Ideal S2x4x64x64 .f32) (ix4 1 n ⟨k.val % 64, by omega⟩ ⟨j.val % 64, by omega⟩) else (0 : EReal))
      = if k.val / 64 = j.val / 64 then (m ((c : Thread nD τ).loc main_arg8) : Vec Ideal S2x4x64x64 .f32) (ix4 1 ⟨k.val / 64, by omega⟩ ⟨k.val % 64, by omega⟩ ⟨j.val % 64, by omega⟩) else (0 : EReal) := by
    intro n hn
    have hk : k.val / 64 < 4 := by
      have := k.isLt
      omega
    rw [show n = ⟨k.val / 64, hk⟩ from Fin.ext hn.symm]
  by_cases h : k.val < 64
  · rw [if_pos h]
    exact key 0 (show k.val / 64 = 0 by omega)
  rw [if_neg h]
  by_cases h' : k.val < 128
  · rw [if_pos h']
    exact key 1 (show k.val / 64 = 1 by omega)
  rw [if_neg h']
  by_cases h'' : k.val < 192
  · rw [if_pos h'']
    exact key 2 (show k.val / 64 = 2 by omega)
  rw [if_neg h'']
  exact key 3 (show k.val / 64 = 3 by omega)
end Cert.MixV

end
-- ==== Proof.MixArray.lean ====
/- The mixing kernel's result array from the arrays it is launched on, and those arrays from the arguments. -/
module

public import proofs.«01_k».proof.Proof.MixBlock
public import proofs.«01_k».proof.Proof.MixWeight

@[expose] public section

set_option maxRecDepth 16384

noncomputable section

namespace Cert.MixV
open Idealize.ShloMosaic Idealize.ShloMosaic.TcCoe Idealize.SL.Sem
open Idealize.ShloMosaic.Pipeline (Dat)
open Cert.MixIdeal Cert.MixIdeal.Gen Idealize.ShloMosaic.Pointwise
variable (m : (ℓ : Loc nD τ sig) → Buf (Elt Ideal) ℓ)

theorem idx : ∀ t : Fin cfg0.N, win0_0.index t = ![(grid0.coords t 0).val, 0]
    ∧ win0_1.index t = ![(grid0.coords t 0).val, 0]
    ∧ win0_2.index t = ![(grid0.coords t 1).val, 0, 0, 0]
    ∧ win0_3.index t = ![0, 0]
    ∧ win0_4.index t = ![(grid0.coords t 1).val, (grid0.coords t 0).val, 0]
    ∧ win0_5.index t = ![(grid0.coords t 1).val, (grid0.coords t 0).val, 0]
    ∧ win0_6.index t = ![(grid0.coords t 1).val, (grid0.coords t 0).val, 0]
    ∧ win0_7.index t = ![16 + (grid0.coords t 1).val, 0, 2]
    ∧ win0_8.index t = ![1, 0, 0]
    ∧ win0_9.index t = ![0, 0]
    ∧ win0_10.index t = ![0, 0]
    ∧ win0_11.index t = ![(grid0.coords t 1).val, (grid0.coords t 0).val, 0] :=
  (by decide +kernel : ∀ t : Fin grid0.N, _)

theorem mod_read (c : Dev nD) (b : Fin 32) (j : Fin 6144) : (V m c main_v0 : Vec Ideal S32x1x6144 .f32) (ix3 b 0 j)
    = (m ((c : Thread nD τ).loc main_arg7) : Vec Ideal S2x16x6144 .f32) (ix3 ⟨b.val / 16, by omega⟩ ⟨b.val % 16, by omega⟩ j) := by
  simp only [V, hostOps0, hostOps0_1, hostOps0_2, List.flatten_cons, List.flatten_nil, List.append_nil, List.cons_append, List.nil_append]
  entry_read
  pointwise
theorem cos_read (c : Dev nD) (f t : Fin 2048) : (V m c main_v21 : Vec Ideal S2048x2048 .bf16) (ix2 f t)
    = (m ((c : Thread nD τ).loc main_arg0) : Vec Ideal S2048x2048 .f32) (ix2 f t) := by
  simp only [V, hostOps0, hostOps0_1, hostOps0_2, List.flatten_cons, List.flatten_nil, List.append_nil, List.cons_append, List.nil_append]
  entry_read
  pointwise
theorem msin_read (c : Dev nD) (f t : Fin 2048) : (V m c main_v22 : Vec Ideal S2048x2048 .bf16) (ix2 f t)
    = (m ((c : Thread nD τ).loc main_arg1) : Vec Ideal S2048x2048 .f32) (ix2 f t) := by
  simp only [V, hostOps0, hostOps0_1, hostOps0_2, List.flatten_cons, List.flatten_nil, List.append_nil, List.cons_append, List.nil_append]
  entry_read
  pointwise
theorem re_read (c : Dev nD) (b : Fin 8) (t : Fin 2048) (j : Fin 256) : (V m c main_v4 : Vec Ideal S8x2x2048x256 .bf16) (ix4 b 0 t j)
    = (m ((c : Thread nD τ).loc main_arg2) : Vec Ideal S8x2048x256 .f32) (ix3 b t j) := by
  simp only [V, hostOps0, hostOps0_1, hostOps0_2, List.flatten_cons, List.flatten_nil, List.append_nil, List.cons_append, List.nil_append]
  entry_read
  pointwise
theorem im_read (c : Dev nD) (b : Fin 8) (t : Fin 2048) (j : Fin 256) : (V m c main_v4 : Vec Ideal S8x2x2048x256 .bf16) (ix4 b 1 t j)
    = (m ((c : Thread nD τ).loc main_arg3) : Vec Ideal S8x2048x256 .f32) (ix3 b t j) := by
  simp only [V, hostOps0, hostOps0_1, hostOps0_2, List.flatten_cons, List.flatten_nil, List.append_nil, List.cons_append, List.nil_append]
  entry_read
  pointwise
theorem attn_read (c : Dev nD) (b : Fin 8) (t : Fin 2048) (j : Fin 512) : (V m c main_v23 : Vec Ideal S8x2048x512 .bf16) (ix3 b t j)
    = (m ((c : Thread nD τ).loc main_arg4) : Vec Ideal S8x2048x512 .f32) (ix3 b t j) := by
  simp only [V, hostOps0, hostOps0_1, hostOps0_2, List.flatten_cons, List.flatten_nil, List.append_nil, List.cons_append, List.nil_append]
  entry_read
  pointwise
theorem rec_read (c : Dev nD) (b : Fin 8) (t : Fin 2048) (j : Fin 256) : (V m c main_v24 : Vec Ideal S8x2048x256 .bf16) (ix3 b t j)
    = (m ((c : Thread nD τ).loc main_arg5) : Vec Ideal S8x2048x256 .f32) (ix3 b t j) := by
  simp only [V, hostOps0, hostOps0_1, hostOps0_2, List.flatten_cons, List.flatten_nil, List.append_nil, List.cons_append, List.nil_append]
  entry_read
  pointwise
theorem wout_read (c : Dev nD) (l : Fin 2) (n e : Fin 1024) : (V m c main_v25 : Vec Ideal S2x1024x1024 .bf16) (ix3 l n e)
    = (m ((c : Thread nD τ).loc main_arg9) : Vec Ideal S2x1024x1024 .f32) (ix3 l n e) := by
  simp only [V, hostOps0, hostOps0_1, hostOps0_2, List.flatten_cons, List.flatten_nil, List.append_nil, List.cons_append, List.nil_append]
  entry_read
  pointwise
theorem lg_read (c : Dev nD) (e : Fin 1024) : (V m c main_v17 : Vec Ideal S1x1024 .f32) (ix2 0 e)
    = (m ((c : Thread nD τ).loc main_arg10) : Vec Ideal S2x1024 .f32) (ix2 1 e) := by
  simp only [V, hostOps0, hostOps0_1, hostOps0_2, List.flatten_cons, List.flatten_nil, List.append_nil, List.cons_append, List.nil_append]
  entry_read
  pointwise
theorem lb_read (c : Dev nD) (e : Fin 1024) : (V m c main_v20 : Vec Ideal S1x1024 .f32) (ix2 0 e)
    = (m ((c : Thread nD τ).loc main_arg11) : Vec Ideal S2x1024 .f32) (ix2 1 e) := by
  simp only [V, hostOps0, hostOps0_1, hostOps0_2, List.flatten_cons, List.flatten_nil, List.append_nil, List.cons_append, List.nil_append]
  entry_read
  pointwise
theorem x_read (c : Dev nD) : V m c main_arg6 = m ((c : Thread nD τ).loc main_arg6) := V_main_arg6 m c

/-- One element of the result, from the arrays the call is launched on. -/
def G (C S : Vec Ideal S2048x2048 .bf16) (P : Vec Ideal S8x2x2048x256 .bf16) (W : Vec Ideal S256x256 .bf16) (A : Vec Ideal S8x2048x512 .bf16) (R : Vec Ideal S8x2048x256 .bf16)
    (X : Vec Ideal S8x2048x1024 .f32) (M : Vec Ideal S32x1x6144 .f32) (wo : Vec Ideal S2x1024x1024 .bf16) (lg lb : Vec Ideal S1x1024 .f32) (b : Fin 8) (t : Fin 2048) (e : Fin 1024) : EReal :=
  outOf (fun s => C (ix2 t s)) (fun s => S (ix2 t s)) (fun s j => P (ix4 b 0 s j)) (fun s j => P (ix4 b 1 s j)) (fun k j => W (ix2 k j)) (fun k => A (ix3 b t k)) (fun k => R (ix3 b t k))
    (fun e => X (ix3 b t e)) (fun e => M (ix3 ⟨16 + b.val, by omega⟩ 0 ⟨2048 + e.val, by omega⟩)) (fun n e => wo (ix3 1 n e)) (fun e => lg (ix2 0 e)) (fun e => lb (ix2 0 e)) e

theorem outOf_congr {C S C' S' : Fin 2048 → EReal} {re im re' im' : Fin 2048 → Fin 256 → EReal} {wf wf' : Fin 256 → Fin 256 → EReal} {a a' : Fin 512 → EReal} {ρ ρ' : Fin 256 → EReal}
    {x g x' g' : Fin 1024 → EReal} {w w' : Fin 1024 → Fin 1024 → EReal} {lg lb lg' lb' : Fin 1024 → EReal} {e e' : Fin 1024}
    (a0 : ∀ s, C s = C' s) (a1 : ∀ s, S s = S' s) (a2 : ∀ s j, re s j = re' s j) (a3 : ∀ s j, im s j = im' s j) (a4 : ∀ k j, wf k j = wf' k j) (a5 : ∀ k, a k = a' k) (a6 : ∀ k, ρ k = ρ' k)
    (a7 : ∀ e, x e = x' e) (a8 : ∀ e, g e = g' e) (a9 : ∀ n e, w n e = w' n e) (a10 : ∀ e, lg e = lg' e) (a11 : ∀ e, lb e = lb' e) (a12 : e.val = e'.val) :
    outOf C S re im wf a ρ x g w lg lb e = outOf C' S' re' im' wf' a' ρ' x' g' w' lg' lb' e' := by
  obtain rfl := funext a0; obtain rfl := funext a1; obtain rfl := funext fun s => funext (a2 s); obtain rfl := funext fun s => funext (a3 s)
  obtain rfl := funext fun k => funext (a4 k); obtain rfl := funext a5; obtain rfl := funext a6; obtain rfl := funext a7; obtain rfl := funext a8
  obtain rfl := funext fun n => funext (a9 n); obtain rfl := funext a10; obtain rfl := funext a11; obtain rfl := Fin.ext a12
  rfl

/-! What each operand's block holds at a point of the grid. -/
theorem blk0 (c : Dev nD) (t : Fin cfg0.N) (r : Fin 512) (s T : Fin 2048) (hT : T.val = 512 * (grid0.coords t 0).val + r.val) :
    (iblk m c 0 t : Vec Ideal S512x2048 .bf16) (ix2 r s) = (V m c main_v21 : Vec Ideal S2048x2048 .bf16) (ix2 T s) := by
  blk_ext [iblk, idx t]
theorem blk1 (c : Dev nD) (t : Fin cfg0.N) (r : Fin 512) (s T : Fin 2048) (hT : T.val = 512 * (grid0.coords t 0).val + r.val) :
    (iblk m c 1 t : Vec Ideal S512x2048 .bf16) (ix2 r s) = (V m c main_v22 : Vec Ideal S2048x2048 .bf16) (ix2 T s) := by
  blk_ext [iblk, idx t]
theorem blk2 (c : Dev nD) (t : Fin cfg0.N) (z : Fin 2) (s : Fin 2048) (j : Fin 256) (B : Fin 8) (hB : B.val = (grid0.coords t 1).val) :
    (iblk m c 2 t : Vec Ideal S1x2x2048x256 .bf16) (ix4 0 z s j) = (V m c main_v4 : Vec Ideal S8x2x2048x256 .bf16) (ix4 B z s j) := by
  blk_ext [iblk, idx t]
theorem blk3 (c : Dev nD) (t : Fin cfg0.N) (k j : Fin 256) :
    (iblk m c 3 t : Vec Ideal S256x256 .bf16) (ix2 k j) = (V m c main_v14 : Vec Ideal S256x256 .bf16) (ix2 k j) := by
  blk_ext [iblk, idx t]
theorem blk4 (c : Dev nD) (t : Fin cfg0.N) (r k : Fin 512) (B : Fin 8) (T : Fin 2048) (hB : B.val = (grid0.coords t 1).val) (hT : T.val = 512 * (grid0.coords t 0).val + r.val) :
    (iblk m c 4 t : Vec Ideal S1x512x512 .bf16) (ix3 0 r k) = (V m c main_v23 : Vec Ideal S8x2048x512 .bf16) (ix3 B T k) := by
  blk_ext [iblk, idx t]
theorem blk5 (c : Dev nD) (t : Fin cfg0.N) (r : Fin 512) (k : Fin 256) (B : Fin 8) (T : Fin 2048) (hB : B.val = (grid0.coords t 1).val) (hT : T.val = 512 * (grid0.coords t 0).val + r.val) :
    (iblk m c 5 t : Vec Ideal S1x512x256 .bf16) (ix3 0 r k) = (V m c main_v24 : Vec Ideal S8x2048x256 .bf16) (ix3 B T k) := by
  blk_ext [iblk, idx t]
theorem blk6 (c : Dev nD) (t : Fin cfg0.N) (r : Fin 512) (k : Fin 1024) (B : Fin 8) (T : Fin 2048) (hB : B.val = (grid0.coords t 1).val) (hT : T.val = 512 * (grid0.coords t 0).val + r.val) :
    (iblk m c 6 t : Vec Ideal S1x512x1024 .f32) (ix3 0 r k) = (V m c main_arg6 : Vec Ideal S8x2048x1024 .f32) (ix3 B T k) := by
  blk_ext [iblk, idx t]
theorem blk7 (c : Dev nD) (t : Fin cfg0.N) (e : Fin 1024) (B : Fin 8) (hB : B.val = (grid0.coords t 1).val) :
    (iblk m c 7 t : Vec Ideal S1x1x1024 .f32) (ix3 0 0 e) = (V m c main_v0 : Vec Ideal S32x1x6144 .f32) (ix3 ⟨16 + B.val, by omega⟩ 0 ⟨2048 + e.val, by omega⟩) := by
  blk_ext [iblk, idx t]
theorem blk8 (c : Dev nD) (t : Fin cfg0.N) (n e : Fin 1024) :
    (iblk m c 8 t : Vec Ideal S1x1024x1024 .bf16) (ix3 0 n e) = (V m c main_v25 : Vec Ideal S2x1024x1024 .bf16) (ix3 1 n e) := by
  blk_ext [iblk, idx t]
theorem blk9 (c : Dev nD) (t : Fin cfg0.N) (e : Fin 1024) :
    (iblk m c 9 t : Vec Ideal S1x1024 .f32) (ix2 0 e) = (V m c main_v17 : Vec Ideal S1x1024 .f32) (ix2 0 e) := by
  blk_ext [iblk, idx t]
theorem blk10 (c : Dev nD) (t : Fin cfg0.N) (e : Fin 1024) :
    (iblk m c 10 t : Vec Ideal S1x1024 .f32) (ix2 0 e) = (V m c main_v20 : Vec Ideal S1x1024 .f32) (ix2 0 e) := by
  blk_ext [iblk, idx t]

theorem at_point (c : Dev nD) (t : Fin cfg0.N) (B : Fin 8) (T : Fin 2048) (E : Fin 1024) (r : Fin 512) (e : Fin 1024) (hB : B.val = (grid0.coords t 1).val)
    (hT : T.val = 512 * (grid0.coords t 0).val + r.val) (hE : e.val = E.val) :
      outOf (fun s => (iblk m c 0 t : Vec Ideal S512x2048 .bf16) (ix2 r s)) (fun s => (iblk m c 1 t : Vec Ideal S512x2048 .bf16) (ix2 r s))
        (fun s j => (iblk m c 2 t : Vec Ideal S1x2x2048x256 .bf16) (ix4 0 0 s j)) (fun s j => (iblk m c 2 t : Vec Ideal S1x2x2048x256 .bf16) (ix4 0 1 s j))
        (fun k j => (iblk m c 3 t : Vec Ideal S256x256 .bf16) (ix2 k j)) (fun k => (iblk m c 4 t : Vec Ideal S1x512x512 .bf16) (ix3 0 r k)) (fun k => (iblk m c 5 t : Vec Ideal S1x512x256 .bf16) (ix3 0 r k))
        (fun e => (iblk m c 6 t : Vec Ideal S1x512x1024 .f32) (ix3 0 r e)) (fun e => (iblk m c 7 t : Vec Ideal S1x1x1024 .f32) (ix3 0 0 e)) (fun n e => (iblk m c 8 t : Vec Ideal S1x1024x1024 .bf16) (ix3 0 n e))
        (fun e => (iblk m c 9 t : Vec Ideal S1x1024 .f32) (ix2 0 e)) (fun e => (iblk m c 10 t : Vec Ideal S1x1024 .f32) (ix2 0 e)) e
      = G (V m c main_v21) (V m c main_v22) (V m c main_v4) (V m c main_v14) (V m c main_v23) (V m c main_v24) (V m c main_arg6) (V m c main_v0) (V m c main_v25) (V m c main_v17) (V m c main_v20) B T E := by
  unfold G
  exact outOf_congr (fun s => blk0 m c t r s T hT) (fun s => blk1 m c t r s T hT) (fun s j => blk2 m c t 0 s j B hB) (fun s j => blk2 m c t 1 s j B hB) (fun k j => blk3 m c t k j)
    (fun k => blk4 m c t r k B T hB hT) (fun k => blk5 m c t r k B T hB hT) (fun e => blk6 m c t r e B T hB hT) (fun e => blk7 m c t e B hB) (fun n e => blk8 m c t n e)
    (fun e => blk9 m c t e) (fun e => blk10 m c t e) hE

theorem final (c : Dev nD) : (dats m 0 c).arrAt 11 cfg0.N = fun i : S8x2048x1024.Idx =>
    G (V m c main_v21) (V m c main_v22) (V m c main_v4) (V m c main_v14) (V m c main_v23) (V m c main_v24) (V m c main_arg6) (V m c main_v0) (V m c main_v25) (V m c main_v17) (V m c main_v20) (i 0) (i 1) (i 2) := by
  refine (dats m 0 c).arrAt_eq_of_covers 11 _ (by decide +kernel) fun t _ y => ?_
  blk_simp
  rw [after0_11]
  unfold outsAt0
  refine (out_apply c t _ _ _ _ _ _ _ _ _ _ _ (y 0) (y 1) (y 2) y ?_).trans ?_
  · funext a; fin_cases a <;> rfl
  unfold rowOut
  refine at_point m c t _ _ _ _ _ ?_ ?_ ?_
  · have h0 : (y 0).val < 1 := (y 0).isLt
    blk_simp [idx t]
  · blk_simp [idx t]
    try omega
  · blk_simp [idx t]
end Cert.MixV

end
-- ==== Proof.MixRead.lean ====
/- The mixing reference, read one element at a time. -/
module

public import proofs.«01_k».proof.Proof.Gen.MixRefIdeal.Read
public import proofs.«01_k».proof.Proof.MixBlock
public import Idealize.ShloMosaic.Lib.Pointwise

@[expose] public section

set_option maxRecDepth 16384

noncomputable section

namespace Cert.MixV
open Idealize.ShloMosaic Idealize.ShloMosaic.TcCoe Idealize.SL.Sem Idealize.ShloMosaic.Pointwise
open Cert.MixRefIdeal Cert.MixRefIdeal.Read

variable (x0 x1 : Vec Ideal S2048x2048 .f32) (x2 x3 : Vec Ideal S8x2048x256 .f32) (x4 : Vec Ideal S8x2048x512 .f32) (x5 : Vec Ideal S8x2048x256 .f32)
  (x6 : Vec Ideal S8x2048x1024 .f32) (x7 : Vec Ideal S2x16x6144 .f32) (x8 : Vec Ideal S2x4x64x64 .f32) (x9 : Vec Ideal S2x1024x1024 .f32) (x10 x11 : Vec Ideal S2x1024 .f32)

theorem ref_mod (b : Fin 8) (j : Fin 6144) : val_main_v2 (F := Ideal) x7 (ix3 b 0 j) = x7 (ix3 1 ⟨b.val, by omega⟩ j) := by
  unfold val_main_v2 val_main_v1 val_main_v0
  pointwise

theorem ref_z (b : Fin 8) (t : Fin 2048) (j : Fin 256) : val_main_v13 (F := Ideal) x0 x1 x2 x3 (ix3 b t j)
    = zAt (fun s => x0 (ix2 t s)) (fun s => x1 (ix2 t s)) (fun s j => x2 (ix3 b s j)) (fun s j => x3 (ix3 b s j)) j := by
  have h : val_main_v13 (F := Ideal) x0 x1 x2 x3 (ix3 b t j) = (∑ s : Fin 2048, x2 (ix3 b s j) * x0 (ix2 t s)) + ∑ s : Fin 2048, x3 (ix3 b s j) * x1 (ix2 t s) := by
    unfold val_main_v13 val_main_v12 val_main_v11 val_main_v10 val_main_v9
    pointwise
  rw [h]
  unfold zAt
  exact congrArg₂ (· + ·) (Finset.sum_congr rfl fun s _ => mul_comm _ _) (Finset.sum_congr rfl fun s _ => mul_comm _ _)

theorem ref_map (b : Fin 8) (t : Fin 2048) (j : Fin 256) : val_main_v19 (F := Ideal) x0 x1 x2 x3 x8 (ix3 b t j)
    = ∑ k : Fin 64, x8 (ix4 1 ⟨j.val / 64, by omega⟩ k ⟨j.val % 64, by omega⟩) * val_main_v13 (F := Ideal) x0 x1 x2 x3 (ix3 b t ⟨64 * (j.val / 64) + k.val, by omega⟩) := by
  unfold val_main_v19 val_main_v18 val_main_v17 val_main_v16 val_main_v15 val_main_v14
  generalize val_main_v13 (F := Ideal) x0 x1 x2 x3 = Z
  pointwise
  exact Finset.sum_congr rfl fun k _ => congrArg₂ (· * ·) rfl (congrArg Z (congrArg (ix3 b t) (Fin.ext (congrArg (· + k.val) (Nat.mul_comm _ _)))))

theorem ref_cat (b : Fin 8) (t : Fin 2048) (n : Fin 1024) : val_main_v20 (F := Ideal) x0 x1 x2 x3 x4 x5 x8 (ix3 b t n)
    = if h : n.val < 512 then x4 (ix3 b t ⟨n.val, h⟩) else if h' : n.val < 768 then x5 (ix3 b t ⟨n.val - 512, by omega⟩)
      else val_main_v19 (F := Ideal) x0 x1 x2 x3 x8 (ix3 b t ⟨n.val - 768, by omega⟩) := by
  unfold val_main_v20
  generalize val_main_v19 (F := Ideal) x0 x1 x2 x3 x8 = Z
  pointwise
  by_cases h : n.val < 512
  · rw [dif_pos h, dif_pos h]
  rw [dif_neg h, dif_neg h]
  by_cases h' : n.val < 768
  · rw [dif_pos h', dif_pos (show n.val - 512 < 256 by omega)]
  rw [dif_neg h', dif_neg (show ¬ n.val - 512 < 256 by omega)]
  exact congrArg Z (congrArg (ix3 b t) (Fin.ext (by simp only; omega)))

theorem ref_proj (b : Fin 8) (t : Fin 2048) (e : Fin 1024) : val_main_v23 (F := Ideal) x0 x1 x2 x3 x4 x5 x8 x9 (ix3 b t e)
    = ∑ n : Fin 1024, val_main_v20 (F := Ideal) x0 x1 x2 x3 x4 x5 x8 (ix3 b t n) * x9 (ix3 1 n e) := by
  unfold val_main_v23 val_main_v22 val_main_v21
  generalize val_main_v20 (F := Ideal) x0 x1 x2 x3 x4 x5 x8 = Z
  pointwise

theorem ref_res (b : Fin 8) (t : Fin 2048) (e : Fin 1024) : val_main_v28 (F := Ideal) x0 x1 x2 x3 x4 x5 x6 x7 x8 x9 (ix3 b t e)
    = Ideal.ofBits .f32 0x3FB504F3#32 * x6 (ix3 b t e) + x7 (ix3 1 ⟨b.val, by omega⟩ ⟨2048 + e.val, by omega⟩) * val_main_v23 (F := Ideal) x0 x1 x2 x3 x4 x5 x8 x9 (ix3 b t e) := by
  rw [← ref_mod x7]
  unfold val_main_v28 val_main_v27 val_main_v26 val_main_v25 val_main_v24 val_main_v5
  generalize val_main_v23 (F := Ideal) x0 x1 x2 x3 x4 x5 x8 x9 = Z
  generalize val_main_v2 (F := Ideal) x7 = Z'
  pointwise [val_main_cst]

theorem ref_mean (b : Fin 8) (t : Fin 2048) : val_main_v36 (F := Ideal) x0 x1 x2 x3 x4 x5 x6 x7 x8 x9 (ix3 b t 0)
    = Ideal.div (∑ d : Fin 1024, val_main_v28 (F := Ideal) x0 x1 x2 x3 x4 x5 x6 x7 x8 x9 (ix3 b t d)) (Ideal.ofBits .f32 0x44800000#32) := by
  unfold val_main_v36 val_main_v35 val_main_v34 val_main_v33
  generalize val_main_v28 (F := Ideal) x0 x1 x2 x3 x4 x5 x6 x7 x8 x9 = Z
  pointwise [val_main_cst_0, val_main_cst_1]

theorem ref_norm (b : Fin 8) (t : Fin 2048) (e : Fin 1024) : val_main_v56 (F := Ideal) x0 x1 x2 x3 x4 x5 x6 x7 x8 x9 x10 x11 (ix3 b t e)
    = FfnV.norm (fun d => val_main_v28 (F := Ideal) x0 x1 x2 x3 x4 x5 x6 x7 x8 x9 (ix3 b t d)) (fun d => x10 (ix2 1 d)) (fun d => x11 (ix2 1 d)) e := by
  unfold FfnV.norm
  rw [← ref_mean]
  unfold val_main_v56 val_main_v55 val_main_v54 val_main_v53 val_main_v52 val_main_v51 val_main_v50 val_main_v49 val_main_v48 val_main_v47 val_main_v46 val_main_v45
    val_main_v44 val_main_v43 val_main_v42 val_main_v41 val_main_v40 val_main_v39 val_main_v38 val_main_v37 val_main_v32 val_main_v31 val_main_v30 val_main_v29
  generalize val_main_v36 (F := Ideal) x0 x1 x2 x3 x4 x5 x6 x7 x8 x9 = M
  generalize val_main_v28 (F := Ideal) x0 x1 x2 x3 x4 x5 x6 x7 x8 x9 = Z
  pointwise [val_main_cst_2, val_main_cst_3, val_main_cst_4]

end Cert.MixV

end
-- ==== Proof.MixEq.lean ====
/- The mixing kernel's result array is the reference's term of the arguments. -/
module

public import proofs.«01_k».proof.Proof.MixArray
public import proofs.«01_k».proof.Proof.MixRead

@[expose] public section

set_option maxRecDepth 16384

noncomputable section

namespace Cert.MixV
open Idealize.ShloMosaic Idealize.ShloMosaic.TcCoe Idealize.SL.Sem Idealize.ShloMosaic.Pointwise
open Idealize.ShloMosaic.Pipeline (Dat)
open Cert.MixIdeal Cert.MixIdeal.Gen
variable (m : (ℓ : Loc nD τ sig) → Buf (Elt Ideal) ℓ)

/-- A sum over the 1024 joined columns is the sum over each group's. -/
theorem sum_split (f : Fin 1024 → EReal) : ∑ n : Fin 1024, f n
    = (∑ k : Fin 512, f ⟨k.val, by omega⟩) + (∑ k : Fin 256, f ⟨512 + k.val, by omega⟩) + ∑ k : Fin 256, f ⟨768 + k.val, by omega⟩ :=
  (Fin.sum_univ_add (a := 768) (b := 256) f).trans (congrArg (· + ∑ k : Fin 256, f ⟨768 + k.val, by omega⟩) (Fin.sum_univ_add (a := 512) (b := 256) fun k : Fin 768 => f ⟨k.val, by omega⟩))

/-- A product with a block-diagonal weight is the product with the block of the column's group. -/
theorem sum_diag (z : Fin 256 → EReal) (W : Fin 4 → Fin 64 → Fin 64 → EReal) (j : Fin 256) :
    ∑ k : Fin 256, z k * (if k.val / 64 = j.val / 64 then W ⟨k.val / 64, by omega⟩ ⟨k.val % 64, by omega⟩ ⟨j.val % 64, by omega⟩ else 0)
      = ∑ k : Fin 64, W ⟨j.val / 64, by omega⟩ k ⟨j.val % 64, by omega⟩ * z ⟨64 * (j.val / 64) + k.val, by omega⟩ := by
  have hj := j.isLt
  refine (Finset.sum_of_injOn (fun k : Fin 64 => (⟨64 * (j.val / 64) + k.val, by omega⟩ : Fin 256)) ?_ ?_ ?_ ?_).symm
  · intro a _ b _ h
    have := congrArg Fin.val h
    simp only at this
    exact Fin.ext (by omega)
  · exact fun _ _ => Finset.mem_coe.2 (Finset.mem_univ _)
  · intro k _ h
    have hk : ¬ k.val / 64 = j.val / 64 := fun e => h ⟨⟨k.val % 64, by omega⟩, Finset.mem_coe.2 (Finset.mem_univ _), Fin.ext (by simp only; omega)⟩
    rw [if_neg hk, mul_zero]
  · intro k _
    have hd : (64 * (j.val / 64) + k.val) / 64 = j.val / 64 := by have := k.isLt; omega
    have hm : (64 * (j.val / 64) + k.val) % 64 = k.val := by have := k.isLt; omega
    simp only [hd, hm, if_true]
    exact mul_comm _ _

/-- The joined columns' projection, in the reference and in the kernel. -/
theorem mix_ref (x0 x1 : Vec Ideal S2048x2048 .f32) (x2 x3 : Vec Ideal S8x2048x256 .f32) (x4 : Vec Ideal S8x2048x512 .f32) (x5 : Vec Ideal S8x2048x256 .f32)
    (x8 : Vec Ideal S2x4x64x64 .f32) (x9 : Vec Ideal S2x1024x1024 .f32) (b : Fin 8) (t : Fin 2048) (e : Fin 1024) :
    Cert.MixRefIdeal.Read.val_main_v23 (F := Ideal) x0 x1 x2 x3 x4 x5 x8 x9 (ix3 b t e)
      = mixAt (fun s => x0 (ix2 t s)) (fun s => x1 (ix2 t s)) (fun s j => x2 (ix3 b s j)) (fun s j => x3 (ix3 b s j))
        (fun k j => if k.val / 64 = j.val / 64 then x8 (ix4 1 ⟨k.val / 64, by omega⟩ ⟨k.val % 64, by omega⟩ ⟨j.val % 64, by omega⟩) else 0)
        (fun k => x4 (ix3 b t k)) (fun k => x5 (ix3 b t k)) (fun n e => x9 (ix3 1 n e)) e := by
  rw [ref_proj, sum_split]
  unfold mixAt
  refine congrArg₂ (· + ·) (congrArg₂ (· + ·) (Finset.sum_congr rfl fun k _ => congrArg (· * _) ?_) (Finset.sum_congr rfl fun k _ => congrArg (· * _) ?_)) (Finset.sum_congr rfl fun k _ => congrArg (· * _) ?_)
  · have hk := k.isLt
    rw [ref_cat, dif_pos (show k.val < 512 from hk)]
  · have hk := k.isLt
    rw [ref_cat, dif_neg (show ¬ 512 + k.val < 512 by omega), dif_pos (show 512 + k.val < 768 by omega)]
    exact congrArg (fun k => x5 (ix3 b t k)) (Fin.ext (by simp only; omega))
  · have hk := k.isLt
    rw [ref_cat, dif_neg (show ¬ 768 + k.val < 512 by omega), dif_neg (show ¬ 768 + k.val < 768 by omega)]
    have hk' : (⟨768 + k.val - 768, by omega⟩ : Fin 256) = k := Fin.ext (by simp only; omega)
    rw [show (⟨(⟨768 + k.val, by omega⟩ : Fin 1024).val - 768, by simp only; omega⟩ : Fin 256) = k from hk', ref_map]
    unfold fAt
    refine Eq.trans ?_ (sum_diag _ (fun g k j => x8 (ix4 1 g k j)) k).symm
    exact Finset.sum_congr rfl fun k' _ => congrArg (_ * ·) (ref_z x0 x1 x2 x3 b t _)

/-- One element of the reference's result. -/
theorem ref_final (x0 x1 : Vec Ideal S2048x2048 .f32) (x2 x3 : Vec Ideal S8x2048x256 .f32) (x4 : Vec Ideal S8x2048x512 .f32) (x5 : Vec Ideal S8x2048x256 .f32)
    (x6 : Vec Ideal S8x2048x1024 .f32) (x7 : Vec Ideal S2x16x6144 .f32) (x8 : Vec Ideal S2x4x64x64 .f32) (x9 : Vec Ideal S2x1024x1024 .f32) (x10 x11 : Vec Ideal S2x1024 .f32)
    (b : Fin 8) (t : Fin 2048) (e : Fin 1024) :
    Cert.MixRefIdeal.Read.val_main_v56 (F := Ideal) x0 x1 x2 x3 x4 x5 x6 x7 x8 x9 x10 x11 (ix3 b t e)
      = outOf (fun s => x0 (ix2 t s)) (fun s => x1 (ix2 t s)) (fun s j => x2 (ix3 b s j)) (fun s j => x3 (ix3 b s j))
        (fun k j => if k.val / 64 = j.val / 64 then x8 (ix4 1 ⟨k.val / 64, by omega⟩ ⟨k.val % 64, by omega⟩ ⟨j.val % 64, by omega⟩) else 0)
        (fun k => x4 (ix3 b t k)) (fun k => x5 (ix3 b t k)) (fun e => x6 (ix3 b t e)) (fun e => x7 (ix3 1 ⟨b.val, by omega⟩ ⟨2048 + e.val, by omega⟩)) (fun n e => x9 (ix3 1 n e))
        (fun e => x10 (ix2 1 e)) (fun e => x11 (ix2 1 e)) e := by
  rw [ref_norm]
  unfold outOf
  refine congrArg (fun v => FfnV.norm v _ _ e) (funext fun d => ?_)
  rw [ref_res, mix_ref]

theorem mod_latent (c : Dev nD) (b : Fin 8) (j : Fin 6144) : (V m c main_v0 : Vec Ideal S32x1x6144 .f32) (ix3 ⟨16 + b.val, by omega⟩ 0 j)
    = (m ((c : Thread nD τ).loc main_arg7) : Vec Ideal S2x16x6144 .f32) (ix3 1 ⟨b.val, by omega⟩ j) := by
  rw [mod_read]
  refine congrArg (m ((c : Thread nD τ).loc main_arg7) : Vec Ideal S2x16x6144 .f32) (funext fun a => ?_)
  fin_cases a <;> apply Fin.ext
  · show (16 + b.val) / 16 = 1; omega
  · show (16 + b.val) % 16 = b.val; omega
  · rfl

/-- The result array of the mixing call, as the reference's term of the arguments. -/
theorem mix_eq (c : Dev nD) : (dats m 0 c).arrAt 11 cfg0.N
    = Cert.MixRefIdeal.Read.val_main_v56 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) (m ((c : Thread nD τ).loc main_arg9))
      (m ((c : Thread nD τ).loc main_arg10)) (m ((c : Thread nD τ).loc main_arg11)) := by
  rw [final m c]
  funext i
  obtain ⟨b, t, e, rfl⟩ : ∃ (b : Fin 8) (t : Fin 2048) (e : Fin 1024), i = ix3 b t e :=
    ⟨i 0, i 1, i 2, by funext a; fin_cases a <;> rfl⟩
  refine Eq.trans ?_ (ref_final _ _ _ _ _ _ _ _ _ _ _ _ b t e).symm
  show G _ _ _ _ _ _ _ _ _ _ _ b t e = _
  unfold G
  exact outOf_congr (fun s => cos_read m c t s) (fun s => msin_read m c t s) (fun s j => re_read m c b s j) (fun s j => im_read m c b s j) (fun k j => wf_read m c k j)
    (fun k => attn_read m c b t k) (fun k => rec_read m c b t k) (fun e => congrFun (x_read m c) _) (fun e => mod_latent m c b _) (fun n e => wout_read m c 1 n e)
    (fun e => lg_read m c e) (fun e => lb_read m c e) rfl
end Cert.MixV

end
-- ==== Proof.ProjPay.lean ====
/- The arithmetic of the in-projection kernel's stages, element by element. -/
module

public import proofs.«01_k».proof.Proof.Gen.ProjIdeal.Skeleton
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ProjV
open Idealize.ShloMosaic Idealize.ShloMosaic.TcCoe Idealize.SL.Sem Idealize.ShloMosaic.Pointwise
open Cert.ProjIdeal Cert.ProjIdeal.Gen

/-- One modulated element. -/
def modAt (x sh sc : Fin 1024 → EReal) (k : Fin 1024) : EReal := x k * (1 + sc k) + sh k

theorem mod_apply (x : Vec Ideal S1x512x1024 .f32) (sc sh : Vec Ideal S1x1x1024 .f32) (r : Fin 512) (k : Fin 1024) :
    k0_pay1 (F := Ideal) x sc sh (ix2 r k) = modAt (fun k => x (ix3 0 r k)) (fun k => sh (ix3 0 0 k)) (fun k => sc (ix3 0 0 k)) k := by
  unfold modAt
  pointwise [k0_pay1]

theorem qk_apply (H : Vec Ideal S512x1024 .bf16) (W : Vec Ideal S1x1024x640 .bf16) (r : Fin 512) (j : Fin 640) :
    k0_pay2 (F := Ideal) H W (ix2 r j) = ∑ k : Fin 1024, H (ix2 r k) * W (ix3 0 k j) := by
  pointwise [k0_pay2]
theorem v_apply (H : Vec Ideal S512x1024 .bf16) (W : Vec Ideal S1x1024x128 .bf16) (r : Fin 512) (j : Fin 128) :
    k0_pay3 (F := Ideal) H W (ix2 r j) = ∑ k : Fin 1024, H (ix2 r k) * W (ix3 0 k j) := by
  pointwise [k0_pay3]
theorem h256_apply (H : Vec Ideal S512x1024 .bf16) (W : Vec Ideal S1x1024x256 .bf16) (y : Fin 1) (r : Fin 512) (j : Fin 256) :
    k0_pay7 (F := Ideal) H W (ix3 y r j) = ∑ k : Fin 1024, H (ix2 r k) * W (ix3 0 k j) := by
  pointwise [k0_pay7]
theorem hi_apply (H : Vec Ideal S512x1024 .bf16) (W : Vec Ideal S1x1024x256 .bf16) (y : Fin 1) (r : Fin 512) (j : Fin 256) :
    k0_pay17 (F := Ideal) H (k0_pay15 W) (ix3 y r j) = ∑ k : Fin 1024, H (ix2 r k) * W (ix3 0 k j) := by
  pointwise [k0_pay17, k0_pay16, k0_pay15]
theorem hit_apply (H : Vec Ideal S512x1024 .bf16) (W : Vec Ideal S1x1024x256 .bf16) (r : Fin 512) (j : Fin 256) :
    k0_pay18 (F := Ideal) H (k0_pay15 W) (ix2 j r) = ∑ k : Fin 1024, H (ix2 r k) * W (ix3 0 k j) := by
  pointwise [k0_pay18, k0_pay16, k0_pay15]
theorem hg_apply (H : Vec Ideal S512x1024 .bf16) (W : Vec Ideal S1x1024x256 .bf16) (y : Fin 1) (r : Fin 512) (j : Fin 256) :
    k0_pay38 (F := Ideal) H W (ix3 y r j) = ∑ k : Fin 1024, H (ix2 r k) * W (ix3 0 k j) := by
  pointwise [k0_pay38]
theorem hf_apply (H : Vec Ideal S512x1024 .bf16) (W : Vec Ideal S1x1024x512 .bf16) (y : Fin 1) (r j : Fin 512) :
    k0_pay47 (F := Ideal) H W (ix3 y r j) = ∑ k : Fin 1024, H (ix2 r k) * W (ix3 0 k j) := by
  pointwise [k0_pay47]
theorem ab_apply (H : Vec Ideal S512x1024 .bf16) (W : Vec Ideal S1x1024x256 .bf16) (D : Vec Ideal S256x512 .bf16) (r j : Fin 512) :
    k0_pay44 (F := Ideal) H W D (ix2 r j) = ∑ i : Fin 256, (∑ k : Fin 1024, H (ix2 r k) * W (ix3 0 k i)) * D (ix2 i j) := by
  pointwise [k0_pay44]
theorem re_apply (H : Vec Ideal S512x1024 .bf16) (W : Vec Ideal S1x1024x256 .bf16) (D : Vec Ideal S256x512 .bf16) (r : Fin 512) (j : Fin 256) :
    k0_pay45 (F := Ideal) H W D (ix4 0 0 r j) = k0_pay44 (F := Ideal) H W D (ix2 r ⟨j.val, by omega⟩) := by
  pointwise [k0_pay45]
theorem im_apply (H : Vec Ideal S512x1024 .bf16) (W : Vec Ideal S1x1024x256 .bf16) (D : Vec Ideal S256x512 .bf16) (r : Fin 512) (j : Fin 256) :
    k0_pay46 (F := Ideal) H W D (ix4 0 0 r j) = k0_pay44 (F := Ideal) H W D (ix2 r ⟨256 + j.val, by omega⟩) := by
  pointwise [k0_pay46]

/-- The eight chunks of the transposed values. -/
theorem chunk0 (H : Vec Ideal S512x1024 .bf16) (W : FVec Ideal S1024x256 .bf16) (j : Fin 256) (r : Fin 64) :
    k0_pay19 (F := Ideal) H W (ix4 0 0 j r) = k0_pay18 (F := Ideal) H W (ix2 j ⟨r.val, by omega⟩) := by
  pointwise [k0_pay19]
theorem chunk1 (H : Vec Ideal S512x1024 .bf16) (W : FVec Ideal S1024x256 .bf16) (j : Fin 256) (r : Fin 64) :
    k0_pay20 (F := Ideal) H W (ix4 0 0 j r) = k0_pay18 (F := Ideal) H W (ix2 j ⟨64 + r.val, by omega⟩) := by
  pointwise [k0_pay20]
theorem chunk2 (H : Vec Ideal S512x1024 .bf16) (W : FVec Ideal S1024x256 .bf16) (j : Fin 256) (r : Fin 64) :
    k0_pay21 (F := Ideal) H W (ix4 0 0 j r) = k0_pay18 (F := Ideal) H W (ix2 j ⟨128 + r.val, by omega⟩) := by
  pointwise [k0_pay21]
theorem chunk3 (H : Vec Ideal S512x1024 .bf16) (W : FVec Ideal S1024x256 .bf16) (j : Fin 256) (r : Fin 64) :
    k0_pay22 (F := Ideal) H W (ix4 0 0 j r) = k0_pay18 (F := Ideal) H W (ix2 j ⟨192 + r.val, by omega⟩) := by
  pointwise [k0_pay22]
theorem chunk4 (H : Vec Ideal S512x1024 .bf16) (W : FVec Ideal S1024x256 .bf16) (j : Fin 256) (r : Fin 64) :
    k0_pay23 (F := Ideal) H W (ix4 0 0 j r) = k0_pay18 (F := Ideal) H W (ix2 j ⟨256 + r.val, by omega⟩) := by
  pointwise [k0_pay23]
theorem chunk5 (H : Vec Ideal S512x1024 .bf16) (W : FVec Ideal S1024x256 .bf16) (j : Fin 256) (r : Fin 64) :
    k0_pay25 (F := Ideal) (k0_pay24 H W) (ix4 0 0 j r) = k0_pay18 (F := Ideal) H W (ix2 j ⟨320 + r.val, by omega⟩) := by
  pointwise [k0_pay25, k0_pay24]
theorem chunk6 (H : Vec Ideal S512x1024 .bf16) (W : FVec Ideal S1024x256 .bf16) (j : Fin 256) (r : Fin 64) :
    k0_pay26 (F := Ideal) (k0_pay18 H W) (ix4 0 0 j r) = k0_pay18 (F := Ideal) H W (ix2 j ⟨384 + r.val, by omega⟩) := by
  pointwise [k0_pay26]
theorem chunk7 (H : Vec Ideal S512x1024 .bf16) (W : FVec Ideal S1024x256 .bf16) (j : Fin 256) (r : Fin 64) :
    k0_pay27 (F := Ideal) (k0_pay18 H W) (ix4 0 0 j r) = k0_pay18 (F := Ideal) H W (ix2 j ⟨448 + r.val, by omega⟩) := by
  pointwise [k0_pay27]

/-- Values of one head, then a one and zeros. -/
def padAt (v : Fin 64 → EReal) (l : Fin 128) : EReal := if h : l.val < 64 then v ⟨l.val, h⟩ else if l.val = 64 then 1 else 0

theorem lane_lt (l : Fin 128) : IntOp.cmpi CmpIPredicate.slt (BitVec.ofNat 32 l.val) 64#32 = if l.val < 64 then 1#1 else 0#1 := by
  revert l; decide +kernel
theorem lane_eq (l : Fin 128) : IntOp.cmpi CmpIPredicate.eq (BitVec.ofNat 32 l.val) 64#32 = if l.val = 64 then 1#1 else 0#1 := by
  revert l; decide +kernel

theorem v0_apply (V : FVec Ideal S512x128 .f32) (r : Fin 512) (l : Fin 128) :
    k0_pay5 (F := Ideal) V (iota .tc S512x128 32 [1] iota_S512x128_d1_w32) k0_pay4 (ix4 0 0 r l) = padAt (fun d => V (ix2 r ⟨d.val, by omega⟩)) l := by
  unfold padAt
  pointwise [k0_pay5, k0_pay4]
  rw [lane_lt, lane_eq]
  split_ifs <;> rfl
theorem v1_apply (V : FVec Ideal S512x128 .f32) (r : Fin 512) (l : Fin 128) :
    k0_pay6 (F := Ideal) V (iota .tc S512x128 32 [1] iota_S512x128_d1_w32) (ix4 0 0 r l) = padAt (fun d => V (ix2 r ⟨64 + d.val, by omega⟩)) l := by
  unfold padAt
  pointwise [k0_pay6]
  rw [lane_lt, lane_eq]
  by_cases h : l.val < 64
  · rw [if_pos h, dif_pos h]
    exact congrArg (fun q => V (ix2 r q)) (Fin.ext (by dsimp only; omega))
  · rw [if_neg h, dif_neg h]
    split_ifs <;> rfl

/-- The root-mean-square norm of a row against a table of means. -/
def normAt {n : ℕ} (y : Fin n → EReal) (bd : Fin n → Fin n → EReal) (g : Fin n → EReal) (j : Fin n) : EReal :=
  y j * Ideal.rsqrt ((∑ i : Fin n, y i * y i * bd i j) + Ideal.ofBits .f32 0x358637BD#32) * g j

theorem norm_apply (Y : Vec Ideal S512x256 .f32) (D : Vec Ideal S256x256 .bf16) (g : Vec Ideal S1x256 .f32) (r : Fin 512) (j : Fin 256) :
    k0_pay8 (F := Ideal) Y D g (ix2 r j) = normAt (fun j => Y (ix2 r j)) (fun i j => D (ix2 i j)) (fun j => g (ix2 0 j)) j := by
  unfold normAt
  pointwise [k0_pay8]
theorem norm28 (Y : Vec Ideal S512x256 .f32) (D : Vec Ideal S256x256 .bf16) (g : Vec Ideal S1x256 .f32) :
    k0_pay28 (F := Ideal) Y D g = k0_pay8 (F := Ideal) Y D g := rfl
theorem normk_apply (Y : Vec Ideal S512x128 .f32) (D : Vec Ideal S128x128 .bf16) (g : Vec Ideal S1x128 .f32) (r : Fin 512) (j : Fin 128) :
    k0_pay39 (F := Ideal) Y D g (ix2 r j) = normAt (fun j => Y (ix2 r j)) (fun i j => D (ix2 i j)) (fun j => g (ix2 0 j)) j := by
  unfold normAt
  pointwise [k0_pay39]

/-- The rotation of a row of 128 lanes: each lane and its partner sixteen lanes away. -/
def ropeAt (N C S : Fin 128 → EReal) (l : Fin 128) : EReal :=
  N l * C l + (if 16 ≤ l.val % 32 then N ⟨(l.val + 112) % 128, by omega⟩ else N ⟨(l.val + 16) % 128, by omega⟩) * S l

/-- Whether a lane is in the upper half of its group of 32, as the kernel computes it. -/
def upper (l : BitVec 32) : BitVec 1 :=
  IntOp.cmpi CmpIPredicate.sge
    (Scalar.select
      (IntOp.andi
        (IntOp.xori
          (IntOp.cmpi CmpIPredicate.slt (IntOp.remsi ArithUnit.vector l (Scalar.select (Scalar.cmpi CmpIPredicate.eq 32#32 0#32) 1#32 32#32)) 0#32)
          (Scalar.cmpi CmpIPredicate.slt (Scalar.select (Scalar.cmpi CmpIPredicate.eq 32#32 0#32) 1#32 32#32) 0#32))
        (IntOp.cmpi CmpIPredicate.ne (IntOp.remsi ArithUnit.vector l (Scalar.select (Scalar.cmpi CmpIPredicate.eq 32#32 0#32) 1#32 32#32)) 0#32))
      (IntOp.addi (IntOp.remsi ArithUnit.vector l (Scalar.select (Scalar.cmpi CmpIPredicate.eq 32#32 0#32) 1#32 32#32))
        (Scalar.select (Scalar.cmpi CmpIPredicate.eq 32#32 0#32) 1#32 32#32))
      (IntOp.remsi ArithUnit.vector l (Scalar.select (Scalar.cmpi CmpIPredicate.eq 32#32 0#32) 1#32 32#32)))
    16#32
theorem upper_eq (l : Fin 128) : upper (BitVec.ofNat 32 l.val) = if 16 ≤ l.val % 32 then 1#1 else 0#1 := by
  revert l; decide +kernel
theorem partner_eq (N : Fin 128 → EReal) (l : Fin 128) (h : (l.val + 128 - 16) % 128 < 128) (h' : (l.val + 128 - 112) % 128 < 128) :
    Scalar.select (upper (BitVec.ofNat 32 l.val)) (N ⟨(l.val + 128 - 16) % 128, h⟩) (N ⟨(l.val + 128 - 112) % 128, h'⟩)
      = if 16 ≤ l.val % 32 then N ⟨(l.val + 112) % 128, by omega⟩ else N ⟨(l.val + 16) % 128, by omega⟩ := by
  rw [upper_eq]
  by_cases c : 16 ≤ l.val % 32
  · rw [if_pos c, if_pos c]
    exact congrArg N (Fin.ext (by dsimp only; omega))
  · rw [if_neg c, if_neg c]
    exact congrArg N (Fin.ext (by dsimp only; omega))

theorem ropek_apply (N C S : FVec Ideal S512x128 .f32) (r : Fin 512) (l : Fin 128) :
    k0_pay41 (F := Ideal) N C S (ix2 l r) = ropeAt (fun l => N (ix2 r l)) (fun l => C (ix2 r l)) (fun l => S (ix2 r l)) l := by
  unfold ropeAt
  rw [← partner_eq (fun l => N (ix2 r l)) l (by omega) (by omega)]
  unfold upper
  pointwise [k0_pay41]

theorem q00_apply (Y : Vec Ideal S512x256 .f32) (D : Vec Ideal S256x256 .bf16) (g : Vec Ideal S1x256 .f32) (C S : Vec Ideal S512x128 .f32) (y : Fin 1) (r : Fin 512) (l : Fin 128) :
    k0_pay14 (F := Ideal) (k0_pay8 Y D g) (k0_pay9 C) (k0_pay10 S) (k0_pay11 Y D g) k0_pay12 (k0_pay13 Y D g) 112#32 (ix3 y r ⟨l.val, by omega⟩)
      = ropeAt (fun l => k0_pay8 (F := Ideal) Y D g (ix2 r ⟨l.val, by omega⟩)) (fun l => C (ix2 r l)) (fun l => S (ix2 r l)) l * Ideal.ofBits .f32 0x3E38AA3B#32 := by
  unfold ropeAt
  rw [← partner_eq (fun l => k0_pay8 (F := Ideal) Y D g (ix2 r ⟨l.val, by omega⟩)) l (by omega) (by omega)]
  unfold k0_pay13 k0_pay11
  generalize k0_pay8 Y D g = N
  unfold upper
  pointwise [k0_pay14, k0_pay12, k0_pay9, k0_pay10]
theorem q01_apply (Y : Vec Ideal S512x256 .f32) (D : Vec Ideal S256x256 .bf16) (g : Vec Ideal S1x256 .f32) (C S : Vec Ideal S512x128 .f32) (y : Fin 1) (r : Fin 512) (l : Fin 128) :
    k0_pay14 (F := Ideal) (k0_pay8 Y D g) (k0_pay9 C) (k0_pay10 S) (k0_pay11 Y D g) k0_pay12 (k0_pay13 Y D g) 112#32 (ix3 y r ⟨128 + l.val, by omega⟩)
      = ropeAt (fun l => k0_pay8 (F := Ideal) Y D g (ix2 r ⟨128 + l.val, by omega⟩)) (fun l => C (ix2 r l)) (fun l => S (ix2 r l)) l * Ideal.ofBits .f32 0x3E38AA3B#32 := by
  unfold ropeAt
  rw [← partner_eq (fun l => k0_pay8 (F := Ideal) Y D g (ix2 r ⟨128 + l.val, by omega⟩)) l (by omega) (by omega)]
  unfold k0_pay13 k0_pay11
  generalize k0_pay8 Y D g = N
  unfold upper
  pointwise [k0_pay14, k0_pay12, k0_pay9, k0_pay10]
theorem q1_eq (Y : Vec Ideal S512x256 .f32) (D : Vec Ideal S256x256 .bf16) (g : Vec Ideal S1x256 .f32) (C S : Vec Ideal S512x128 .f32) :
    k0_pay37 (F := Ideal) (k0_pay29 C) (k0_pay30 S) (k0_pay32 (k0_pay29 C) (k0_pay30 S) (k0_pay31 Y D g) (iota .tc S512x128 32 [1] iota_S512x128_d1_w32) 32#32 (Scalar.cmpi .eq 32#32 0#32) 1#32)
      (k0_pay33 (k0_pay28 Y D g)) k0_pay34 (k0_pay35 (k0_pay28 Y D g)) (k0_pay36 (k0_pay28 Y D g))
      = k0_pay14 (F := Ideal) (k0_pay8 Y D g) (k0_pay9 C) (k0_pay10 S) (k0_pay11 Y D g) k0_pay12 (k0_pay13 Y D g) 112#32 := rfl
theorem k0_apply (N C S : FVec Ideal S512x128 .f32) (d : Fin 64) (r : Fin 512) :
    k0_pay42 (F := Ideal) N C S (ix4 0 0 d r) = k0_pay41 (F := Ideal) N C S (ix2 ⟨d.val, by omega⟩ r) := by
  pointwise [k0_pay42]
theorem k1_apply (N C S : FVec Ideal S512x128 .f32) (d : Fin 64) (r : Fin 512) :
    k0_pay43 (F := Ideal) N C S (ix4 0 0 d r) = k0_pay41 (F := Ideal) N C S (ix2 ⟨64 + d.val, by omega⟩ r) := by
  pointwise [k0_pay43]
theorem k40 (C : Vec Ideal S512x128 .f32) : k0_pay40 (F := Ideal) C = C := by
  funext i
  obtain ⟨r, l, rfl⟩ : ∃ r l, i = ix2 r l := ⟨i 0, i 1, by funext a; fin_cases a <;> rfl⟩
  pointwise [k0_pay40]
end Cert.ProjV

end
-- ==== Proof.ProjBlock.lean ====
/- The in-projection kernel's nine output blocks, element by element, from the point's blocks. -/
module

public import proofs.«01_k».proof.Proof.Gen.ProjIdeal.Value
public import proofs.«01_k».proof.Proof.ProjPay

@[expose] public section

set_option maxRecDepth 16384

noncomputable section

namespace Cert.ProjV
open Idealize.ShloMosaic Idealize.ShloMosaic.TcCoe Idealize.SL.Sem Idealize.ShloMosaic.Pointwise
open Idealize.ShloMosaic.Pipeline (Dat)
open Cert.ProjIdeal Cert.ProjIdeal.Gen

/-- The last piece written holds the index. -/
theorem hit {s : Shape} {e : EltTy} (R : Rect s) (w : R.shape.Idx → Elt Ideal e) (L : List (View.Piece (Elt Ideal) s e)) (i : s.Idx) (z : R.shape.Idx) (h : i = R.emb z) :
    View.canon (⟨R, w⟩ :: L) i = w z := by
  rw [h, View.canon_cons_emb]
/-- The last piece written starts past the index. -/
theorem miss {s : Shape} {e : EltTy} (off len : Fin s.rank → ℕ) (inb : ∀ a, off a + len a ≤ s.size a) (w : (Rect.unit (s := s) off len inb).shape.Idx → Elt Ideal e) (L : List (View.Piece (Elt Ideal) s e))
    (i : s.Idx) (a : Fin s.rank) (h : (i a).val < off a) :
    View.canon (⟨Rect.unit (s := s) off len inb, w⟩ :: L) i = View.canon L i := by
  refine View.canon_cons_of_not_mem _ _ fun hm => ?_
  obtain ⟨z, hz⟩ := LoadRect.exists_idx_of_mem _ hm
  have h1 : off a + 1 * (z a).val = (i a).val := congrArg Fin.val (congrFun hz a)
  omega

/-- One projected element of a row. -/
def prj (x sh sc : Fin 1024 → EReal) (w : Fin 1024 → Fin 2304 → EReal) (j : Fin 2304) : EReal := ∑ k : Fin 1024, modAt x sh sc k * w k j

/-- The row's projections, from the point's blocks. -/
def rowP (x0 : Vec Ideal S1x512x1024 .f32) (x1 x2 : Vec Ideal S1x1x1024 .f32) (x3 : Vec Ideal S1x1024x2304 .bf16) (r : Fin 512) : Fin 2304 → EReal :=
  prj (fun k => x0 (ix3 0 r k)) (fun k => x1 (ix3 0 0 k)) (fun k => x2 (ix3 0 0 k)) (fun k j => x3 (ix3 0 k j))

theorem w_ld (x3 : Vec Ideal S1x1024x2304 .bf16) (p n : ℕ) (inb : ∀ a, ![0, 0, p] a + ![1, 1024, n] a ≤ S1x1024x2304.size a) (k : Fin 1024) (j : Fin n) (h : p + j.val < 2304) :
    View.ld (Val := Elt Ideal) (e' := .bf16) x3 (Rect.unit (s := S1x1024x2304) ![0, 0, p] ![1, 1024, n] inb) (ix3 0 k j) = x3 (ix3 0 k ⟨p + j.val, h⟩) := by
  refine congrArg x3 (funext fun a => ?_)
  fin_cases a <;> apply Fin.ext <;> simp

theorem prj_ld (x0 : Vec Ideal S1x512x1024 .f32) (x1 x2 : Vec Ideal S1x1x1024 .f32) (x3 : Vec Ideal S1x1024x2304 .bf16) (r : Fin 512) (p n : ℕ)
    (inb : ∀ a, ![0, 0, p] a + ![1, 1024, n] a ≤ S1x1024x2304.size a) (j : Fin n) (h : p + j.val < 2304) :
    (∑ k : Fin 1024, k0_pay1 (F := Ideal) x0 x2 x1 (ix2 r k) * View.ld (Val := Elt Ideal) (e' := .bf16) x3 (Rect.unit (s := S1x1024x2304) ![0, 0, p] ![1, 1024, n] inb) (ix3 0 k j))
      = rowP x0 x1 x2 x3 r ⟨p + j.val, h⟩ := by
  unfold rowP prj
  refine Finset.sum_congr rfl fun k _ => ?_
  rw [mod_apply, w_ld x3 p n inb k j h]

/-- The rows' queries and keys, before their norm. -/
theorem qk_ld (x0 : Vec Ideal S1x512x1024 .f32) (x1 x2 : Vec Ideal S1x1x1024 .f32) (x3 : Vec Ideal S1x1024x2304 .bf16) (p n : ℕ)
    (inb : ∀ a, ![0, p] a + ![512, n] a ≤ S512x640.size a) (r : Fin 512) (j : Fin n) (h : p + j.val < 640) :
    View.ld (Val := Elt Ideal) (e' := .f32) (k0_pay2 (F := Ideal) (k0_pay1 x0 x2 x1) (View.ld (Val := Elt Ideal) (e' := .bf16) x3 (Rect.unit ![0, 0, 0] ![1, 1024, 640] inb_S1x1024x2304_S1x1024x640_0_0_0)))
      (Rect.unit (s := S512x640) ![0, p] ![512, n] inb) (ix2 r j) = rowP x0 x1 x2 x3 r ⟨p + j.val, by omega⟩ := by
  have e : View.ld (Val := Elt Ideal) (e' := .f32) (k0_pay2 (F := Ideal) (k0_pay1 x0 x2 x1) (View.ld (Val := Elt Ideal) (e' := .bf16) x3 (Rect.unit ![0, 0, 0] ![1, 1024, 640] inb_S1x1024x2304_S1x1024x640_0_0_0)))
      (Rect.unit (s := S512x640) ![0, p] ![512, n] inb) (ix2 r j)
      = (k0_pay2 (F := Ideal) (k0_pay1 x0 x2 x1) (View.ld (Val := Elt Ideal) (e' := .bf16) x3 (Rect.unit ![0, 0, 0] ![1, 1024, 640] inb_S1x1024x2304_S1x1024x640_0_0_0))) (ix2 r ⟨p + j.val, h⟩) := by
    refine congrArg (k0_pay2 (F := Ideal) (k0_pay1 x0 x2 x1) (View.ld (Val := Elt Ideal) (e' := .bf16) x3 (Rect.unit ![0, 0, 0] ![1, 1024, 640] inb_S1x1024x2304_S1x1024x640_0_0_0))) (funext fun a => ?_)
    fin_cases a <;> apply Fin.ext <;> simp
  rw [e, qk_apply, prj_ld x0 x1 x2 x3 r 0 640 inb_S1x1024x2304_S1x1024x640_0_0_0 ⟨p + j.val, h⟩ (by dsimp only; omega)]
  exact congrArg (rowP x0 x1 x2 x3 r) (Fin.ext (by dsimp only; omega))

theorem g_ld (x6 : Vec Ideal S1x512 .f32) (p : ℕ) (inb : ∀ a, ![0, p] a + ![1, 256] a ≤ S1x512.size a) (j : Fin 256) (h : p + j.val < 512) :
    View.ld (Val := Elt Ideal) (e' := .f32) x6 (Rect.unit (s := S1x512) ![0, p] ![1, 256] inb) (ix2 0 j) = x6 (ix2 0 ⟨p + j.val, h⟩) := by
  refine congrArg x6 (funext fun a => ?_)
  fin_cases a <;> apply Fin.ext <;> simp

/-- One element of the queries: half `s` of the heads, block `b` of 128 lanes in it, lane `l`. -/
def qOf (P : Fin 2304 → EReal) (bd : Fin 256 → Fin 256 → EReal) (g : Fin 512 → EReal) (C S : Fin 128 → EReal) (s b : Fin 2) (l : Fin 128) : EReal :=
  ropeAt (fun l => normAt (fun j : Fin 256 => P ⟨256 * s.val + j.val, by omega⟩) bd (fun j => g ⟨256 * s.val + j.val, by omega⟩) ⟨128 * b.val + l.val, by omega⟩) C S l * Ideal.ofBits .f32 0x3E38AA3B#32
/-- One element of the keys. -/
def kOf (P : Fin 2304 → EReal) (bd : Fin 128 → Fin 128 → EReal) (g : Fin 128 → EReal) (C S : Fin 128 → EReal) (l : Fin 128) : EReal :=
  ropeAt (normAt (fun j : Fin 128 => P ⟨512 + j.val, by omega⟩) bd g) C S l
/-- One element of a head's values, with the one and the zeros that follow them. -/
def vOf (P : Fin 2304 → EReal) (h : Fin 2) (l : Fin 128) : EReal := padAt (fun d => P ⟨640 + 64 * h.val + d.val, by omega⟩) l
/-- One element of the channel transform. -/
def fabOf (P : Fin 2304 → EReal) (D : Fin 256 → Fin 512 → EReal) (j : Fin 512) : EReal := ∑ i : Fin 256, P ⟨2048 + i.val, by omega⟩ * D i j

theorem out14 (c : Dev nD) (t : Fin cfg0.N) (x0 : Vec Ideal S1x512x1024 .f32) (x1 x2 : Vec Ideal S1x1x1024 .f32) (x3 : Vec Ideal S1x1024x2304 .bf16) (x4 x5 : Vec Ideal S512x128 .f32) (x6 : Vec Ideal S1x512 .f32) (x7 : Vec Ideal S1x128 .f32) (x8 : Vec Ideal S256x256 .bf16) (x9 : Vec Ideal S128x128 .bf16) (x10 : Vec Ideal S256x512 .bf16) (y0 : Fin 1) (y1 : Fin 512) (y2 : Fin 256) (y : S1x512x256.Idx) (hy : y = ix3 y0 y1 y2) :
    out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) x0 x1 x2 x3 x4 x5 x6 x7 x8 x9 x10 y
      = rowP x0 x1 x2 x3 y1 ⟨768 + y2.val, by omega⟩ := by
  frame_open
  simp (disch := decide) only [↓ View.readCov_skip, ↓ View.readCov_cons_toLoadRect, ↓ View.readCov_fill]
  frame_out
  subst hy
  rw [h256_apply]
  exact prj_ld x0 x1 x2 x3 y1 768 256 _ y2 _

theorem out15 (c : Dev nD) (t : Fin cfg0.N) (x0 : Vec Ideal S1x512x1024 .f32) (x1 x2 : Vec Ideal S1x1x1024 .f32) (x3 : Vec Ideal S1x1024x2304 .bf16) (x4 x5 : Vec Ideal S512x128 .f32) (x6 : Vec Ideal S1x512 .f32) (x7 : Vec Ideal S1x128 .f32) (x8 : Vec Ideal S256x256 .bf16) (x9 : Vec Ideal S128x128 .bf16) (x10 : Vec Ideal S256x512 .bf16) (y0 : Fin 1) (y1 : Fin 512) (y2 : Fin 256) (y : S1x512x256.Idx) (hy : y = ix3 y0 y1 y2) :
    out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) x0 x1 x2 x3 x4 x5 x6 x7 x8 x9 x10 y
      = rowP x0 x1 x2 x3 y1 ⟨1024 + y2.val, by omega⟩ := by
  frame_open
  simp (disch := decide) only [↓ View.readCov_skip, ↓ View.readCov_cons_toLoadRect, ↓ View.readCov_fill]
  frame_out
  subst hy
  rw [hi_apply]
  exact prj_ld x0 x1 x2 x3 y1 1024 256 _ y2 _

theorem out16 (c : Dev nD) (t : Fin cfg0.N) (x0 : Vec Ideal S1x512x1024 .f32) (x1 x2 : Vec Ideal S1x1x1024 .f32) (x3 : Vec Ideal S1x1024x2304 .bf16) (x4 x5 : Vec Ideal S512x128 .f32) (x6 : Vec Ideal S1x512 .f32) (x7 : Vec Ideal S1x128 .f32) (x8 : Vec Ideal S256x256 .bf16) (x9 : Vec Ideal S128x128 .bf16) (x10 : Vec Ideal S256x512 .bf16) (y0 : Fin 1) (y1 : Fin 512) (y2 : Fin 256) (y : S1x512x256.Idx) (hy : y = ix3 y0 y1 y2) :
    out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) x0 x1 x2 x3 x4 x5 x6 x7 x8 x9 x10 y
      = rowP x0 x1 x2 x3 y1 ⟨1792 + y2.val, by omega⟩ := by
  frame_open
  simp (disch := decide) only [↓ View.readCov_skip, ↓ View.readCov_cons_toLoadRect, ↓ View.readCov_fill]
  frame_out
  subst hy
  rw [hg_apply]
  exact prj_ld x0 x1 x2 x3 y1 1792 256 _ y2 _

theorem out17 (c : Dev nD) (t : Fin cfg0.N) (x0 : Vec Ideal S1x512x1024 .f32) (x1 x2 : Vec Ideal S1x1x1024 .f32) (x3 : Vec Ideal S1x1024x2304 .bf16) (x4 x5 : Vec Ideal S512x128 .f32) (x6 : Vec Ideal S1x512 .f32) (x7 : Vec Ideal S1x128 .f32) (x8 : Vec Ideal S256x256 .bf16) (x9 : Vec Ideal S128x128 .bf16) (x10 : Vec Ideal S256x512 .bf16) (y0 : Fin 1) (y1 : Fin 512) (y2 : Fin 512) (y : S1x512x512.Idx) (hy : y = ix3 y0 y1 y2) :
    out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) x0 x1 x2 x3 x4 x5 x6 x7 x8 x9 x10 y
      = rowP x0 x1 x2 x3 y1 ⟨1280 + y2.val, by omega⟩ := by
  frame_open
  simp (disch := decide) only [↓ View.readCov_skip, ↓ View.readCov_cons_toLoadRect, ↓ View.readCov_fill]
  frame_out
  subst hy
  rw [hf_apply]
  exact prj_ld x0 x1 x2 x3 y1 1280 512 _ y2 _

theorem out19 (c : Dev nD) (t : Fin cfg0.N) (x0 : Vec Ideal S1x512x1024 .f32) (x1 x2 : Vec Ideal S1x1x1024 .f32) (x3 : Vec Ideal S1x1024x2304 .bf16) (x4 x5 : Vec Ideal S512x128 .f32) (x6 : Vec Ideal S1x512 .f32) (x7 : Vec Ideal S1x128 .f32) (x8 : Vec Ideal S256x256 .bf16) (x9 : Vec Ideal S128x128 .bf16) (x10 : Vec Ideal S256x512 .bf16) (y0 : Fin 1) (y1 : Fin 2) (y2 : Fin 512) (y3 : Fin 256) (y : S1x2x512x256.Idx) (hy : y = ix4 y0 y1 y2 y3) :
    out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) x0 x1 x2 x3 x4 x5 x6 x7 x8 x9 x10 y
      = fabOf (rowP x0 x1 x2 x3 y2) (fun i j => x10 (ix2 i j)) ⟨256 * y1.val + y3.val, by omega⟩ := by
  frame_open
  simp (disch := decide) only [↓ View.readCov_skip, ↓ View.readCov_cons_toLoadRect, ↓ View.readCov_fill]
  frame_out
  subst hy
  obtain rfl : y0 = 0 := by omega
  have h1 : y1 = 1 ∨ y1 = 0 := by omega
  rcases h1 with rfl | rfl
  · rw [hit _ _ _ _ (ix4 0 0 y2 y3) (by funext a; fin_cases a <;> apply Fin.ext <;> simp)]
    rw [im_apply, ab_apply]
    unfold fabOf
    refine Finset.sum_congr rfl fun i _ => ?_
    rw [prj_ld x0 x1 x2 x3 y2 2048 256 _ i (by omega)]
    rfl
  · rw [miss _ _ _ _ _ _ 1 (by simp), hit _ _ _ _ (ix4 0 0 y2 y3) (by funext a; fin_cases a <;> apply Fin.ext <;> simp)]
    rw [re_apply, ab_apply]
    unfold fabOf
    refine Finset.sum_congr rfl fun i _ => ?_
    rw [prj_ld x0 x1 x2 x3 y2 2048 256 _ i (by omega)]
    exact congrArg (fun q => _ * x10 (ix2 i q)) (Fin.ext (by simp))

theorem out13 (c : Dev nD) (t : Fin cfg0.N) (x0 : Vec Ideal S1x512x1024 .f32) (x1 x2 : Vec Ideal S1x1x1024 .f32) (x3 : Vec Ideal S1x1024x2304 .bf16) (x4 x5 : Vec Ideal S512x128 .f32) (x6 : Vec Ideal S1x512 .f32) (x7 : Vec Ideal S1x128 .f32) (x8 : Vec Ideal S256x256 .bf16) (x9 : Vec Ideal S128x128 .bf16) (x10 : Vec Ideal S256x512 .bf16) (y0 : Fin 1) (y1 : Fin 2) (y2 : Fin 512) (y3 : Fin 128) (y : S1x2x512x128.Idx) (hy : y = ix4 y0 y1 y2 y3) :
    out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) x0 x1 x2 x3 x4 x5 x6 x7 x8 x9 x10 y
      = vOf (rowP x0 x1 x2 x3 y2) y1 y3 := by
  frame_open
  simp (disch := decide) only [↓ View.readCov_skip, ↓ View.readCov_cons_toLoadRect, ↓ View.readCov_fill]
  frame_out
  subst hy
  obtain rfl : y0 = 0 := by omega
  have h1 : y1 = 1 ∨ y1 = 0 := by omega
  rcases h1 with rfl | rfl
  · rw [hit _ _ _ _ (ix4 0 0 y2 y3) (by funext a; fin_cases a <;> apply Fin.ext <;> simp)]
    rw [v1_apply]
    unfold vOf
    refine congrArg (fun v => padAt v y3) (funext fun d => ?_)
    rw [v_apply, prj_ld x0 x1 x2 x3 y2 640 128 _ _ (by dsimp only; omega)]
    exact congrArg _ (Fin.ext (by simp; omega))
  · rw [miss _ _ _ _ _ _ 1 (by simp), hit _ _ _ _ (ix4 0 0 y2 y3) (by funext a; fin_cases a <;> apply Fin.ext <;> simp)]
    rw [v0_apply]
    unfold vOf
    refine congrArg (fun v => padAt v y3) (funext fun d => ?_)
    rw [v_apply, prj_ld x0 x1 x2 x3 y2 640 128 _ _ (by dsimp only; omega)]
    exact congrArg _ (Fin.ext (by simp))

/-- The keys of the tile, each lane of each row. -/
theorem key_lane (x0 : Vec Ideal S1x512x1024 .f32) (x1 x2 : Vec Ideal S1x1x1024 .f32) (x3 : Vec Ideal S1x1024x2304 .bf16) (x4 x5 : Vec Ideal S512x128 .f32) (x6 : Vec Ideal S1x512 .f32) (x7 : Vec Ideal S1x128 .f32) (x8 : Vec Ideal S256x256 .bf16) (x9 : Vec Ideal S128x128 .bf16) (x10 : Vec Ideal S256x512 .bf16) (l : Fin 128) (r : Fin 512) :
    k0_pay41 (F := Ideal) (k0_pay39 (View.ld (Val := Elt Ideal) (e' := .f32) (k0_pay2 (F := Ideal) (k0_pay1 x0 x2 x1) (View.ld (Val := Elt Ideal) (e' := .bf16) x3 (Rect.unit ![0, 0, 0] ![1, 1024, 640] inb_S1x1024x2304_S1x1024x640_0_0_0)))
      (Rect.unit (s := S512x640) ![0, 512] ![512, 128] inb_S512x640_S512x128_0_512)) x9 x7) (k0_pay40 x4) x5 (ix2 l r)
      = kOf (rowP x0 x1 x2 x3 r) (fun i j => x9 (ix2 i j)) (fun j => x7 (ix2 0 j)) (fun l => x4 (ix2 r l)) (fun l => x5 (ix2 r l)) l := by
  rw [k40, ropek_apply]
  unfold kOf
  refine congrArg (fun N => ropeAt N _ _ l) (funext fun l => ?_)
  rw [normk_apply]
  refine congrArg (fun Y => normAt Y _ _ l) (funext fun j => ?_)
  exact qk_ld x0 x1 x2 x3 512 128 _ r j (by omega)

theorem out12 (c : Dev nD) (t : Fin cfg0.N) (x0 : Vec Ideal S1x512x1024 .f32) (x1 x2 : Vec Ideal S1x1x1024 .f32) (x3 : Vec Ideal S1x1024x2304 .bf16) (x4 x5 : Vec Ideal S512x128 .f32) (x6 : Vec Ideal S1x512 .f32) (x7 : Vec Ideal S1x128 .f32) (x8 : Vec Ideal S256x256 .bf16) (x9 : Vec Ideal S128x128 .bf16) (x10 : Vec Ideal S256x512 .bf16) (y0 : Fin 1) (y1 : Fin 2) (y2 : Fin 64) (y3 : Fin 512) (y : S1x2x64x512.Idx) (hy : y = ix4 y0 y1 y2 y3) :
    out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) x0 x1 x2 x3 x4 x5 x6 x7 x8 x9 x10 y
      = kOf (rowP x0 x1 x2 x3 y3) (fun i j => x9 (ix2 i j)) (fun j => x7 (ix2 0 j)) (fun l => x4 (ix2 y3 l)) (fun l => x5 (ix2 y3 l)) ⟨64 * y1.val + y2.val, by omega⟩ := by
  frame_open
  simp (disch := decide) only [↓ View.readCov_skip, ↓ View.readCov_cons_toLoadRect, ↓ View.readCov_fill]
  frame_out
  subst hy
  obtain rfl : y0 = 0 := by omega
  have h1 : y1 = 1 ∨ y1 = 0 := by omega
  rcases h1 with rfl | rfl
  · rw [hit _ _ _ _ (ix4 0 0 y2 y3) (by funext a; fin_cases a <;> apply Fin.ext <;> simp)]
    rw [k1_apply, key_lane x0 x1 x2 x3 x4 x5 x6 x7 x8 x9 x10]
    rfl
  · rw [miss _ _ _ _ _ _ 1 (by simp), hit _ _ _ _ (ix4 0 0 y2 y3) (by funext a; fin_cases a <;> apply Fin.ext <;> simp)]
    rw [k0_apply, key_lane x0 x1 x2 x3 x4 x5 x6 x7 x8 x9 x10]
    exact congrArg _ (Fin.ext (by simp))

/-- The normed queries of half of the heads. -/
theorem query_lane (x0 : Vec Ideal S1x512x1024 .f32) (x1 x2 : Vec Ideal S1x1x1024 .f32) (x3 : Vec Ideal S1x1024x2304 .bf16) (x4 x5 : Vec Ideal S512x128 .f32) (x6 : Vec Ideal S1x512 .f32) (x7 : Vec Ideal S1x128 .f32) (x8 : Vec Ideal S256x256 .bf16) (x9 : Vec Ideal S128x128 .bf16) (x10 : Vec Ideal S256x512 .bf16) (s b : Fin 2) (o : ℕ) (ho : o = 256 * s.val) (r : Fin 512) (l : Fin 128) (j : Fin 256) (hj : j.val = 128 * b.val + l.val)
    (inb : ∀ a, ![0, o] a + ![512, 256] a ≤ S512x640.size a) (inb' : ∀ a, ![0, o] a + ![1, 256] a ≤ S1x512.size a) :
    k0_pay8 (F := Ideal) (View.ld (Val := Elt Ideal) (e' := .f32) (k0_pay2 (F := Ideal) (k0_pay1 x0 x2 x1) (View.ld (Val := Elt Ideal) (e' := .bf16) x3 (Rect.unit ![0, 0, 0] ![1, 1024, 640] inb_S1x1024x2304_S1x1024x640_0_0_0)))
      (Rect.unit (s := S512x640) ![0, o] ![512, 256] inb)) x8 (View.ld (Val := Elt Ideal) (e' := .f32) x6 (Rect.unit (s := S1x512) ![0, o] ![1, 256] inb')) (ix2 r j)
      = normAt (fun j : Fin 256 => rowP x0 x1 x2 x3 r ⟨256 * s.val + j.val, by omega⟩) (fun i j => x8 (ix2 i j)) (fun j => x6 (ix2 0 ⟨256 * s.val + j.val, by omega⟩)) ⟨128 * b.val + l.val, by omega⟩ := by
  subst ho
  have e : (⟨128 * b.val + l.val, by omega⟩ : Fin 256) = j := Fin.ext hj.symm
  rw [e]
  clear e hj
  rw [norm_apply]
  have a : (fun j : Fin 256 => View.ld (Val := Elt Ideal) (e' := .f32) (k0_pay2 (F := Ideal) (k0_pay1 x0 x2 x1) (View.ld (Val := Elt Ideal) (e' := .bf16) x3 (Rect.unit ![0, 0, 0] ![1, 1024, 640] inb_S1x1024x2304_S1x1024x640_0_0_0)))
      (Rect.unit (s := S512x640) ![0, 256 * s.val] ![512, 256] inb) (ix2 r j)) = fun j : Fin 256 => rowP x0 x1 x2 x3 r ⟨256 * s.val + j.val, by omega⟩ :=
    funext fun j => qk_ld x0 x1 x2 x3 _ 256 _ r j (by omega)
  have b : (fun j : Fin 256 => View.ld (Val := Elt Ideal) (e' := .f32) x6 (Rect.unit (s := S1x512) ![0, 256 * s.val] ![1, 256] inb') (ix2 0 j)) = fun j : Fin 256 => x6 (ix2 0 ⟨256 * s.val + j.val, by omega⟩) :=
    funext fun j => g_ld x6 _ _ j (by omega)
  exact congrArg₂ (fun Y g => normAt Y _ g _) a b

theorem out11 (c : Dev nD) (t : Fin cfg0.N) (x0 : Vec Ideal S1x512x1024 .f32) (x1 x2 : Vec Ideal S1x1x1024 .f32) (x3 : Vec Ideal S1x1024x2304 .bf16) (x4 x5 : Vec Ideal S512x128 .f32) (x6 : Vec Ideal S1x512 .f32) (x7 : Vec Ideal S1x128 .f32) (x8 : Vec Ideal S256x256 .bf16) (x9 : Vec Ideal S128x128 .bf16) (x10 : Vec Ideal S256x512 .bf16) (y0 : Fin 1) (y1 : Fin 512) (y2 : Fin 512) (y : S1x512x512.Idx) (hy : y = ix3 y0 y1 y2) :
    out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) x0 x1 x2 x3 x4 x5 x6 x7 x8 x9 x10 y
      = qOf (rowP x0 x1 x2 x3 y1) (fun i j => x8 (ix2 i j)) (fun j => x6 (ix2 0 j)) (fun l => x4 (ix2 y1 l)) (fun l => x5 (ix2 y1 l)) ⟨y2.val / 256, by omega⟩ ⟨y2.val / 128 % 2, by omega⟩ ⟨y2.val % 128, by omega⟩ := by
  frame_open
  simp (disch := decide) only [↓ View.readCov_skip, ↓ View.readCov_cons_toLoadRect, ↓ View.readCov_fill]
  frame_out
  subst hy
  obtain rfl : y0 = 0 := by omega
  obtain ⟨s, b, l, h2⟩ : ∃ (s b : Fin 2) (l : Fin 128), y2.val = 256 * s.val + 128 * b.val + l.val :=
    ⟨⟨y2.val / 256, by omega⟩, ⟨y2.val / 128 % 2, by omega⟩, ⟨y2.val % 128, by omega⟩, by dsimp only; omega⟩
  have e0 : (⟨y2.val / 256, by omega⟩ : Fin 2) = s := Fin.ext (by dsimp only; omega)
  have e1 : (⟨y2.val / 128 % 2, by omega⟩ : Fin 2) = b := Fin.ext (by dsimp only; omega)
  have e2 : (⟨y2.val % 128, by omega⟩ : Fin 128) = l := Fin.ext (by dsimp only; omega)
  rw [e0, e1, e2]
  clear e0 e1 e2
  obtain rfl : y2 = ⟨256 * s.val + 128 * b.val + l.val, by have := s.isLt; have := b.isLt; have := l.isLt; clear h2; omega⟩ := Fin.ext h2
  clear h2
  have hs : s = 1 ∨ s = 0 := by omega
  have hb : b = 0 ∨ b = 1 := by omega
  rcases hs with rfl | rfl <;> rcases hb with rfl | rfl
  · rw [hit _ _ _ _ (ix3 0 y1 ⟨l.val, by omega⟩) (by funext a; fin_cases a <;> apply Fin.ext <;> simp)]
    refine (congrFun (q1_eq _ _ _ _ _) _).trans ?_
    rw [q00_apply]
    unfold qOf
    refine congrArg (fun N => ropeAt N _ _ _ * _) (funext fun l => ?_)
    exact query_lane x0 x1 x2 x3 x4 x5 x6 x7 x8 x9 x10 1 0 256 (by simp) y1 l _ (by simp) _ _
  · rw [hit _ _ _ _ (ix3 0 y1 ⟨128 + l.val, by omega⟩) (by funext a; fin_cases a <;> apply Fin.ext <;> simp; omega)]
    refine (congrFun (q1_eq _ _ _ _ _) _).trans ?_
    rw [q01_apply]
    unfold qOf
    refine congrArg (fun N => ropeAt N _ _ _ * _) (funext fun l => ?_)
    exact query_lane x0 x1 x2 x3 x4 x5 x6 x7 x8 x9 x10 1 1 256 (by simp) y1 l _ (by simp) _ _
  · rw [miss _ _ _ _ _ _ 2 (by simp; omega), hit _ _ _ _ (ix3 0 y1 ⟨l.val, by omega⟩) (by funext a; fin_cases a <;> apply Fin.ext <;> simp)]
    rw [q00_apply]
    unfold qOf
    refine congrArg (fun N => ropeAt N _ _ _ * _) (funext fun l => ?_)
    exact query_lane x0 x1 x2 x3 x4 x5 x6 x7 x8 x9 x10 0 0 0 (by simp) y1 l _ (by simp) _ _
  · rw [miss _ _ _ _ _ _ 2 (by simp; omega), hit _ _ _ _ (ix3 0 y1 ⟨128 + l.val, by omega⟩) (by funext a; fin_cases a <;> apply Fin.ext <;> simp)]
    rw [q01_apply]
    unfold qOf
    refine congrArg (fun N => ropeAt N _ _ _ * _) (funext fun l => ?_)
    exact query_lane x0 x1 x2 x3 x4 x5 x6 x7 x8 x9 x10 0 1 0 (by simp) y1 l _ (by simp) _ _

theorem out18 (c : Dev nD) (t : Fin cfg0.N) (x0 : Vec Ideal S1x512x1024 .f32) (x1 x2 : Vec Ideal S1x1x1024 .f32) (x3 : Vec Ideal S1x1024x2304 .bf16) (x4 x5 : Vec Ideal S512x128 .f32) (x6 : Vec Ideal S1x512 .f32) (x7 : Vec Ideal S1x128 .f32) (x8 : Vec Ideal S256x256 .bf16) (x9 : Vec Ideal S128x128 .bf16) (x10 : Vec Ideal S256x512 .bf16) (y0 : Fin 1) (y1 : Fin 8) (y2 : Fin 256) (y3 : Fin 64) (y : S1x8x256x64.Idx) (hy : y = ix4 y0 y1 y2 y3) :
    out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) x0 x1 x2 x3 x4 x5 x6 x7 x8 x9 x10 y
      = rowP x0 x1 x2 x3 ⟨64 * y1.val + y3.val, by omega⟩ ⟨1024 + y2.val, by omega⟩ := by
  frame_open
  simp (disch := decide) only [↓ View.readCov_skip, ↓ View.readCov_cons_toLoadRect, ↓ View.readCov_fill]
  frame_out
  subst hy
  obtain rfl : y0 = 0 := by omega
  by_cases h7 : y1.val = 7
  · obtain rfl : y1 = (7 : Fin 8) := Fin.ext h7
    rw [hit _ _ _ _ (ix4 0 0 y2 y3) (by funext a; fin_cases a <;> apply Fin.ext <;> simp), chunk7, hit_apply, prj_ld x0 x1 x2 x3 _ 1024 256 _ y2 (by omega)]
    exact congrArg (fun q => rowP x0 x1 x2 x3 q _) (Fin.ext (by simp))
  rw [miss _ _ _ _ _ _ 1 (by show y1.val < 7; omega)]
  by_cases h6 : y1.val = 6
  · obtain rfl : y1 = (6 : Fin 8) := Fin.ext h6
    rw [hit _ _ _ _ (ix4 0 0 y2 y3) (by funext a; fin_cases a <;> apply Fin.ext <;> simp), chunk6, hit_apply, prj_ld x0 x1 x2 x3 _ 1024 256 _ y2 (by omega)]
    exact congrArg (fun q => rowP x0 x1 x2 x3 q _) (Fin.ext (by simp))
  rw [miss _ _ _ _ _ _ 1 (by show y1.val < 6; omega)]
  by_cases h5 : y1.val = 5
  · obtain rfl : y1 = (5 : Fin 8) := Fin.ext h5
    rw [hit _ _ _ _ (ix4 0 0 y2 y3) (by funext a; fin_cases a <;> apply Fin.ext <;> simp), chunk5, hit_apply, prj_ld x0 x1 x2 x3 _ 1024 256 _ y2 (by omega)]
    exact congrArg (fun q => rowP x0 x1 x2 x3 q _) (Fin.ext (by simp))
  rw [miss _ _ _ _ _ _ 1 (by show y1.val < 5; omega)]
  by_cases h4 : y1.val = 4
  · obtain rfl : y1 = (4 : Fin 8) := Fin.ext h4
    rw [hit _ _ _ _ (ix4 0 0 y2 y3) (by funext a; fin_cases a <;> apply Fin.ext <;> simp), chunk4, hit_apply, prj_ld x0 x1 x2 x3 _ 1024 256 _ y2 (by omega)]
    exact congrArg (fun q => rowP x0 x1 x2 x3 q _) (Fin.ext (by simp))
  rw [miss _ _ _ _ _ _ 1 (by show y1.val < 4; omega)]
  by_cases h3 : y1.val = 3
  · obtain rfl : y1 = (3 : Fin 8) := Fin.ext h3
    rw [hit _ _ _ _ (ix4 0 0 y2 y3) (by funext a; fin_cases a <;> apply Fin.ext <;> simp), chunk3, hit_apply, prj_ld x0 x1 x2 x3 _ 1024 256 _ y2 (by omega)]
    exact congrArg (fun q => rowP x0 x1 x2 x3 q _) (Fin.ext (by simp))
  rw [miss _ _ _ _ _ _ 1 (by show y1.val < 3; omega)]
  by_cases h2 : y1.val = 2
  · obtain rfl : y1 = (2 : Fin 8) := Fin.ext h2
    rw [hit _ _ _ _ (ix4 0 0 y2 y3) (by funext a; fin_cases a <;> apply Fin.ext <;> simp), chunk2, hit_apply, prj_ld x0 x1 x2 x3 _ 1024 256 _ y2 (by omega)]
    exact congrArg (fun q => rowP x0 x1 x2 x3 q _) (Fin.ext (by simp))
  rw [miss _ _ _ _ _ _ 1 (by show y1.val < 2; omega)]
  by_cases h1 : y1.val = 1
  · obtain rfl : y1 = (1 : Fin 8) := Fin.ext h1
    rw [hit _ _ _ _ (ix4 0 0 y2 y3) (by funext a; fin_cases a <;> apply Fin.ext <;> simp), chunk1, hit_apply, prj_ld x0 x1 x2 x3 _ 1024 256 _ y2 (by omega)]
    exact congrArg (fun q => rowP x0 x1 x2 x3 q _) (Fin.ext (by simp))
  rw [miss _ _ _ _ _ _ 1 (by show y1.val < 1; omega)]
  obtain rfl : y1 = (0 : Fin 8) := Fin.ext (show y1.val = 0 by omega)
  rw [hit _ _ _ _ (ix4 0 0 y2 y3) (by funext a; fin_cases a <;> apply Fin.ext <;> simp), chunk0, hit_apply, prj_ld x0 x1 x2 x3 _ 1024 256 _ y2 (by omega)]
  exact congrArg (fun q => rowP x0 x1 x2 x3 q _) (Fin.ext (by simp))
end Cert.ProjV

end
-- ==== Proof.ProjTab.lean ====
/- The arrays the in-projection kernel is launched on, from the arguments. -/
module

public import proofs.«01_k».proof.Proof.ProjBlock

@[expose] public section

set_option maxRecDepth 16384

noncomputable section

namespace Cert.ProjV
open Idealize.ShloMosaic Idealize.ShloMosaic.TcCoe Idealize.SL.Sem
open Idealize.ShloMosaic.Pipeline (Dat)
open Cert.ProjIdeal Cert.ProjIdeal.Gen Idealize.ShloMosaic.Pointwise
variable (m : (ℓ : Loc nD τ sig) → Buf (Elt Ideal) ℓ)

theorem mod_read (c : Dev nD) (b : Fin 32) (j : Fin 6144) : (V m c main_v0 : Vec Ideal S32x1x6144 .f32) (ix3 b 0 j)
    = (m ((c : Thread nD τ).loc main_arg1) : Vec Ideal S2x16x6144 .f32) (ix3 ⟨b.val / 16, by omega⟩ ⟨b.val % 16, by omega⟩ j) := by
  simp only [V]
  entry_read
  pointwise
theorem w_read (c : Dev nD) (l : Fin 2) (k : Fin 1024) (j : Fin 2304) : (V m c main_v78 : Vec Ideal S2x1024x2304 .bf16) (ix3 l k j)
    = (m ((c : Thread nD τ).loc main_arg2) : Vec Ideal S2x1024x2304 .f32) (ix3 l k j) := by
  simp only [V]
  entry_read
  pointwise
theorem dft_read (c : Dev nD) (i : Fin 256) (j : Fin 512) : (V m c main_v79 : Vec Ideal S256x512 .bf16) (ix2 i j)
    = (m ((c : Thread nD τ).loc main_arg5) : Vec Ideal S256x512 .f32) (ix2 i j) := by
  simp only [V]
  entry_read
  pointwise
theorem qg_read (c : Dev nD) (j : Fin 512) : (V m c main_v71 : Vec Ideal S1x512 .f32) (ix2 0 j)
    = (m ((c : Thread nD τ).loc main_arg3) : Vec Ideal S2x64 .f32) (ix2 1 ⟨j.val % 64, by omega⟩) := by
  simp only [V]
  entry_read
  pointwise
theorem kg_read (c : Dev nD) (j : Fin 128) : (V m c main_v77 : Vec Ideal S1x128 .f32) (ix2 0 j)
    = (m ((c : Thread nD τ).loc main_arg4) : Vec Ideal S2x64 .f32) (ix2 1 ⟨j.val % 64, by omega⟩) := by
  simp only [V]
  entry_read
  pointwise
/-- Four tables of 16 lanes side by side, and those 64 lanes twice. -/
def lanes (A B C D : Vec Ideal S2048x16 .f32) : Vec Ideal S2048x128 .f32 :=
  shapeCast _ (broadcastInDim S1x2048x2x64 ![0, 1, 2, 3] bcast_S1x2048x1x64_S1x2048x2x64_0_1_2_3 (shapeCast S1x2048x1x64 (concatenate S2048x64 1 [⟨S2048x16, A⟩, ⟨S2048x16, B⟩, ⟨S2048x16, C⟩, ⟨S2048x16, D⟩] concatenates_S2048x16_S2048x16_S2048x16_S2048x16_S2048x64_d1) shapeCasts_S2048x64_S1x2048x1x64)) shapeCasts_S1x2048x2x64_S2048x128
theorem after_append (l₁ l₂ : List (HloOp τ sig (Elt Ideal))) (σ : Valuation τ sig (Elt Ideal)) :
    StableHlo.after (l₁ ++ l₂) σ = StableHlo.after l₂ (StableHlo.after l₁ σ) := by
  induction l₁ generalizing σ with
  | nil => rfl
  | cons op l ih => exact ih _
theorem after_split (l : List (HloOp τ sig (Elt Ideal))) (n : ℕ) (σ : Valuation τ sig (Elt Ideal)) :
    StableHlo.after l σ = StableHlo.after (l.drop n) (StableHlo.after (l.take n) σ) := by
  rw [← after_append, List.take_append_drop]
theorem cos_stage (σ : Valuation τ sig (Elt Ideal)) : (StableHlo.after (List.drop 30 hostOps0) σ (Proc.devRef .tc main_v38) : Vec Ideal S2048x128 .f32)
    = lanes (σ (Proc.devRef .tc main_v26)) (σ (Proc.devRef .tc main_v26)) (σ (Proc.devRef .tc main_v27)) (σ (Proc.devRef .tc main_v27)) := by
  rfl
theorem sin_stage (σ : Valuation τ sig (Elt Ideal)) : (StableHlo.after (List.drop 37 hostOps0) σ (Proc.devRef .tc main_v41) : Vec Ideal S2048x128 .f32)
    = lanes (σ (Proc.devRef .tc main_v30)) (σ (Proc.devRef .tc main_v31)) (σ (Proc.devRef .tc main_v33)) (σ (Proc.devRef .tc main_v34)) := by
  rfl
theorem keep26 (c : Dev nD) : (StableHlo.after (List.take 30 hostOps0) (fun b => m (c, b)) (Proc.devRef .tc main_v26) : Vec Ideal S2048x16 .f32) = (V m c main_v26 : Vec Ideal S2048x16 .f32) := by
  have h : (V m c main_v26 : Vec Ideal S2048x16 .f32) = StableHlo.after (List.drop 30 hostOps0) (StableHlo.after (List.take 30 hostOps0) (fun b => m (c, b))) (Proc.devRef .tc main_v26) := by
    rw [← after_split]
  rw [h]
  generalize StableHlo.after (List.take 30 hostOps0) (fun b => m (c, b)) = σ
  rfl
theorem keep27 (c : Dev nD) : (StableHlo.after (List.take 30 hostOps0) (fun b => m (c, b)) (Proc.devRef .tc main_v27) : Vec Ideal S2048x16 .f32) = (V m c main_v27 : Vec Ideal S2048x16 .f32) := by
  have h : (V m c main_v27 : Vec Ideal S2048x16 .f32) = StableHlo.after (List.drop 30 hostOps0) (StableHlo.after (List.take 30 hostOps0) (fun b => m (c, b))) (Proc.devRef .tc main_v27) := by
    rw [← after_split]
  rw [h]
  generalize StableHlo.after (List.take 30 hostOps0) (fun b => m (c, b)) = σ
  rfl
theorem keep30 (c : Dev nD) : (StableHlo.after (List.take 37 hostOps0) (fun b => m (c, b)) (Proc.devRef .tc main_v30) : Vec Ideal S2048x16 .f32) = (V m c main_v30 : Vec Ideal S2048x16 .f32) := by
  have h : (V m c main_v30 : Vec Ideal S2048x16 .f32) = StableHlo.after (List.drop 37 hostOps0) (StableHlo.after (List.take 37 hostOps0) (fun b => m (c, b))) (Proc.devRef .tc main_v30) := by
    rw [← after_split]
  rw [h]
  generalize StableHlo.after (List.take 37 hostOps0) (fun b => m (c, b)) = σ
  rfl
theorem keep31 (c : Dev nD) : (StableHlo.after (List.take 37 hostOps0) (fun b => m (c, b)) (Proc.devRef .tc main_v31) : Vec Ideal S2048x16 .f32) = (V m c main_v31 : Vec Ideal S2048x16 .f32) := by
  have h : (V m c main_v31 : Vec Ideal S2048x16 .f32) = StableHlo.after (List.drop 37 hostOps0) (StableHlo.after (List.take 37 hostOps0) (fun b => m (c, b))) (Proc.devRef .tc main_v31) := by
    rw [← after_split]
  rw [h]
  generalize StableHlo.after (List.take 37 hostOps0) (fun b => m (c, b)) = σ
  rfl
theorem keep33 (c : Dev nD) : (StableHlo.after (List.take 37 hostOps0) (fun b => m (c, b)) (Proc.devRef .tc main_v33) : Vec Ideal S2048x16 .f32) = (V m c main_v33 : Vec Ideal S2048x16 .f32) := by
  have h : (V m c main_v33 : Vec Ideal S2048x16 .f32) = StableHlo.after (List.drop 37 hostOps0) (StableHlo.after (List.take 37 hostOps0) (fun b => m (c, b))) (Proc.devRef .tc main_v33) := by
    rw [← after_split]
  rw [h]
  generalize StableHlo.after (List.take 37 hostOps0) (fun b => m (c, b)) = σ
  rfl
theorem keep34 (c : Dev nD) : (StableHlo.after (List.take 37 hostOps0) (fun b => m (c, b)) (Proc.devRef .tc main_v34) : Vec Ideal S2048x16 .f32) = (V m c main_v34 : Vec Ideal S2048x16 .f32) := by
  have h : (V m c main_v34 : Vec Ideal S2048x16 .f32) = StableHlo.after (List.drop 37 hostOps0) (StableHlo.after (List.take 37 hostOps0) (fun b => m (c, b))) (Proc.devRef .tc main_v34) := by
    rw [← after_split]
  rw [h]
  generalize StableHlo.after (List.take 37 hostOps0) (fun b => m (c, b)) = σ
  rfl
theorem cos_eq (c : Dev nD) : (V m c main_v38 : Vec Ideal S2048x128 .f32) = lanes (V m c main_v26) (V m c main_v26) (V m c main_v27) (V m c main_v27) := by
  have h : (V m c main_v38 : Vec Ideal S2048x128 .f32) = StableHlo.after (List.drop 30 hostOps0) (StableHlo.after (List.take 30 hostOps0) (fun b => m (c, b))) (Proc.devRef .tc main_v38) := by
    rw [← after_split]
  rw [h, cos_stage, keep26, keep27]
theorem sin_eq (c : Dev nD) : (V m c main_v41 : Vec Ideal S2048x128 .f32) = lanes (V m c main_v30) (V m c main_v31) (V m c main_v33) (V m c main_v34) := by
  have h : (V m c main_v41 : Vec Ideal S2048x128 .f32) = StableHlo.after (List.drop 37 hostOps0) (StableHlo.after (List.take 37 hostOps0) (fun b => m (c, b))) (Proc.devRef .tc main_v41) := by
    rw [← after_split]
  rw [h, sin_stage, keep30, keep31, keep33, keep34]
theorem lanes_apply (A B C D : Vec Ideal S2048x16 .f32) (T : Fin 2048) (l : Fin 128) : lanes A B C D (ix2 T l)
    = if l.val % 64 < 16 then A (ix2 T ⟨l.val % 16, by omega⟩) else if l.val % 64 < 32 then B (ix2 T ⟨l.val % 16, by omega⟩)
      else if l.val % 64 < 48 then C (ix2 T ⟨l.val % 16, by omega⟩) else D (ix2 T ⟨l.val % 16, by omega⟩) := by
  have key : ∀ (X : Vec Ideal S2048x16 .f32) (n : Fin 16), n.val = l.val % 16 → X (ix2 T n) = X (ix2 T ⟨l.val % 16, by omega⟩) := fun X n h => congrArg (fun n => X (ix2 T n)) (Fin.ext h)
  pointwise [lanes]
  by_cases h : l.val % 64 < 16
  · rw [dif_pos h, if_pos h]
    exact key A _ (by dsimp only; omega)
  rw [dif_neg h, if_neg h]
  by_cases h' : l.val % 64 < 32
  · rw [dif_pos (show l.val % 64 - 16 < 16 by omega), if_pos h']
    exact key B _ (by dsimp only; omega)
  rw [dif_neg (show ¬ l.val % 64 - 16 < 16 by omega), if_neg h']
  by_cases h'' : l.val % 64 < 48
  · rw [dif_pos (show l.val % 64 - 16 - 16 < 16 by omega), if_pos h'']
    exact key C _ (by dsimp only; omega)
  rw [dif_neg (show ¬ l.val % 64 - 16 - 16 < 16 by omega), if_neg h'']
  exact key D _ (by dsimp only; omega)

/-- The angle of a position at one of the 16 frequencies. -/
def ang (p : ℕ) (j : Fin 16) : EReal := FloatOps.sitofp (F := Ideal) .f32 (BitVec.ofNat 32 p) *
  Ideal.pow (Ideal.ofBits .f32 0x461C4000#32) (Ideal.div (-FloatOps.sitofp (F := Ideal) .f32 (BitVec.ofNat 32 j.val)) (Ideal.ofBits .f32 0x41800000#32))
theorem cr_read (c : Dev nD) (T : Fin 2048) (j : Fin 16) : (V m c main_v26 : Vec Ideal S2048x16 .f32) (ix2 T j) = Ideal.cos (ang (T.val / 64) j) := by
  simp only [V]
  entry_read
  pointwise
  rfl
theorem cc_read (c : Dev nD) (T : Fin 2048) (j : Fin 16) : (V m c main_v27 : Vec Ideal S2048x16 .f32) (ix2 T j) = Ideal.cos (ang (T.val % 64) j) := by
  simp only [V]
  entry_read
  pointwise
  rfl
theorem nr_read (c : Dev nD) (T : Fin 2048) (j : Fin 16) : (V m c main_v30 : Vec Ideal S2048x16 .f32) (ix2 T j) = - Ideal.sin (ang (T.val / 64) j) := by
  simp only [V]
  entry_read
  pointwise
  rfl
theorem sr_read (c : Dev nD) (T : Fin 2048) (j : Fin 16) : (V m c main_v31 : Vec Ideal S2048x16 .f32) (ix2 T j) = Ideal.sin (ang (T.val / 64) j) := by
  simp only [V]
  entry_read
  pointwise
  rfl
theorem nc_read (c : Dev nD) (T : Fin 2048) (j : Fin 16) : (V m c main_v33 : Vec Ideal S2048x16 .f32) (ix2 T j) = - Ideal.sin (ang (T.val % 64) j) := by
  simp only [V]
  entry_read
  pointwise
  rfl
theorem sc_read (c : Dev nD) (T : Fin 2048) (j : Fin 16) : (V m c main_v34 : Vec Ideal S2048x16 .f32) (ix2 T j) = Ideal.sin (ang (T.val % 64) j) := by
  simp only [V]
  entry_read
  pointwise
  rfl

/-- The position a lane turns by: the row for the first 32 lanes of a head, the column for the others. -/
def pos (T l : ℕ) : ℕ := if l % 64 < 32 then T / 64 else T % 64
theorem cos_read (c : Dev nD) (T : Fin 2048) (l : Fin 128) : (V m c main_v38 : Vec Ideal S2048x128 .f32) (ix2 T l)
    = Ideal.cos (ang (pos T.val l.val) ⟨l.val % 16, by omega⟩) := by
  rw [cos_eq, lanes_apply, cr_read, cc_read]
  unfold pos
  split_ifs <;> first | rfl | omega
theorem sin_read (c : Dev nD) (T : Fin 2048) (l : Fin 128) : (V m c main_v41 : Vec Ideal S2048x128 .f32) (ix2 T l)
    = if l.val % 32 < 16 then - Ideal.sin (ang (pos T.val l.val) ⟨l.val % 16, by omega⟩) else Ideal.sin (ang (pos T.val l.val) ⟨l.val % 16, by omega⟩) := by
  rw [sin_eq, lanes_apply, nr_read, sr_read, nc_read, sc_read]
  unfold pos
  split_ifs <;> first | rfl | omega

/-- The table that takes a head's mean: a 64th within the head, zero elsewhere. -/
theorem eye (a b : ℕ) (ha : a < 4) (hb : b < 4) : Ideal.div (FloatOps.uitofp (F := Ideal) .f32 (IntOp.cmpi .eq (IntOp.addi (BitVec.ofNat 32 a) 0#32) (BitVec.ofNat 32 b))) (Ideal.ofBits .f32 0x42800000#32)
    = if a = b then (((1 / 64 : ℝ)) : EReal) else 0 := by
  have h64 : Ideal.ofBits .f32 0x42800000#32 = ((64 : ℝ) : EReal) := by
    simp [Ideal.ofBits, Ideal.ieee]
    rw [← EReal.coe_mul]
    congr 1
    norm_num
  have h1 : FloatOps.uitofp (F := Ideal) .f32 (1#1) = ((1 : ℝ) : EReal) := by
    show (((1#1 : BitVec 1).toNat : ℝ) : EReal) = _
    simp
  have h0 : FloatOps.uitofp (F := Ideal) .f32 (0#1) = ((0 : ℝ) : EReal) := by
    show (((0#1 : BitVec 1).toNat : ℝ) : EReal) = _
    simp
  have hc : IntOp.cmpi .eq (IntOp.addi (BitVec.ofNat 32 a) 0#32) (BitVec.ofNat 32 b) = if a = b then 1#1 else 0#1 := by
    interval_cases a <;> interval_cases b <;> decide +kernel
  rw [h64, hc]
  by_cases h : a = b
  · rw [if_pos h, if_pos h, h1]
    unfold Ideal.div
    rw [if_neg (by norm_num), ← EReal.coe_inv, ← EReal.coe_mul]
    norm_num
  · rw [if_neg h, if_neg h, h0]
    unfold Ideal.div
    rw [if_neg (by norm_num), ← EReal.coe_inv, ← EReal.coe_mul]
    norm_num
theorem bdq_read (c : Dev nD) (i j : Fin 256) : (V m c main_v53 : Vec Ideal S256x256 .bf16) (ix2 i j)
    = if i.val / 64 = j.val / 64 then (((1 / 64 : ℝ)) : EReal) else 0 := by
  simp only [V]
  entry_read
  pointwise
  exact eye _ _ (by omega) (by omega)
theorem bdk_read (c : Dev nD) (i j : Fin 128) : (V m c main_v65 : Vec Ideal S128x128 .bf16) (ix2 i j)
    = if i.val / 64 = j.val / 64 then (((1 / 64 : ℝ)) : EReal) else 0 := by
  simp only [V]
  entry_read
  pointwise
  exact eye _ _ (by omega) (by omega)
end Cert.ProjV

end
-- ==== Proof.ProjArray.lean ====
/- The in-projection kernel's nine result arrays, from the arguments. -/
module

public import proofs.«01_k».proof.Proof.ProjTab

@[expose] public section

set_option maxRecDepth 16384

noncomputable section

namespace Cert.ProjV
open Idealize.ShloMosaic Idealize.ShloMosaic.TcCoe Idealize.SL.Sem
open Idealize.ShloMosaic.Pipeline (Dat)
open Cert.ProjIdeal Cert.ProjIdeal.Gen Idealize.ShloMosaic.Pointwise
variable (m : (ℓ : Loc nD τ sig) → Buf (Elt Ideal) ℓ)

theorem idx : ∀ t : Fin cfg0.N, win0_0.index t = ![(grid0.coords t 0).val, (grid0.coords t 1).val, 0]
    ∧ win0_1.index t = ![16 + (grid0.coords t 0).val, 0, 0]
    ∧ win0_2.index t = ![16 + (grid0.coords t 0).val, 0, 1]
    ∧ win0_3.index t = ![1, 0, 0]
    ∧ win0_4.index t = ![(grid0.coords t 1).val, 0]
    ∧ win0_5.index t = ![(grid0.coords t 1).val, 0]
    ∧ win0_6.index t = ![0, 0]
    ∧ win0_7.index t = ![0, 0]
    ∧ win0_8.index t = ![0, 0]
    ∧ win0_9.index t = ![0, 0]
    ∧ win0_10.index t = ![0, 0] :=
  (by decide +kernel : ∀ t : Fin grid0.N, _)
theorem odx : ∀ t : Fin cfg0.N, win0_11.index t = ![(grid0.coords t 0).val, (grid0.coords t 1).val, 0]
    ∧ win0_12.index t = ![(grid0.coords t 0).val, 0, 0, (grid0.coords t 1).val]
    ∧ win0_13.index t = ![(grid0.coords t 0).val, 0, (grid0.coords t 1).val, 0]
    ∧ win0_14.index t = ![(grid0.coords t 0).val, (grid0.coords t 1).val, 0]
    ∧ win0_15.index t = ![(grid0.coords t 0).val, (grid0.coords t 1).val, 0]
    ∧ win0_16.index t = ![(grid0.coords t 0).val, (grid0.coords t 1).val, 0]
    ∧ win0_17.index t = ![(grid0.coords t 0).val, (grid0.coords t 1).val, 0]
    ∧ win0_18.index t = ![(grid0.coords t 0).val, (grid0.coords t 1).val, 0, 0]
    ∧ win0_19.index t = ![(grid0.coords t 0).val, 0, (grid0.coords t 1).val, 0] :=
  (by decide +kernel : ∀ t : Fin grid0.N, _)

/-! What each operand's block holds at a point of the grid. -/
theorem blk0 (c : Dev nD) (t : Fin cfg0.N) (r : Fin 512) (k : Fin 1024) (B : Fin 8) (T : Fin 2048) (hB : B.val = (grid0.coords t 0).val) (hT : T.val = 512 * (grid0.coords t 1).val + r.val) :
    (iblk m c 0 t : Vec Ideal S1x512x1024 .f32) (ix3 0 r k) = (V m c main_arg0 : Vec Ideal S8x2048x1024 .f32) (ix3 B T k) := by
  blk_ext [iblk, idx t]
theorem blk1 (c : Dev nD) (t : Fin cfg0.N) (k : Fin 1024) (B : Fin 8) (hB : B.val = (grid0.coords t 0).val) :
    (iblk m c 1 t : Vec Ideal S1x1x1024 .f32) (ix3 0 0 k) = (V m c main_v0 : Vec Ideal S32x1x6144 .f32) (ix3 ⟨16 + B.val, by omega⟩ 0 ⟨k.val, by omega⟩) := by
  blk_ext [iblk, idx t]
theorem blk2 (c : Dev nD) (t : Fin cfg0.N) (k : Fin 1024) (B : Fin 8) (hB : B.val = (grid0.coords t 0).val) :
    (iblk m c 2 t : Vec Ideal S1x1x1024 .f32) (ix3 0 0 k) = (V m c main_v0 : Vec Ideal S32x1x6144 .f32) (ix3 ⟨16 + B.val, by omega⟩ 0 ⟨1024 + k.val, by omega⟩) := by
  blk_ext [iblk, idx t]
theorem blk3 (c : Dev nD) (t : Fin cfg0.N) (k : Fin 1024) (j : Fin 2304) :
    (iblk m c 3 t : Vec Ideal S1x1024x2304 .bf16) (ix3 0 k j) = (V m c main_v78 : Vec Ideal S2x1024x2304 .bf16) (ix3 1 k j) := by
  blk_ext [iblk, idx t]
theorem blk4 (c : Dev nD) (t : Fin cfg0.N) (r : Fin 512) (l : Fin 128) (T : Fin 2048) (hT : T.val = 512 * (grid0.coords t 1).val + r.val) :
    (iblk m c 4 t : Vec Ideal S512x128 .f32) (ix2 r l) = (V m c main_v38 : Vec Ideal S2048x128 .f32) (ix2 T l) := by
  blk_ext [iblk, idx t]
theorem blk5 (c : Dev nD) (t : Fin cfg0.N) (r : Fin 512) (l : Fin 128) (T : Fin 2048) (hT : T.val = 512 * (grid0.coords t 1).val + r.val) :
    (iblk m c 5 t : Vec Ideal S512x128 .f32) (ix2 r l) = (V m c main_v41 : Vec Ideal S2048x128 .f32) (ix2 T l) := by
  blk_ext [iblk, idx t]
theorem blk6 (c : Dev nD) (t : Fin cfg0.N) (j : Fin 512) :
    (iblk m c 6 t : Vec Ideal S1x512 .f32) (ix2 0 j) = (V m c main_v71 : Vec Ideal S1x512 .f32) (ix2 0 j) := by
  blk_ext [iblk, idx t]
theorem blk7 (c : Dev nD) (t : Fin cfg0.N) (j : Fin 128) :
    (iblk m c 7 t : Vec Ideal S1x128 .f32) (ix2 0 j) = (V m c main_v77 : Vec Ideal S1x128 .f32) (ix2 0 j) := by
  blk_ext [iblk, idx t]
theorem blk8 (c : Dev nD) (t : Fin cfg0.N) (i j : Fin 256) :
    (iblk m c 8 t : Vec Ideal S256x256 .bf16) (ix2 i j) = (V m c main_v53 : Vec Ideal S256x256 .bf16) (ix2 i j) := by
  blk_ext [iblk, idx t]
theorem blk9 (c : Dev nD) (t : Fin cfg0.N) (i j : Fin 128) :
    (iblk m c 9 t : Vec Ideal S128x128 .bf16) (ix2 i j) = (V m c main_v65 : Vec Ideal S128x128 .bf16) (ix2 i j) := by
  blk_ext [iblk, idx t]
theorem blk10 (c : Dev nD) (t : Fin cfg0.N) (i : Fin 256) (j : Fin 512) :
    (iblk m c 10 t : Vec Ideal S256x512 .bf16) (ix2 i j) = (V m c main_v79 : Vec Ideal S256x512 .bf16) (ix2 i j) := by
  blk_ext [iblk, idx t]

/-- The projections of one token, from the arguments. -/
def tok (x0 : Vec Ideal S8x2048x1024 .f32) (x1 : Vec Ideal S2x16x6144 .f32) (x2 : Vec Ideal S2x1024x2304 .f32) (b : Fin 8) (T : Fin 2048) : Fin 2304 → EReal :=
  prj (fun k => x0 (ix3 b T k)) (fun k => x1 (ix3 1 ⟨b.val, by omega⟩ ⟨k.val, by omega⟩)) (fun k => x1 (ix3 1 ⟨b.val, by omega⟩ ⟨1024 + k.val, by omega⟩)) (fun k j => x2 (ix3 1 k j))
/-- The cosines and the signed sines of one token's lanes. -/
def cosF (T : Fin 2048) (l : Fin 128) : EReal := Ideal.cos (ang (pos T.val l.val) ⟨l.val % 16, by omega⟩)
def sinF (T : Fin 2048) (l : Fin 128) : EReal :=
  if l.val % 32 < 16 then - Ideal.sin (ang (pos T.val l.val) ⟨l.val % 16, by omega⟩) else Ideal.sin (ang (pos T.val l.val) ⟨l.val % 16, by omega⟩)
/-- The mean table over heads of 64 lanes. -/
def bdF {n : ℕ} (i j : Fin n) : EReal := if i.val / 64 = j.val / 64 then (((1 / 64 : ℝ)) : EReal) else 0
/-- A head's norm weight, repeated over the lanes. -/
def gF {n : ℕ} (x : Vec Ideal S2x64 .f32) (j : Fin n) : EReal := x (ix2 1 ⟨j.val % 64, by omega⟩)

theorem mod_at (c : Dev nD) (B : Fin 8) (j : Fin 6144) : (V m c main_v0 : Vec Ideal S32x1x6144 .f32) (ix3 ⟨16 + B.val, by omega⟩ 0 j)
    = (m ((c : Thread nD τ).loc main_arg1) : Vec Ideal S2x16x6144 .f32) (ix3 1 ⟨B.val, by omega⟩ j) := by
  rw [mod_read]
  have e0 : (⟨(16 + B.val) / 16, by omega⟩ : Fin 2) = 1 := Fin.ext (by show (16 + B.val) / 16 = 1; omega)
  have e1 : (⟨(16 + B.val) % 16, by omega⟩ : Fin 16) = ⟨B.val, by omega⟩ := Fin.ext (by dsimp only; omega)
  exact congrArg₂ (fun a b => (m ((c : Thread nD τ).loc main_arg1) : Vec Ideal S2x16x6144 .f32) (ix3 a b j)) e0 e1

theorem row_point (c : Dev nD) (t : Fin cfg0.N) (r : Fin 512) (B : Fin 8) (T : Fin 2048) (hB : B.val = (grid0.coords t 0).val) (hT : T.val = 512 * (grid0.coords t 1).val + r.val) :
    rowP (iblk m c 0 t) (iblk m c 1 t) (iblk m c 2 t) (iblk m c 3 t) r
      = tok (m ((c : Thread nD τ).loc main_arg0)) (m ((c : Thread nD τ).loc main_arg1)) (m ((c : Thread nD τ).loc main_arg2)) B T := by
  have a0 : (fun k : Fin 1024 => (iblk m c 0 t : Vec Ideal S1x512x1024 .f32) (ix3 0 r k)) = fun k => (m ((c : Thread nD τ).loc main_arg0) : Vec Ideal S8x2048x1024 .f32) (ix3 B T k) :=
    funext fun k => (blk0 m c t r k B T hB hT).trans (congrFun (V_main_arg0 m c) _)
  have a1 : (fun k : Fin 1024 => (iblk m c 1 t : Vec Ideal S1x1x1024 .f32) (ix3 0 0 k)) = fun k => (m ((c : Thread nD τ).loc main_arg1) : Vec Ideal S2x16x6144 .f32) (ix3 1 ⟨B.val, by omega⟩ ⟨k.val, by omega⟩) :=
    funext fun k => (blk1 m c t k B hB).trans (mod_at m c B _)
  have a2 : (fun k : Fin 1024 => (iblk m c 2 t : Vec Ideal S1x1x1024 .f32) (ix3 0 0 k)) = fun k => (m ((c : Thread nD τ).loc main_arg1) : Vec Ideal S2x16x6144 .f32) (ix3 1 ⟨B.val, by omega⟩ ⟨1024 + k.val, by omega⟩) :=
    funext fun k => (blk2 m c t k B hB).trans (mod_at m c B _)
  have a3 : (fun (k : Fin 1024) (j : Fin 2304) => (iblk m c 3 t : Vec Ideal S1x1024x2304 .bf16) (ix3 0 k j)) = fun k j => (m ((c : Thread nD τ).loc main_arg2) : Vec Ideal S2x1024x2304 .f32) (ix3 1 k j) :=
    funext fun k => funext fun j => (blk3 m c t k j).trans (w_read m c 1 k j)
  unfold rowP tok
  rw [a0, a1, a2, a3]

theorem cos_point (c : Dev nD) (t : Fin cfg0.N) (r : Fin 512) (T : Fin 2048) (hT : T.val = 512 * (grid0.coords t 1).val + r.val) :
    (fun l : Fin 128 => (iblk m c 4 t : Vec Ideal S512x128 .f32) (ix2 r l)) = cosF T := funext fun l => (blk4 m c t r l T hT).trans (cos_read m c T l)
theorem sin_point (c : Dev nD) (t : Fin cfg0.N) (r : Fin 512) (T : Fin 2048) (hT : T.val = 512 * (grid0.coords t 1).val + r.val) :
    (fun l : Fin 128 => (iblk m c 5 t : Vec Ideal S512x128 .f32) (ix2 r l)) = sinF T := funext fun l => (blk5 m c t r l T hT).trans (sin_read m c T l)
theorem qg_point (c : Dev nD) (t : Fin cfg0.N) :
    (fun j : Fin 512 => (iblk m c 6 t : Vec Ideal S1x512 .f32) (ix2 0 j)) = gF (m ((c : Thread nD τ).loc main_arg3)) := funext fun j => (blk6 m c t j).trans (qg_read m c j)
theorem kg_point (c : Dev nD) (t : Fin cfg0.N) :
    (fun j : Fin 128 => (iblk m c 7 t : Vec Ideal S1x128 .f32) (ix2 0 j)) = gF (m ((c : Thread nD τ).loc main_arg4)) := funext fun j => (blk7 m c t j).trans (kg_read m c j)
theorem bdq_point (c : Dev nD) (t : Fin cfg0.N) :
    (fun i j : Fin 256 => (iblk m c 8 t : Vec Ideal S256x256 .bf16) (ix2 i j)) = bdF := funext fun i => funext fun j => (blk8 m c t i j).trans (bdq_read m c i j)
theorem bdk_point (c : Dev nD) (t : Fin cfg0.N) :
    (fun i j : Fin 128 => (iblk m c 9 t : Vec Ideal S128x128 .bf16) (ix2 i j)) = bdF := funext fun i => funext fun j => (blk9 m c t i j).trans (bdk_read m c i j)
theorem dft_point (c : Dev nD) (t : Fin cfg0.N) :
    (fun (i : Fin 256) (j : Fin 512) => (iblk m c 10 t : Vec Ideal S256x512 .bf16) (ix2 i j)) = fun i j => (m ((c : Thread nD τ).loc main_arg5) : Vec Ideal S256x512 .f32) (ix2 i j) :=
  funext fun i => funext fun j => (blk10 m c t i j).trans (dft_read m c i j)

/-- The nine results, element by element, from the arguments. -/
def G11 (x0 : Vec Ideal S8x2048x1024 .f32) (x1 : Vec Ideal S2x16x6144 .f32) (x2 : Vec Ideal S2x1024x2304 .f32) (x3 : Vec Ideal S2x64 .f32) (B : Fin 8) (T : Fin 2048) (j : Fin 512) : EReal :=
  qOf (tok x0 x1 x2 B T) bdF (gF x3) (cosF T) (sinF T) ⟨j.val / 256, by omega⟩ ⟨j.val / 128 % 2, by omega⟩ ⟨j.val % 128, by omega⟩
def G12 (x0 : Vec Ideal S8x2048x1024 .f32) (x1 : Vec Ideal S2x16x6144 .f32) (x2 : Vec Ideal S2x1024x2304 .f32) (x4 : Vec Ideal S2x64 .f32) (B : Fin 8) (h : Fin 2) (d : Fin 64) (T : Fin 2048) : EReal :=
  kOf (tok x0 x1 x2 B T) bdF (gF x4) (cosF T) (sinF T) ⟨64 * h.val + d.val, by omega⟩
def G13 (x0 : Vec Ideal S8x2048x1024 .f32) (x1 : Vec Ideal S2x16x6144 .f32) (x2 : Vec Ideal S2x1024x2304 .f32) (B : Fin 8) (h : Fin 2) (T : Fin 2048) (l : Fin 128) : EReal := vOf (tok x0 x1 x2 B T) h l
def G14 (x0 : Vec Ideal S8x2048x1024 .f32) (x1 : Vec Ideal S2x16x6144 .f32) (x2 : Vec Ideal S2x1024x2304 .f32) (B : Fin 8) (T : Fin 2048) (j : Fin 256) : EReal := tok x0 x1 x2 B T ⟨768 + j.val, by omega⟩
def G15 (x0 : Vec Ideal S8x2048x1024 .f32) (x1 : Vec Ideal S2x16x6144 .f32) (x2 : Vec Ideal S2x1024x2304 .f32) (B : Fin 8) (T : Fin 2048) (j : Fin 256) : EReal := tok x0 x1 x2 B T ⟨1024 + j.val, by omega⟩
def G16 (x0 : Vec Ideal S8x2048x1024 .f32) (x1 : Vec Ideal S2x16x6144 .f32) (x2 : Vec Ideal S2x1024x2304 .f32) (B : Fin 8) (T : Fin 2048) (j : Fin 256) : EReal := tok x0 x1 x2 B T ⟨1792 + j.val, by omega⟩
def G17 (x0 : Vec Ideal S8x2048x1024 .f32) (x1 : Vec Ideal S2x16x6144 .f32) (x2 : Vec Ideal S2x1024x2304 .f32) (B : Fin 8) (T : Fin 2048) (j : Fin 512) : EReal := tok x0 x1 x2 B T ⟨1280 + j.val, by omega⟩
def G18 (x0 : Vec Ideal S8x2048x1024 .f32) (x1 : Vec Ideal S2x16x6144 .f32) (x2 : Vec Ideal S2x1024x2304 .f32) (B : Fin 8) (n : Fin 32) (j : Fin 256) (r : Fin 64) : EReal := tok x0 x1 x2 B ⟨64 * n.val + r.val, by omega⟩ ⟨1024 + j.val, by omega⟩
def G19 (x0 : Vec Ideal S8x2048x1024 .f32) (x1 : Vec Ideal S2x16x6144 .f32) (x2 : Vec Ideal S2x1024x2304 .f32) (x5 : Vec Ideal S256x512 .f32) (B : Fin 8) (z : Fin 2) (T : Fin 2048) (j : Fin 256) : EReal :=
  fabOf (tok x0 x1 x2 B T) (fun i j => x5 (ix2 i j)) ⟨256 * z.val + j.val, by omega⟩
end Cert.ProjV

end
-- ==== Proof.ProjFinal.lean ====
/- The in-projection kernel's nine result arrays, after the grid. -/
module

public import proofs.«01_k».proof.Proof.ProjArray

@[expose] public section

set_option maxRecDepth 16384

noncomputable section

namespace Cert.ProjV
open Idealize.ShloMosaic Idealize.ShloMosaic.TcCoe Idealize.SL.Sem
open Idealize.ShloMosaic.Pipeline (Dat)
open Cert.ProjIdeal Cert.ProjIdeal.Gen Idealize.ShloMosaic.Pointwise
variable (m : (ℓ : Loc nD τ sig) → Buf (Elt Ideal) ℓ)

theorem at14 (c : Dev nD) (t : Fin cfg0.N) (r : Fin 512) (B : Fin 8) (T : Fin 2048) (j j' : Fin 256) (hB : B.val = (grid0.coords t 0).val) (hT : T.val = 512 * (grid0.coords t 1).val + r.val) (hj : j.val = j'.val) :
    rowP (iblk m c 0 t) (iblk m c 1 t) (iblk m c 2 t) (iblk m c 3 t) r ⟨768 + j.val, by omega⟩ = G14 (m ((c : Thread nD τ).loc main_arg0)) (m ((c : Thread nD τ).loc main_arg1)) (m ((c : Thread nD τ).loc main_arg2)) B T j' := by
  obtain rfl := Fin.ext hj
  rw [row_point m c t r B T hB hT]
  rfl

theorem final14 (c : Dev nD) : (dats m 0 c).arrAt 14 cfg0.N = fun i : S8x2048x256.Idx => G14 (m ((c : Thread nD τ).loc main_arg0)) (m ((c : Thread nD τ).loc main_arg1)) (m ((c : Thread nD τ).loc main_arg2)) (i 0) (i 1) (i 2) := by
  refine (dats m 0 c).arrAt_eq_of_covers 14 _ (by decide +kernel) fun t _ y => ?_
  blk_simp
  rw [after0_14]
  unfold outsAt0
  dsimp only
  refine (out14 c t (iblk m c 0 t) (iblk m c 1 t) (iblk m c 2 t) (iblk m c 3 t) (iblk m c 4 t) (iblk m c 5 t) (iblk m c 6 t) (iblk m c 7 t) (iblk m c 8 t) (iblk m c 9 t) (iblk m c 10 t) (y 0) (y 1) (y 2) y ?_).trans ?_
  · funext a; fin_cases a <;> rfl
  have h0 : (y 0).val < 1 := (y 0).isLt
  refine at14 m c t _ _ _ _ _ ?_ ?_ ?_
  · blk_simp [odx t]
    try omega
  · blk_simp [odx t]
    try omega
  · blk_simp [odx t]
    try omega

theorem at15 (c : Dev nD) (t : Fin cfg0.N) (r : Fin 512) (B : Fin 8) (T : Fin 2048) (j j' : Fin 256) (hB : B.val = (grid0.coords t 0).val) (hT : T.val = 512 * (grid0.coords t 1).val + r.val) (hj : j.val = j'.val) :
    rowP (iblk m c 0 t) (iblk m c 1 t) (iblk m c 2 t) (iblk m c 3 t) r ⟨1024 + j.val, by omega⟩ = G15 (m ((c : Thread nD τ).loc main_arg0)) (m ((c : Thread nD τ).loc main_arg1)) (m ((c : Thread nD τ).loc main_arg2)) B T j' := by
  obtain rfl := Fin.ext hj
  rw [row_point m c t r B T hB hT]
  rfl

theorem final15 (c : Dev nD) : (dats m 0 c).arrAt 15 cfg0.N = fun i : S8x2048x256.Idx => G15 (m ((c : Thread nD τ).loc main_arg0)) (m ((c : Thread nD τ).loc main_arg1)) (m ((c : Thread nD τ).loc main_arg2)) (i 0) (i 1) (i 2) := by
  refine (dats m 0 c).arrAt_eq_of_covers 15 _ (by decide +kernel) fun t _ y => ?_
  blk_simp
  rw [after0_15]
  unfold outsAt0
  dsimp only
  refine (out15 c t (iblk m c 0 t) (iblk m c 1 t) (iblk m c 2 t) (iblk m c 3 t) (iblk m c 4 t) (iblk m c 5 t) (iblk m c 6 t) (iblk m c 7 t) (iblk m c 8 t) (iblk m c 9 t) (iblk m c 10 t) (y 0) (y 1) (y 2) y ?_).trans ?_
  · funext a; fin_cases a <;> rfl
  have h0 : (y 0).val < 1 := (y 0).isLt
  refine at15 m c t _ _ _ _ _ ?_ ?_ ?_
  · blk_simp [odx t]
    try omega
  · blk_simp [odx t]
    try omega
  · blk_simp [odx t]
    try omega

theorem at16 (c : Dev nD) (t : Fin cfg0.N) (r : Fin 512) (B : Fin 8) (T : Fin 2048) (j j' : Fin 256) (hB : B.val = (grid0.coords t 0).val) (hT : T.val = 512 * (grid0.coords t 1).val + r.val) (hj : j.val = j'.val) :
    rowP (iblk m c 0 t) (iblk m c 1 t) (iblk m c 2 t) (iblk m c 3 t) r ⟨1792 + j.val, by omega⟩ = G16 (m ((c : Thread nD τ).loc main_arg0)) (m ((c : Thread nD τ).loc main_arg1)) (m ((c : Thread nD τ).loc main_arg2)) B T j' := by
  obtain rfl := Fin.ext hj
  rw [row_point m c t r B T hB hT]
  rfl

theorem final16 (c : Dev nD) : (dats m 0 c).arrAt 16 cfg0.N = fun i : S8x2048x256.Idx => G16 (m ((c : Thread nD τ).loc main_arg0)) (m ((c : Thread nD τ).loc main_arg1)) (m ((c : Thread nD τ).loc main_arg2)) (i 0) (i 1) (i 2) := by
  refine (dats m 0 c).arrAt_eq_of_covers 16 _ (by decide +kernel) fun t _ y => ?_
  blk_simp
  rw [after0_16]
  unfold outsAt0
  dsimp only
  refine (out16 c t (iblk m c 0 t) (iblk m c 1 t) (iblk m c 2 t) (iblk m c 3 t) (iblk m c 4 t) (iblk m c 5 t) (iblk m c 6 t) (iblk m c 7 t) (iblk m c 8 t) (iblk m c 9 t) (iblk m c 10 t) (y 0) (y 1) (y 2) y ?_).trans ?_
  · funext a; fin_cases a <;> rfl
  have h0 : (y 0).val < 1 := (y 0).isLt
  refine at16 m c t _ _ _ _ _ ?_ ?_ ?_
  · blk_simp [odx t]
    try omega
  · blk_simp [odx t]
    try omega
  · blk_simp [odx t]
    try omega

theorem at17 (c : Dev nD) (t : Fin cfg0.N) (r : Fin 512) (B : Fin 8) (T : Fin 2048) (j j' : Fin 512) (hB : B.val = (grid0.coords t 0).val) (hT : T.val = 512 * (grid0.coords t 1).val + r.val) (hj : j.val = j'.val) :
    rowP (iblk m c 0 t) (iblk m c 1 t) (iblk m c 2 t) (iblk m c 3 t) r ⟨1280 + j.val, by omega⟩ = G17 (m ((c : Thread nD τ).loc main_arg0)) (m ((c : Thread nD τ).loc main_arg1)) (m ((c : Thread nD τ).loc main_arg2)) B T j' := by
  obtain rfl := Fin.ext hj
  rw [row_point m c t r B T hB hT]
  rfl

theorem final17 (c : Dev nD) : (dats m 0 c).arrAt 17 cfg0.N = fun i : S8x2048x512.Idx => G17 (m ((c : Thread nD τ).loc main_arg0)) (m ((c : Thread nD τ).loc main_arg1)) (m ((c : Thread nD τ).loc main_arg2)) (i 0) (i 1) (i 2) := by
  refine (dats m 0 c).arrAt_eq_of_covers 17 _ (by decide +kernel) fun t _ y => ?_
  blk_simp
  rw [after0_17]
  unfold outsAt0
  dsimp only
  refine (out17 c t (iblk m c 0 t) (iblk m c 1 t) (iblk m c 2 t) (iblk m c 3 t) (iblk m c 4 t) (iblk m c 5 t) (iblk m c 6 t) (iblk m c 7 t) (iblk m c 8 t) (iblk m c 9 t) (iblk m c 10 t) (y 0) (y 1) (y 2) y ?_).trans ?_
  · funext a; fin_cases a <;> rfl
  have h0 : (y 0).val < 1 := (y 0).isLt
  refine at17 m c t _ _ _ _ _ ?_ ?_ ?_
  · blk_simp [odx t]
    try omega
  · blk_simp [odx t]
    try omega
  · blk_simp [odx t]
    try omega
end Cert.ProjV

end
-- ==== Proof.ProjFinalB.lean ====
/- The in-projection kernel's nine result arrays, after the grid. -/
module

public import proofs.«01_k».proof.Proof.ProjArray

@[expose] public section

set_option maxRecDepth 16384

noncomputable section

namespace Cert.ProjV
open Idealize.ShloMosaic Idealize.ShloMosaic.TcCoe Idealize.SL.Sem
open Idealize.ShloMosaic.Pipeline (Dat)
open Cert.ProjIdeal Cert.ProjIdeal.Gen Idealize.ShloMosaic.Pointwise
variable (m : (ℓ : Loc nD τ sig) → Buf (Elt Ideal) ℓ)

theorem at18 (c : Dev nD) (t : Fin cfg0.N) (r : Fin 512) (B : Fin 8) (n : Fin 32) (q : Fin 64) (j j' : Fin 256) (hB : B.val = (grid0.coords t 0).val) (hT : 64 * n.val + q.val = 512 * (grid0.coords t 1).val + r.val) (hj : j.val = j'.val) :
    rowP (iblk m c 0 t) (iblk m c 1 t) (iblk m c 2 t) (iblk m c 3 t) r ⟨1024 + j.val, by omega⟩ = G18 (m ((c : Thread nD τ).loc main_arg0)) (m ((c : Thread nD τ).loc main_arg1)) (m ((c : Thread nD τ).loc main_arg2)) B n j' q := by
  obtain rfl := Fin.ext hj
  rw [row_point m c t r B ⟨64 * n.val + q.val, by omega⟩ hB hT]
  rfl

theorem final18 (c : Dev nD) : (dats m 0 c).arrAt 18 cfg0.N = fun i : S8x32x256x64.Idx => G18 (m ((c : Thread nD τ).loc main_arg0)) (m ((c : Thread nD τ).loc main_arg1)) (m ((c : Thread nD τ).loc main_arg2)) (i 0) (i 1) (i 2) (i 3) := by
  refine (dats m 0 c).arrAt_eq_of_covers 18 _ (by decide +kernel) fun t _ y => ?_
  blk_simp
  rw [after0_18]
  unfold outsAt0
  dsimp only
  refine (out18 c t (iblk m c 0 t) (iblk m c 1 t) (iblk m c 2 t) (iblk m c 3 t) (iblk m c 4 t) (iblk m c 5 t) (iblk m c 6 t) (iblk m c 7 t) (iblk m c 8 t) (iblk m c 9 t) (iblk m c 10 t) (y 0) (y 1) (y 2) (y 3) y ?_).trans ?_
  · funext a; fin_cases a <;> rfl
  have h0 : (y 0).val < 1 := (y 0).isLt
  refine at18 m c t _ _ _ _ _ _ ?_ ?_ ?_
  · blk_simp [odx t]
    try omega
    try (dsimp only; omega)
  · blk_simp [odx t]
    try omega
    try (dsimp only; omega)
  · blk_simp [odx t]
    try omega
    try (dsimp only; omega)

theorem at19 (c : Dev nD) (t : Fin cfg0.N) (r : Fin 512) (B : Fin 8) (T : Fin 2048) (z z' : Fin 2) (j j' : Fin 256) (hB : B.val = (grid0.coords t 0).val) (hT : T.val = 512 * (grid0.coords t 1).val + r.val) (hz : z.val = z'.val) (hj : j.val = j'.val) :
    fabOf (rowP (iblk m c 0 t) (iblk m c 1 t) (iblk m c 2 t) (iblk m c 3 t) r) (fun i j => (iblk m c 10 t : Vec Ideal S256x512 .bf16) (ix2 i j)) ⟨256 * z.val + j.val, by omega⟩ = G19 (m ((c : Thread nD τ).loc main_arg0)) (m ((c : Thread nD τ).loc main_arg1)) (m ((c : Thread nD τ).loc main_arg2)) (m ((c : Thread nD τ).loc main_arg5)) B z' T j' := by
  obtain rfl := Fin.ext hj
  obtain rfl := Fin.ext hz
  rw [row_point m c t r B T hB hT, dft_point]
  rfl

theorem final19 (c : Dev nD) : (dats m 0 c).arrAt 19 cfg0.N = fun i : S8x2x2048x256.Idx => G19 (m ((c : Thread nD τ).loc main_arg0)) (m ((c : Thread nD τ).loc main_arg1)) (m ((c : Thread nD τ).loc main_arg2)) (m ((c : Thread nD τ).loc main_arg5)) (i 0) (i 1) (i 2) (i 3) := by
  refine (dats m 0 c).arrAt_eq_of_covers 19 _ (by decide +kernel) fun t _ y => ?_
  blk_simp
  rw [after0_19]
  unfold outsAt0
  dsimp only
  refine (out19 c t (iblk m c 0 t) (iblk m c 1 t) (iblk m c 2 t) (iblk m c 3 t) (iblk m c 4 t) (iblk m c 5 t) (iblk m c 6 t) (iblk m c 7 t) (iblk m c 8 t) (iblk m c 9 t) (iblk m c 10 t) (y 0) (y 1) (y 2) (y 3) y ?_).trans ?_
  · funext a; fin_cases a <;> rfl
  have h0 : (y 0).val < 1 := (y 0).isLt
  refine at19 m c t _ _ _ _ _ _ _ ?_ ?_ ?_ ?_
  · blk_simp [odx t]
    try omega
    try (dsimp only; omega)
  · blk_simp [odx t]
    try omega
    try (dsimp only; omega)
  · blk_simp [odx t]
    try omega
    try (dsimp only; omega)
  · blk_simp [odx t]
    try omega
    try (dsimp only; omega)

theorem at13 (c : Dev nD) (t : Fin cfg0.N) (r : Fin 512) (B : Fin 8) (T : Fin 2048) (z z' : Fin 2) (j j' : Fin 128) (hB : B.val = (grid0.coords t 0).val) (hT : T.val = 512 * (grid0.coords t 1).val + r.val) (hz : z.val = z'.val) (hj : j.val = j'.val) :
    vOf (rowP (iblk m c 0 t) (iblk m c 1 t) (iblk m c 2 t) (iblk m c 3 t) r) z j = G13 (m ((c : Thread nD τ).loc main_arg0)) (m ((c : Thread nD τ).loc main_arg1)) (m ((c : Thread nD τ).loc main_arg2)) B z' T j' := by
  obtain rfl := Fin.ext hj
  obtain rfl := Fin.ext hz
  rw [row_point m c t r B T hB hT]
  rfl

theorem final13 (c : Dev nD) : (dats m 0 c).arrAt 13 cfg0.N = fun i : S8x2x2048x128.Idx => G13 (m ((c : Thread nD τ).loc main_arg0)) (m ((c : Thread nD τ).loc main_arg1)) (m ((c : Thread nD τ).loc main_arg2)) (i 0) (i 1) (i 2) (i 3) := by
  refine (dats m 0 c).arrAt_eq_of_covers 13 _ (by decide +kernel) fun t _ y => ?_
  blk_simp
  rw [after0_13]
  unfold outsAt0
  dsimp only
  refine (out13 c t (iblk m c 0 t) (iblk m c 1 t) (iblk m c 2 t) (iblk m c 3 t) (iblk m c 4 t) (iblk m c 5 t) (iblk m c 6 t) (iblk m c 7 t) (iblk m c 8 t) (iblk m c 9 t) (iblk m c 10 t) (y 0) (y 1) (y 2) (y 3) y ?_).trans ?_
  · funext a; fin_cases a <;> rfl
  have h0 : (y 0).val < 1 := (y 0).isLt
  refine at13 m c t _ _ _ _ _ _ _ ?_ ?_ ?_ ?_
  · blk_simp [odx t]
    try omega
    try (dsimp only; omega)
  · blk_simp [odx t]
    try omega
    try (dsimp only; omega)
  · blk_simp [odx t]
    try omega
    try (dsimp only; omega)
  · blk_simp [odx t]
    try omega
    try (dsimp only; omega)

theorem at12 (c : Dev nD) (t : Fin cfg0.N) (r : Fin 512) (B : Fin 8) (T : Fin 2048) (z z' : Fin 2) (j j' : Fin 64) (hB : B.val = (grid0.coords t 0).val) (hT : T.val = 512 * (grid0.coords t 1).val + r.val) (hz : z.val = z'.val) (hj : j.val = j'.val) :
    kOf (rowP (iblk m c 0 t) (iblk m c 1 t) (iblk m c 2 t) (iblk m c 3 t) r) (fun i j => (iblk m c 9 t : Vec Ideal S128x128 .bf16) (ix2 i j)) (fun j => (iblk m c 7 t : Vec Ideal S1x128 .f32) (ix2 0 j)) (fun l => (iblk m c 4 t : Vec Ideal S512x128 .f32) (ix2 r l)) (fun l => (iblk m c 5 t : Vec Ideal S512x128 .f32) (ix2 r l)) ⟨64 * z.val + j.val, by omega⟩ = G12 (m ((c : Thread nD τ).loc main_arg0)) (m ((c : Thread nD τ).loc main_arg1)) (m ((c : Thread nD τ).loc main_arg2)) (m ((c : Thread nD τ).loc main_arg4)) B z' j' T := by
  obtain rfl := Fin.ext hj
  obtain rfl := Fin.ext hz
  rw [row_point m c t r B T hB hT, bdk_point, kg_point, cos_point m c t r T hT, sin_point m c t r T hT]
  rfl

theorem final12 (c : Dev nD) : (dats m 0 c).arrAt 12 cfg0.N = fun i : S8x2x64x2048.Idx => G12 (m ((c : Thread nD τ).loc main_arg0)) (m ((c : Thread nD τ).loc main_arg1)) (m ((c : Thread nD τ).loc main_arg2)) (m ((c : Thread nD τ).loc main_arg4)) (i 0) (i 1) (i 2) (i 3) := by
  refine (dats m 0 c).arrAt_eq_of_covers 12 _ (by decide +kernel) fun t _ y => ?_
  blk_simp
  rw [after0_12]
  unfold outsAt0
  dsimp only
  refine (out12 c t (iblk m c 0 t) (iblk m c 1 t) (iblk m c 2 t) (iblk m c 3 t) (iblk m c 4 t) (iblk m c 5 t) (iblk m c 6 t) (iblk m c 7 t) (iblk m c 8 t) (iblk m c 9 t) (iblk m c 10 t) (y 0) (y 1) (y 2) (y 3) y ?_).trans ?_
  · funext a; fin_cases a <;> rfl
  have h0 : (y 0).val < 1 := (y 0).isLt
  refine at12 m c t _ _ _ _ _ _ _ ?_ ?_ ?_ ?_
  · blk_simp [odx t]
    try omega
    try (dsimp only; omega)
  · blk_simp [odx t]
    try omega
    try (dsimp only; omega)
  · blk_simp [odx t]
    try omega
    try (dsimp only; omega)
  · blk_simp [odx t]
    try omega
    try (dsimp only; omega)

theorem at11 (c : Dev nD) (t : Fin cfg0.N) (r : Fin 512) (B : Fin 8) (T : Fin 2048) (j j' : Fin 512) (hB : B.val = (grid0.coords t 0).val) (hT : T.val = 512 * (grid0.coords t 1).val + r.val) (hj : j.val = j'.val) :
    qOf (rowP (iblk m c 0 t) (iblk m c 1 t) (iblk m c 2 t) (iblk m c 3 t) r) (fun i j => (iblk m c 8 t : Vec Ideal S256x256 .bf16) (ix2 i j)) (fun j => (iblk m c 6 t : Vec Ideal S1x512 .f32) (ix2 0 j)) (fun l => (iblk m c 4 t : Vec Ideal S512x128 .f32) (ix2 r l)) (fun l => (iblk m c 5 t : Vec Ideal S512x128 .f32) (ix2 r l)) ⟨j.val / 256, by omega⟩ ⟨j.val / 128 % 2, by omega⟩ ⟨j.val % 128, by omega⟩
      = G11 (m ((c : Thread nD τ).loc main_arg0)) (m ((c : Thread nD τ).loc main_arg1)) (m ((c : Thread nD τ).loc main_arg2)) (m ((c : Thread nD τ).loc main_arg3)) B T j' := by
  obtain rfl := Fin.ext hj
  rw [row_point m c t r B T hB hT, bdq_point, qg_point, cos_point m c t r T hT, sin_point m c t r T hT]
  rfl

theorem final11 (c : Dev nD) : (dats m 0 c).arrAt 11 cfg0.N = fun i : S8x2048x512.Idx => G11 (m ((c : Thread nD τ).loc main_arg0)) (m ((c : Thread nD τ).loc main_arg1)) (m ((c : Thread nD τ).loc main_arg2)) (m ((c : Thread nD τ).loc main_arg3)) (i 0) (i 1) (i 2) := by
  refine (dats m 0 c).arrAt_eq_of_covers 11 _ (by decide +kernel) fun t _ y => ?_
  blk_simp
  rw [after0_11]
  unfold outsAt0
  dsimp only
  refine (out11 c t (iblk m c 0 t) (iblk m c 1 t) (iblk m c 2 t) (iblk m c 3 t) (iblk m c 4 t) (iblk m c 5 t) (iblk m c 6 t) (iblk m c 7 t) (iblk m c 8 t) (iblk m c 9 t) (iblk m c 10 t) (y 0) (y 1) (y 2) y ?_).trans ?_
  · funext a; fin_cases a <;> rfl
  have h0 : (y 0).val < 1 := (y 0).isLt
  refine at11 m c t _ _ _ _ _ ?_ ?_ ?_
  · blk_simp [odx t]
    try omega
    try (dsimp only; omega)
  · blk_simp [odx t]
    try omega
    try (dsimp only; omega)
  · blk_simp [odx t]
    try omega
    try (dsimp only; omega)
end Cert.ProjV

end
-- ==== Proof.ProjRead.lean ====
/- The in-projection's reference, read one element at a time. -/
module

public import proofs.«01_k».proof.Proof.Gen.ProjRefIdeal.Read
public import proofs.«01_k».proof.Proof.ProjArray
public import Idealize.ShloMosaic.Lib.Pointwise

@[expose] public section

set_option maxRecDepth 16384

noncomputable section

namespace Cert.ProjV
open Idealize.ShloMosaic Idealize.ShloMosaic.TcCoe Idealize.SL.Sem Idealize.ShloMosaic.Pointwise
open Cert.ProjRefIdeal Cert.ProjRefIdeal.Read

variable (x0 : Vec Ideal S8x2048x1024 .f32) (x1 : Vec Ideal S2x16x6144 .f32) (x2 : Vec Ideal S2x1024x2304 .f32) (x3 x4 : Vec Ideal S2x64 .f32) (x5 : Vec Ideal S256x512 .f32)

theorem ref_row (b : Fin 8) (t : Fin 2048) (j : Fin 2304) : val_main_v24 (F := Ideal) x0 x1 x2 (ix3 b t j) = tok x0 x1 x2 b t j := by
  unfold val_main_v24 val_main_v23 val_main_v22 val_main_v21 val_main_v20 val_main_v19 val_main_v18 val_main_v17 val_main_v16 val_main_v11 val_main_v10 val_main_v9 val_main_v8 val_main_v7
  pointwise [val_main_cst]
  unfold tok prj modAt
  rfl

/-- A head's vector over its root mean square, by the head's weight. -/
def headNorm (y g : Fin 64 → EReal) (d : Fin 64) : EReal :=
  y d * Ideal.rsqrt (Ideal.div (∑ e : Fin 64, y e * y e) (Ideal.ofBits .f32 0x42800000#32) + Ideal.ofBits .f32 0x358637BD#32) * g d

/-- A head's vector turned by its token's row (the first half) and column (the second). -/
def headRope (n : Fin 64 → EReal) (T : Fin 2048) (d : Fin 64) : EReal :=
  if h : d.val < 16 then n d * Ideal.cos (ang (T.val / 64) ⟨d.val, h⟩) - n ⟨16 + d.val, by omega⟩ * Ideal.sin (ang (T.val / 64) ⟨d.val, h⟩)
  else if h' : d.val < 32 then n ⟨d.val - 16, by omega⟩ * Ideal.sin (ang (T.val / 64) ⟨d.val - 16, by omega⟩) + n d * Ideal.cos (ang (T.val / 64) ⟨d.val - 16, by omega⟩)
  else if h'' : d.val < 48 then n d * Ideal.cos (ang (T.val % 64) ⟨d.val - 32, by omega⟩) - n ⟨16 + d.val, by omega⟩ * Ideal.sin (ang (T.val % 64) ⟨d.val - 32, by omega⟩)
  else n ⟨d.val - 16, by omega⟩ * Ideal.sin (ang (T.val % 64) ⟨d.val - 48, by omega⟩) + n d * Ideal.cos (ang (T.val % 64) ⟨d.val - 48, by omega⟩)

theorem ref_qn (b : Fin 8) (h : Fin 8) (t : Fin 2048) (d : Fin 64) : val_main_v49 (F := Ideal) x0 x1 x2 x3 (ix4 b h t d)
    = headNorm (fun e => val_main_v24 (F := Ideal) x0 x1 x2 (ix3 b t ⟨h.val * 64 + e.val, by omega⟩)) (fun e => x3 (ix2 1 e)) d := by
  unfold val_main_v49 val_main_v48 val_main_v47 val_main_v46 val_main_v45 val_main_v44 val_main_v43 val_main_v42 val_main_v41 val_main_v40 val_main_v39 val_main_v38 val_main_v37 val_main_v36 val_main_v35 val_main_v34 val_main_v33 val_main_v25
  generalize val_main_v24 (F := Ideal) x0 x1 x2 = Z
  pointwise [val_main_cst_0, val_main_cst_1, val_main_cst_2]
  rfl

theorem ref_qr (t : Fin 2048) (j : Fin 16) : val_main_v62 (F := Ideal) (ix2 t j) = ang (t.val / 64) j := by
  unfold val_main_v62 val_main_v61 val_main_v60 val_main_v59 val_main_v58 val_main_v57 val_main_v55 val_main_v54 val_main_v53 val_main_v52 val_main_v51 val_main_v50 val_main_v2 val_main_v1 val_main_v0
  pointwise [val_main_cst_3, val_main_cst_4]
  rfl

theorem ref_qc (t : Fin 2048) (j : Fin 16) : val_main_v88 (F := Ideal) (ix2 t j) = ang (t.val % 64) j := by
  unfold val_main_v88 val_main_v87 val_main_v86 val_main_v85 val_main_v84 val_main_v83 val_main_v55 val_main_v54 val_main_v53 val_main_v52 val_main_v51 val_main_v50 val_main_v6 val_main_v5 val_main_v4 val_main_v3
  pointwise [val_main_cst_3, val_main_cst_4]
  rfl

theorem ref_qr0 (b : Fin 8) (h : Fin 8) (t : Fin 2048) (j : Fin 16) : val_main_v73 (F := Ideal) x0 x1 x2 x3 (ix4 b h t j)
    = val_main_v49 (F := Ideal) x0 x1 x2 x3 (ix4 b h t ⟨j.val, by omega⟩) * Ideal.cos (ang (t.val / 64) j) - val_main_v49 (F := Ideal) x0 x1 x2 x3 (ix4 b h t ⟨16 + j.val, by omega⟩) * Ideal.sin (ang (t.val / 64) j) := by
  rw [← ref_qr]
  unfold val_main_v73 val_main_v72 val_main_v71 val_main_v70 val_main_v69 val_main_v68 val_main_v67 val_main_v66 val_main_v65 val_main_v64 val_main_v63 val_main_v56
  generalize val_main_v49 (F := Ideal) x0 x1 x2 x3 = Z
  generalize val_main_v62 (F := Ideal) = A
  pointwise

theorem ref_qr1 (b : Fin 8) (h : Fin 8) (t : Fin 2048) (j : Fin 16) : val_main_v80 (F := Ideal) x0 x1 x2 x3 (ix4 b h t j)
    = val_main_v49 (F := Ideal) x0 x1 x2 x3 (ix4 b h t ⟨j.val, by omega⟩) * Ideal.sin (ang (t.val / 64) j) + val_main_v49 (F := Ideal) x0 x1 x2 x3 (ix4 b h t ⟨16 + j.val, by omega⟩) * Ideal.cos (ang (t.val / 64) j) := by
  rw [← ref_qr]
  unfold val_main_v80 val_main_v79 val_main_v78 val_main_v77 val_main_v76 val_main_v75 val_main_v74 val_main_v65 val_main_v66 val_main_v63 val_main_v64 val_main_v56
  generalize val_main_v49 (F := Ideal) x0 x1 x2 x3 = Z
  generalize val_main_v62 (F := Ideal) = A
  pointwise

theorem ref_qc0 (b : Fin 8) (h : Fin 8) (t : Fin 2048) (j : Fin 16) : val_main_v99 (F := Ideal) x0 x1 x2 x3 (ix4 b h t j)
    = val_main_v49 (F := Ideal) x0 x1 x2 x3 (ix4 b h t ⟨32 + j.val, by omega⟩) * Ideal.cos (ang (t.val % 64) j) - val_main_v49 (F := Ideal) x0 x1 x2 x3 (ix4 b h t ⟨32 + (16 + j.val), by omega⟩) * Ideal.sin (ang (t.val % 64) j) := by
  rw [← ref_qc]
  unfold val_main_v99 val_main_v98 val_main_v97 val_main_v96 val_main_v95 val_main_v94 val_main_v93 val_main_v92 val_main_v91 val_main_v90 val_main_v89 val_main_v82
  generalize val_main_v49 (F := Ideal) x0 x1 x2 x3 = Z
  generalize val_main_v88 (F := Ideal) = A
  pointwise

theorem ref_qc1 (b : Fin 8) (h : Fin 8) (t : Fin 2048) (j : Fin 16) : val_main_v106 (F := Ideal) x0 x1 x2 x3 (ix4 b h t j)
    = val_main_v49 (F := Ideal) x0 x1 x2 x3 (ix4 b h t ⟨32 + j.val, by omega⟩) * Ideal.sin (ang (t.val % 64) j) + val_main_v49 (F := Ideal) x0 x1 x2 x3 (ix4 b h t ⟨32 + (16 + j.val), by omega⟩) * Ideal.cos (ang (t.val % 64) j) := by
  rw [← ref_qc]
  unfold val_main_v106 val_main_v105 val_main_v104 val_main_v103 val_main_v102 val_main_v101 val_main_v100 val_main_v91 val_main_v92 val_main_v89 val_main_v90 val_main_v82
  generalize val_main_v49 (F := Ideal) x0 x1 x2 x3 = Z
  generalize val_main_v88 (F := Ideal) = A
  pointwise

theorem ref_qh (b : Fin 8) (h : Fin 8) (t : Fin 2048) (d : Fin 64) : val_main_v108 (F := Ideal) x0 x1 x2 x3 (ix4 b h t d)
    = headRope (fun e => val_main_v49 (F := Ideal) x0 x1 x2 x3 (ix4 b h t e)) t d := by
  unfold headRope
  by_cases h0 : d.val < 16
  · rw [dif_pos h0]
    refine Eq.trans ?_ (ref_qr0 x0 x1 x2 x3 b h t ⟨d.val, h0⟩)
    unfold val_main_v108 val_main_v81
    generalize val_main_v73 (F := Ideal) x0 x1 x2 x3 = A
    generalize val_main_v80 (F := Ideal) x0 x1 x2 x3 = B
    generalize val_main_v107 (F := Ideal) x0 x1 x2 x3 = C
    pointwise
    rw [dif_pos (by omega), dif_pos h0]
  rw [dif_neg h0]
  by_cases h1 : d.val < 32
  · rw [dif_pos h1]
    refine Eq.trans ?_ ((ref_qr1 x0 x1 x2 x3 b h t ⟨d.val - 16, by omega⟩).trans ?_)
    · unfold val_main_v108 val_main_v81
      generalize val_main_v73 (F := Ideal) x0 x1 x2 x3 = A
      generalize val_main_v80 (F := Ideal) x0 x1 x2 x3 = B
      generalize val_main_v107 (F := Ideal) x0 x1 x2 x3 = C
      pointwise
      rw [dif_pos h1, dif_neg h0]
    · have e : (⟨16 + (d.val - 16), by omega⟩ : Fin 64) = d := Fin.ext (by dsimp only; omega)
      dsimp only
      rw [e]
  rw [dif_neg h1]
  by_cases h2 : d.val < 48
  · rw [dif_pos h2]
    refine Eq.trans ?_ ((ref_qc0 x0 x1 x2 x3 b h t ⟨d.val - 32, by omega⟩).trans ?_)
    · unfold val_main_v108 val_main_v107
      generalize val_main_v99 (F := Ideal) x0 x1 x2 x3 = A
      generalize val_main_v106 (F := Ideal) x0 x1 x2 x3 = B
      generalize val_main_v81 (F := Ideal) x0 x1 x2 x3 = C
      pointwise
      rw [dif_neg h1, dif_pos (by omega)]
    · have e : (⟨32 + (d.val - 32), by omega⟩ : Fin 64) = d := Fin.ext (by dsimp only; omega)
      have e' : (⟨32 + (16 + (d.val - 32)), by omega⟩ : Fin 64) = ⟨16 + d.val, by omega⟩ := Fin.ext (by dsimp only; omega)
      dsimp only
      rw [e, e']
  rw [dif_neg h2]
  refine Eq.trans ?_ ((ref_qc1 x0 x1 x2 x3 b h t ⟨d.val - 48, by omega⟩).trans ?_)
  · unfold val_main_v108 val_main_v107
    generalize val_main_v99 (F := Ideal) x0 x1 x2 x3 = A
    generalize val_main_v106 (F := Ideal) x0 x1 x2 x3 = B
    generalize val_main_v81 (F := Ideal) x0 x1 x2 x3 = C
    pointwise
    rw [dif_neg h1, dif_neg (by omega)]
    exact congrArg (fun n => B (ix4 b h t n)) (Fin.ext (by dsimp only; omega))
  · have e : (⟨32 + (16 + (d.val - 48)), by omega⟩ : Fin 64) = d := Fin.ext (by dsimp only; omega)
    have e' : (⟨32 + (d.val - 48), by omega⟩ : Fin 64) = ⟨d.val - 16, by omega⟩ := Fin.ext (by dsimp only; omega)
    dsimp only
    rw [e, e']

theorem ref_kn (b : Fin 8) (h : Fin 2) (t : Fin 2048) (d : Fin 64) : val_main_v125 (F := Ideal) x0 x1 x2 x4 (ix4 b h t d)
    = headNorm (fun e => val_main_v24 (F := Ideal) x0 x1 x2 (ix3 b t ⟨512 + (h.val * 64 + e.val), by omega⟩)) (fun e => x4 (ix2 1 e)) d := by
  unfold val_main_v125 val_main_v124 val_main_v123 val_main_v122 val_main_v121 val_main_v120 val_main_v119 val_main_v118 val_main_v117 val_main_v116 val_main_v115 val_main_v114 val_main_v113 val_main_v112 val_main_v111 val_main_v110 val_main_v109 val_main_v26
  generalize val_main_v24 (F := Ideal) x0 x1 x2 = Z
  pointwise [val_main_cst_5, val_main_cst_6, val_main_cst_7]
  rfl

theorem ref_kr (t : Fin 2048) (j : Fin 16) : val_main_v138 (F := Ideal) (ix2 t j) = ang (t.val / 64) j := by
  unfold val_main_v138 val_main_v137 val_main_v136 val_main_v135 val_main_v134 val_main_v133 val_main_v131 val_main_v130 val_main_v129 val_main_v128 val_main_v127 val_main_v126 val_main_v2 val_main_v1 val_main_v0
  pointwise [val_main_cst_8, val_main_cst_9]
  rfl

theorem ref_kc (t : Fin 2048) (j : Fin 16) : val_main_v164 (F := Ideal) (ix2 t j) = ang (t.val % 64) j := by
  unfold val_main_v164 val_main_v163 val_main_v162 val_main_v161 val_main_v160 val_main_v159 val_main_v131 val_main_v130 val_main_v129 val_main_v128 val_main_v127 val_main_v126 val_main_v6 val_main_v5 val_main_v4 val_main_v3
  pointwise [val_main_cst_8, val_main_cst_9]
  rfl

theorem ref_kr0 (b : Fin 8) (h : Fin 2) (t : Fin 2048) (j : Fin 16) : val_main_v149 (F := Ideal) x0 x1 x2 x4 (ix4 b h t j)
    = val_main_v125 (F := Ideal) x0 x1 x2 x4 (ix4 b h t ⟨j.val, by omega⟩) * Ideal.cos (ang (t.val / 64) j) - val_main_v125 (F := Ideal) x0 x1 x2 x4 (ix4 b h t ⟨16 + j.val, by omega⟩) * Ideal.sin (ang (t.val / 64) j) := by
  rw [← ref_kr]
  unfold val_main_v149 val_main_v148 val_main_v147 val_main_v146 val_main_v145 val_main_v144 val_main_v143 val_main_v142 val_main_v141 val_main_v140 val_main_v139 val_main_v132
  generalize val_main_v125 (F := Ideal) x0 x1 x2 x4 = Z
  generalize val_main_v138 (F := Ideal) = A
  pointwise

theorem ref_kr1 (b : Fin 8) (h : Fin 2) (t : Fin 2048) (j : Fin 16) : val_main_v156 (F := Ideal) x0 x1 x2 x4 (ix4 b h t j)
    = val_main_v125 (F := Ideal) x0 x1 x2 x4 (ix4 b h t ⟨j.val, by omega⟩) * Ideal.sin (ang (t.val / 64) j) + val_main_v125 (F := Ideal) x0 x1 x2 x4 (ix4 b h t ⟨16 + j.val, by omega⟩) * Ideal.cos (ang (t.val / 64) j) := by
  rw [← ref_kr]
  unfold val_main_v156 val_main_v155 val_main_v154 val_main_v153 val_main_v152 val_main_v151 val_main_v150 val_main_v141 val_main_v142 val_main_v139 val_main_v140 val_main_v132
  generalize val_main_v125 (F := Ideal) x0 x1 x2 x4 = Z
  generalize val_main_v138 (F := Ideal) = A
  pointwise

theorem ref_kc0 (b : Fin 8) (h : Fin 2) (t : Fin 2048) (j : Fin 16) : val_main_v175 (F := Ideal) x0 x1 x2 x4 (ix4 b h t j)
    = val_main_v125 (F := Ideal) x0 x1 x2 x4 (ix4 b h t ⟨32 + j.val, by omega⟩) * Ideal.cos (ang (t.val % 64) j) - val_main_v125 (F := Ideal) x0 x1 x2 x4 (ix4 b h t ⟨32 + (16 + j.val), by omega⟩) * Ideal.sin (ang (t.val % 64) j) := by
  rw [← ref_kc]
  unfold val_main_v175 val_main_v174 val_main_v173 val_main_v172 val_main_v171 val_main_v170 val_main_v169 val_main_v168 val_main_v167 val_main_v166 val_main_v165 val_main_v158
  generalize val_main_v125 (F := Ideal) x0 x1 x2 x4 = Z
  generalize val_main_v164 (F := Ideal) = A
  pointwise

theorem ref_kc1 (b : Fin 8) (h : Fin 2) (t : Fin 2048) (j : Fin 16) : val_main_v182 (F := Ideal) x0 x1 x2 x4 (ix4 b h t j)
    = val_main_v125 (F := Ideal) x0 x1 x2 x4 (ix4 b h t ⟨32 + j.val, by omega⟩) * Ideal.sin (ang (t.val % 64) j) + val_main_v125 (F := Ideal) x0 x1 x2 x4 (ix4 b h t ⟨32 + (16 + j.val), by omega⟩) * Ideal.cos (ang (t.val % 64) j) := by
  rw [← ref_kc]
  unfold val_main_v182 val_main_v181 val_main_v180 val_main_v179 val_main_v178 val_main_v177 val_main_v176 val_main_v167 val_main_v168 val_main_v165 val_main_v166 val_main_v158
  generalize val_main_v125 (F := Ideal) x0 x1 x2 x4 = Z
  generalize val_main_v164 (F := Ideal) = A
  pointwise

theorem ref_kh (b : Fin 8) (h : Fin 2) (t : Fin 2048) (d : Fin 64) : val_main_v184 (F := Ideal) x0 x1 x2 x4 (ix4 b h t d)
    = headRope (fun e => val_main_v125 (F := Ideal) x0 x1 x2 x4 (ix4 b h t e)) t d := by
  unfold headRope
  by_cases h0 : d.val < 16
  · rw [dif_pos h0]
    refine Eq.trans ?_ (ref_kr0 x0 x1 x2 x4 b h t ⟨d.val, h0⟩)
    unfold val_main_v184 val_main_v157
    generalize val_main_v149 (F := Ideal) x0 x1 x2 x4 = A
    generalize val_main_v156 (F := Ideal) x0 x1 x2 x4 = B
    generalize val_main_v183 (F := Ideal) x0 x1 x2 x4 = C
    pointwise
    rw [dif_pos (by omega), dif_pos h0]
  rw [dif_neg h0]
  by_cases h1 : d.val < 32
  · rw [dif_pos h1]
    refine Eq.trans ?_ ((ref_kr1 x0 x1 x2 x4 b h t ⟨d.val - 16, by omega⟩).trans ?_)
    · unfold val_main_v184 val_main_v157
      generalize val_main_v149 (F := Ideal) x0 x1 x2 x4 = A
      generalize val_main_v156 (F := Ideal) x0 x1 x2 x4 = B
      generalize val_main_v183 (F := Ideal) x0 x1 x2 x4 = C
      pointwise
      rw [dif_pos h1, dif_neg h0]
    · have e : (⟨16 + (d.val - 16), by omega⟩ : Fin 64) = d := Fin.ext (by dsimp only; omega)
      dsimp only
      rw [e]
  rw [dif_neg h1]
  by_cases h2 : d.val < 48
  · rw [dif_pos h2]
    refine Eq.trans ?_ ((ref_kc0 x0 x1 x2 x4 b h t ⟨d.val - 32, by omega⟩).trans ?_)
    · unfold val_main_v184 val_main_v183
      generalize val_main_v175 (F := Ideal) x0 x1 x2 x4 = A
      generalize val_main_v182 (F := Ideal) x0 x1 x2 x4 = B
      generalize val_main_v157 (F := Ideal) x0 x1 x2 x4 = C
      pointwise
      rw [dif_neg h1, dif_pos (by omega)]
    · have e : (⟨32 + (d.val - 32), by omega⟩ : Fin 64) = d := Fin.ext (by dsimp only; omega)
      have e' : (⟨32 + (16 + (d.val - 32)), by omega⟩ : Fin 64) = ⟨16 + d.val, by omega⟩ := Fin.ext (by dsimp only; omega)
      dsimp only
      rw [e, e']
  rw [dif_neg h2]
  refine Eq.trans ?_ ((ref_kc1 x0 x1 x2 x4 b h t ⟨d.val - 48, by omega⟩).trans ?_)
  · unfold val_main_v184 val_main_v183
    generalize val_main_v175 (F := Ideal) x0 x1 x2 x4 = A
    generalize val_main_v182 (F := Ideal) x0 x1 x2 x4 = B
    generalize val_main_v157 (F := Ideal) x0 x1 x2 x4 = C
    pointwise
    rw [dif_neg h1, dif_neg (by omega)]
    exact congrArg (fun n => B (ix4 b h t n)) (Fin.ext (by dsimp only; omega))
  · have e : (⟨32 + (16 + (d.val - 48)), by omega⟩ : Fin 64) = d := Fin.ext (by dsimp only; omega)
    have e' : (⟨32 + (d.val - 48), by omega⟩ : Fin 64) = ⟨d.val - 16, by omega⟩ := Fin.ext (by dsimp only; omega)
    dsimp only
    rw [e, e']

theorem ref12 (b : Fin 8) (h : Fin 2) (d : Fin 64) (t : Fin 2048) : val_main_v204 (F := Ideal) x0 x1 x2 x4 (ix4 b h d t) = val_main_v184 (F := Ideal) x0 x1 x2 x4 (ix4 b h t d) := by
  unfold val_main_v204 val_main_v203
  generalize val_main_v184 (F := Ideal) x0 x1 x2 x4 = Z
  pointwise
theorem ref11 (b : Fin 8) (t : Fin 2048) (j : Fin 512) : val_main_v202 (F := Ideal) x0 x1 x2 x3 (ix3 b t j)
    = val_main_v108 (F := Ideal) x0 x1 x2 x3 (ix4 b ⟨j.val / 64, by omega⟩ t ⟨j.val % 64, by omega⟩) * Ideal.ofBits .f32 0x3E38AA3B#32 := by
  unfold val_main_v202 val_main_v191 val_main_v190 val_main_v189 val_main_v188
  generalize val_main_v108 (F := Ideal) x0 x1 x2 x3 = Z
  pointwise [val_main_cst_10]
theorem ref13 (b : Fin 8) (h : Fin 2) (t : Fin 2048) (l : Fin 128) : val_main_v205 (F := Ideal) x0 x1 x2 (ix4 b h t l)
    = padAt (fun d => val_main_v24 (F := Ideal) x0 x1 x2 (ix3 b t ⟨640 + (h.val * 64 + d.val), by omega⟩)) l := by
  unfold val_main_v205 val_main_v194 val_main_v193 val_main_v192 val_main_v186 val_main_v185 val_main_v27
  generalize val_main_v24 (F := Ideal) x0 x1 x2 = Z
  pointwise [val_main_cst_11, val_main_cst_12]
  unfold padAt
  by_cases h0 : l.val < 64
  · rw [dif_pos h0, dif_pos h0]
  · rw [dif_neg h0, dif_neg h0]
    by_cases h1 : l.val = 64
    · rw [dif_pos (by omega), if_pos h1]
    · rw [dif_neg (by omega), if_neg h1]
theorem ref14 (b : Fin 8) (t : Fin 2048) (j : Fin 256) : val_main_v206 (F := Ideal) x0 x1 x2 (ix3 b t j) = val_main_v24 (F := Ideal) x0 x1 x2 (ix3 b t ⟨768 + j.val, by omega⟩) := by
  unfold val_main_v206 val_main_v28
  generalize val_main_v24 (F := Ideal) x0 x1 x2 = Z
  pointwise
theorem ref15 (b : Fin 8) (t : Fin 2048) (j : Fin 256) : val_main_v207 (F := Ideal) x0 x1 x2 (ix3 b t j) = val_main_v24 (F := Ideal) x0 x1 x2 (ix3 b t ⟨1024 + j.val, by omega⟩) := by
  unfold val_main_v207 val_main_v29
  generalize val_main_v24 (F := Ideal) x0 x1 x2 = Z
  pointwise
theorem ref16 (b : Fin 8) (t : Fin 2048) (j : Fin 256) : val_main_v208 (F := Ideal) x0 x1 x2 (ix3 b t j) = val_main_v24 (F := Ideal) x0 x1 x2 (ix3 b t ⟨1792 + j.val, by omega⟩) := by
  unfold val_main_v208 val_main_v31
  generalize val_main_v24 (F := Ideal) x0 x1 x2 = Z
  pointwise
theorem ref17 (b : Fin 8) (t : Fin 2048) (j : Fin 512) : val_main_v30 (F := Ideal) x0 x1 x2 (ix3 b t j) = val_main_v24 (F := Ideal) x0 x1 x2 (ix3 b t ⟨1280 + j.val, by omega⟩) := by
  unfold val_main_v30
  generalize val_main_v24 (F := Ideal) x0 x1 x2 = Z
  pointwise
theorem ref18 (b : Fin 8) (n : Fin 32) (j : Fin 256) (r : Fin 64) : val_main_v209 (F := Ideal) x0 x1 x2 (ix4 b n j r) = val_main_v24 (F := Ideal) x0 x1 x2 (ix3 b ⟨n.val * 64 + r.val, by omega⟩ ⟨1024 + j.val, by omega⟩) := by
  unfold val_main_v209 val_main_v196 val_main_v195 val_main_v29
  generalize val_main_v24 (F := Ideal) x0 x1 x2 = Z
  pointwise
theorem ref19 (b : Fin 8) (z : Fin 2) (t : Fin 2048) (j : Fin 256) : val_main_v210 (F := Ideal) x0 x1 x2 x5 (ix4 b z t j)
    = ∑ i : Fin 256, val_main_v24 (F := Ideal) x0 x1 x2 (ix3 b t ⟨2048 + i.val, by omega⟩) * x5 (ix2 i ⟨256 * z.val + j.val, by omega⟩) := by
  unfold val_main_v210 val_main_v201 val_main_v200 val_main_v199 val_main_v198 val_main_v197 val_main_v187 val_main_v32
  generalize val_main_v24 (F := Ideal) x0 x1 x2 = Z
  pointwise
  by_cases h0 : z.val < 1
  · rw [dif_pos h0]
    exact Finset.sum_congr rfl fun i _ => congrArg (fun n => Z (ix3 b t ⟨2048 + i.val, by omega⟩) * x5 (ix2 i n)) (Fin.ext (by dsimp only; omega))
  · rw [dif_neg h0]
    exact Finset.sum_congr rfl fun i _ => congrArg (fun n => Z (ix3 b t ⟨2048 + i.val, by omega⟩) * x5 (ix2 i n)) (Fin.ext (by dsimp only; omega))
end Cert.ProjV

end
-- ==== Proof.ProjEq.lean ====
/- The in-projection kernel's nine result arrays are the reference's terms of the arguments. -/
module

public import proofs.«01_k».proof.Proof.ProjFinal
public import proofs.«01_k».proof.Proof.ProjFinalB
public import proofs.«01_k».proof.Proof.ProjRead

@[expose] public section

set_option maxRecDepth 16384

noncomputable section

namespace Cert.ProjV
open Idealize.ShloMosaic Idealize.ShloMosaic.TcCoe Idealize.SL.Sem Idealize.ShloMosaic.Pointwise

/-! ## The mean table's product is the head's mean -/

theorem sq_nonneg (x : EReal) : 0 ≤ x * x := by
  rcases le_total 0 x with h | h
  · exact mul_nonneg h h
  · have h' : 0 ≤ -x := by simpa using EReal.neg_le_neg_iff.mpr h
    have := mul_nonneg h' h'
    rwa [neg_mul_neg] at this

theorem sum_mul_of_nonneg {n : ℕ} (f : Fin n → EReal) (hf : ∀ i, 0 ≤ f i) (c : EReal) : ∑ i, f i * c = (∑ i, f i) * c := by
  have aux : ∀ s : Finset (Fin n), 0 ≤ ∑ i ∈ s, f i ∧ ∑ i ∈ s, f i * c = (∑ i ∈ s, f i) * c := by
    intro s
    induction s using Finset.induction_on with
    | empty => simp
    | insert a s ha ih =>
      rw [Finset.sum_insert ha, Finset.sum_insert ha, ih.2, EReal.right_distrib_of_nonneg (hf a) ih.1]
      exact ⟨add_nonneg (hf a) ih.1, rfl⟩
  exact (aux Finset.univ).2

theorem bits64 : Ideal.ofBits .f32 0x42800000#32 = ((64 : ℝ) : EReal) := by
  simp [Ideal.ofBits, Ideal.ieee]
  rw [← EReal.coe_mul]
  congr 1
  norm_num

theorem div64 (s : EReal) : Ideal.div s (Ideal.ofBits .f32 0x42800000#32) = s * ((1 / 64 : ℝ) : EReal) := by
  rw [bits64]
  unfold Ideal.div
  rw [if_neg (by simp), ← EReal.coe_inv]
  norm_num

theorem head_mean {n : ℕ} (hn : 64 ∣ n) (y : Fin n → EReal) (j : Fin n) :
    ∑ i : Fin n, y i * y i * bdF i j
      = Ideal.div (∑ e : Fin 64, y ⟨64 * (j.val / 64) + e.val, by omega⟩ * y ⟨64 * (j.val / 64) + e.val, by omega⟩) (Ideal.ofBits .f32 0x42800000#32) := by
  rw [div64, ← sum_mul_of_nonneg _ (fun _ => sq_nonneg _)]
  symm
  refine Finset.sum_of_injOn (fun e : Fin 64 => (⟨64 * (j.val / 64) + e.val, by omega⟩ : Fin n)) ?_ ?_ ?_ ?_
  · intro a _ b _ h
    have := congrArg Fin.val h
    dsimp only at this
    exact Fin.ext (by omega)
  · intro a _; exact Finset.mem_coe.mpr (Finset.mem_univ _)
  · intro i _ hi
    have hne : i.val / 64 ≠ j.val / 64 := by
      intro h
      exact hi ⟨⟨i.val % 64, by omega⟩, Finset.mem_coe.mpr (Finset.mem_univ _), Fin.ext (by dsimp only; omega)⟩
    unfold bdF
    rw [if_neg hne, mul_zero]
  · intro e _
    unfold bdF
    rw [if_pos (by dsimp only; omega)]

theorem norm_head {n : ℕ} (hn : 64 ∣ n) (y g : Fin n → EReal) (j : Fin n) : normAt y bdF g j
    = headNorm (fun e => y ⟨64 * (j.val / 64) + e.val, by omega⟩) (fun e => g ⟨64 * (j.val / 64) + e.val, by omega⟩) ⟨j.val % 64, by omega⟩ := by
  unfold normAt headNorm
  rw [head_mean hn]
  have e : (⟨64 * (j.val / 64) + j.val % 64, by omega⟩ : Fin n) = j := Fin.ext (by dsimp only; omega)
  dsimp only
  rw [e]

/-! ## The partner lanes and the signed sines are the two halves' turn -/

theorem rope_head (N : Fin 128 → EReal) (T : Fin 2048) (l : Fin 128) : ropeAt N (cosF T) (sinF T) l
    = headRope (fun e => N ⟨64 * (l.val / 64) + e.val, by omega⟩) T ⟨l.val % 64, by omega⟩ := by
  have key : ∀ (a : Fin 128) (b : ℕ) (hb : b < 128), a.val = b → N a = N ⟨b, hb⟩ := fun a b hb h => congrArg N (Fin.ext h)
  have kang : ∀ (p : ℕ) (a b : Fin 16), a.val = b.val → ang p a = ang p b := fun p a b h => congrArg (ang p) (Fin.ext h)
  unfold ropeAt headRope cosF sinF pos
  by_cases h0 : l.val % 64 < 16
  · rw [dif_pos h0, if_neg (show ¬ (16 ≤ l.val % 32) by omega), if_pos (show l.val % 64 < 32 by omega), if_pos (show l.val % 32 < 16 by omega), mul_neg, ← sub_eq_add_neg]
    rw [key l (64 * (l.val / 64) + l.val % 64) (by omega) (by omega), key ⟨(l.val + 16) % 128, by omega⟩ (64 * (l.val / 64) + (16 + l.val % 64)) (by omega) (by dsimp only; omega),
      kang _ ⟨l.val % 16, by omega⟩ ⟨l.val % 64, h0⟩ (by dsimp only; omega)]
  rw [dif_neg h0]
  by_cases h1 : l.val % 64 < 32
  · rw [dif_pos h1, if_pos (show 16 ≤ l.val % 32 by omega), if_neg (show ¬ (l.val % 32 < 16) by omega), if_pos (show l.val % 64 < 32 by omega), add_comm]
    rw [key l (64 * (l.val / 64) + l.val % 64) (by omega) (by omega), key ⟨(l.val + 112) % 128, by omega⟩ (64 * (l.val / 64) + (l.val % 64 - 16)) (by omega) (by dsimp only; omega),
      kang _ ⟨l.val % 16, by omega⟩ ⟨l.val % 64 - 16, by omega⟩ (by dsimp only; omega)]
  rw [dif_neg h1]
  by_cases h2 : l.val % 64 < 48
  · rw [dif_pos h2, if_neg (show ¬ (16 ≤ l.val % 32) by omega), if_pos (show l.val % 32 < 16 by omega), if_neg (show ¬ (l.val % 64 < 32) by omega), mul_neg, ← sub_eq_add_neg]
    rw [key l (64 * (l.val / 64) + l.val % 64) (by omega) (by omega), key ⟨(l.val + 16) % 128, by omega⟩ (64 * (l.val / 64) + (16 + l.val % 64)) (by omega) (by dsimp only; omega),
      kang _ ⟨l.val % 16, by omega⟩ ⟨l.val % 64 - 32, by omega⟩ (by dsimp only; omega)]
  rw [dif_neg h2, if_pos (show 16 ≤ l.val % 32 by omega), if_neg (show ¬ (l.val % 64 < 32) by omega), if_neg (show ¬ (l.val % 32 < 16) by omega), add_comm]
  rw [key l (64 * (l.val / 64) + l.val % 64) (by omega) (by omega), key ⟨(l.val + 112) % 128, by omega⟩ (64 * (l.val / 64) + (l.val % 64 - 16)) (by omega) (by dsimp only; omega),
    kang _ ⟨l.val % 16, by omega⟩ ⟨l.val % 64 - 48, by omega⟩ (by dsimp only; omega)]

theorem headNorm_congr {y y' g g' : Fin 64 → EReal} {d d' : Fin 64} (hy : ∀ e, y e = y' e) (hg : ∀ e, g e = g' e) (hd : d = d') : headNorm y g d = headNorm y' g' d' := by
  rw [funext hy, funext hg, hd]
theorem headRope_congr {y y' : Fin 64 → EReal} {T : Fin 2048} {d d' : Fin 64} (hy : ∀ e, y e = y' e) (hd : d = d') : headRope y T d = headRope y' T d' := by
  rw [funext hy, hd]

section
open Cert.ProjRefIdeal Cert.ProjRefIdeal.Read
variable (x0 : Vec Ideal S8x2048x1024 .f32) (x1 : Vec Ideal S2x16x6144 .f32) (x2 : Vec Ideal S2x1024x2304 .f32) (x3 x4 : Vec Ideal S2x64 .f32) (x5 : Vec Ideal S256x512 .f32)

theorem eq11 (B : Fin 8) (T : Fin 2048) (j : Fin 512) : G11 x0 x1 x2 x3 B T j = val_main_v202 (F := Ideal) x0 x1 x2 x3 (ix3 B T j) := by
  rw [ref11, ref_qh]
  unfold G11 qOf
  rw [rope_head]
  refine congrArg (· * Ideal.ofBits .f32 0x3E38AA3B#32) (headRope_congr (fun e => ?_) (Fin.ext (by dsimp only; omega)))
  rw [norm_head (by decide), ref_qn]
  refine headNorm_congr (fun e' => ?_) (fun e' => ?_) (Fin.ext (by dsimp only; omega))
  · rw [ref_row]
    exact congrArg _ (Fin.ext (by dsimp only; omega))
  · unfold gF
    exact congrArg (fun n => x3 (ix2 1 n)) (Fin.ext (by dsimp only; omega))
theorem eq12 (B : Fin 8) (h : Fin 2) (d : Fin 64) (T : Fin 2048) : G12 x0 x1 x2 x4 B h d T = val_main_v204 (F := Ideal) x0 x1 x2 x4 (ix4 B h d T) := by
  rw [ref12, ref_kh]
  unfold G12 kOf
  rw [rope_head]
  refine headRope_congr (fun e => ?_) (Fin.ext (by dsimp only; omega))
  rw [norm_head (by decide), ref_kn]
  refine headNorm_congr (fun e' => ?_) (fun e' => ?_) (Fin.ext (by dsimp only; omega))
  · rw [ref_row]
    exact congrArg _ (Fin.ext (by dsimp only; omega))
  · unfold gF
    exact congrArg (fun n => x4 (ix2 1 n)) (Fin.ext (by dsimp only; omega))
theorem eq13 (B : Fin 8) (h : Fin 2) (T : Fin 2048) (l : Fin 128) : G13 x0 x1 x2 B h T l = val_main_v205 (F := Ideal) x0 x1 x2 (ix4 B h T l) := by
  rw [ref13]
  unfold G13 vOf
  refine congrArg (fun v => padAt v l) (funext fun d => ?_)
  rw [ref_row]
  exact congrArg _ (Fin.ext (by dsimp only; omega))
theorem eq14 (B : Fin 8) (T : Fin 2048) (j : Fin 256) : G14 x0 x1 x2 B T j = val_main_v206 (F := Ideal) x0 x1 x2 (ix3 B T j) := by
  rw [ref14, ref_row]; rfl
theorem eq15 (B : Fin 8) (T : Fin 2048) (j : Fin 256) : G15 x0 x1 x2 B T j = val_main_v207 (F := Ideal) x0 x1 x2 (ix3 B T j) := by
  rw [ref15, ref_row]; rfl
theorem eq16 (B : Fin 8) (T : Fin 2048) (j : Fin 256) : G16 x0 x1 x2 B T j = val_main_v208 (F := Ideal) x0 x1 x2 (ix3 B T j) := by
  rw [ref16, ref_row]; rfl
theorem eq17 (B : Fin 8) (T : Fin 2048) (j : Fin 512) : G17 x0 x1 x2 B T j = val_main_v30 (F := Ideal) x0 x1 x2 (ix3 B T j) := by
  rw [ref17, ref_row]; rfl
theorem eq18 (B : Fin 8) (n : Fin 32) (j : Fin 256) (r : Fin 64) : G18 x0 x1 x2 B n j r = val_main_v209 (F := Ideal) x0 x1 x2 (ix4 B n j r) := by
  rw [ref18, ref_row]
  unfold G18
  exact congrArg (fun T => tok x0 x1 x2 B T _) (Fin.ext (by dsimp only; omega))
theorem eq19 (B : Fin 8) (z : Fin 2) (T : Fin 2048) (j : Fin 256) : G19 x0 x1 x2 x5 B z T j = val_main_v210 (F := Ideal) x0 x1 x2 x5 (ix4 B z T j) := by
  rw [ref19]
  unfold G19 fabOf
  refine Finset.sum_congr rfl fun i _ => ?_
  rw [ref_row]

end

/-! ## The nine result arrays -/

open Cert.ProjIdeal Cert.ProjIdeal.Gen
variable (m : (ℓ : Loc nD τ sig) → Buf (Elt Ideal) ℓ)

theorem array11 (c : Dev nD) : (dats m 0 c).arrAt 11 cfg0.N = Cert.ProjRefIdeal.Read.val_main_v202 (F := Ideal) (m ((c : Thread nD τ).loc main_arg0)) (m ((c : Thread nD τ).loc main_arg1)) (m ((c : Thread nD τ).loc main_arg2)) (m ((c : Thread nD τ).loc main_arg3)) := by
  rw [final11 m c]
  funext i
  have e : i = ix3 (i 0) (i 1) (i 2) := by funext a; fin_cases a <;> rfl
  exact (eq11 _ _ _ _ (i 0) (i 1) (i 2)).trans (congrArg _ e.symm)

theorem array12 (c : Dev nD) : (dats m 0 c).arrAt 12 cfg0.N = Cert.ProjRefIdeal.Read.val_main_v204 (F := Ideal) (m ((c : Thread nD τ).loc main_arg0)) (m ((c : Thread nD τ).loc main_arg1)) (m ((c : Thread nD τ).loc main_arg2)) (m ((c : Thread nD τ).loc main_arg4)) := by
  rw [final12 m c]
  funext i
  have e : i = ix4 (i 0) (i 1) (i 2) (i 3) := by funext a; fin_cases a <;> rfl
  exact (eq12 _ _ _ _ (i 0) (i 1) (i 2) (i 3)).trans (congrArg _ e.symm)

theorem array13 (c : Dev nD) : (dats m 0 c).arrAt 13 cfg0.N = Cert.ProjRefIdeal.Read.val_main_v205 (F := Ideal) (m ((c : Thread nD τ).loc main_arg0)) (m ((c : Thread nD τ).loc main_arg1)) (m ((c : Thread nD τ).loc main_arg2)) := by
  rw [final13 m c]
  funext i
  have e : i = ix4 (i 0) (i 1) (i 2) (i 3) := by funext a; fin_cases a <;> rfl
  exact (eq13 _ _ _ (i 0) (i 1) (i 2) (i 3)).trans (congrArg _ e.symm)

theorem array14 (c : Dev nD) : (dats m 0 c).arrAt 14 cfg0.N = Cert.ProjRefIdeal.Read.val_main_v206 (F := Ideal) (m ((c : Thread nD τ).loc main_arg0)) (m ((c : Thread nD τ).loc main_arg1)) (m ((c : Thread nD τ).loc main_arg2)) := by
  rw [final14 m c]
  funext i
  have e : i = ix3 (i 0) (i 1) (i 2) := by funext a; fin_cases a <;> rfl
  exact (eq14 _ _ _ (i 0) (i 1) (i 2)).trans (congrArg _ e.symm)

theorem array15 (c : Dev nD) : (dats m 0 c).arrAt 15 cfg0.N = Cert.ProjRefIdeal.Read.val_main_v207 (F := Ideal) (m ((c : Thread nD τ).loc main_arg0)) (m ((c : Thread nD τ).loc main_arg1)) (m ((c : Thread nD τ).loc main_arg2)) := by
  rw [final15 m c]
  funext i
  have e : i = ix3 (i 0) (i 1) (i 2) := by funext a; fin_cases a <;> rfl
  exact (eq15 _ _ _ (i 0) (i 1) (i 2)).trans (congrArg _ e.symm)

theorem array16 (c : Dev nD) : (dats m 0 c).arrAt 16 cfg0.N = Cert.ProjRefIdeal.Read.val_main_v208 (F := Ideal) (m ((c : Thread nD τ).loc main_arg0)) (m ((c : Thread nD τ).loc main_arg1)) (m ((c : Thread nD τ).loc main_arg2)) := by
  rw [final16 m c]
  funext i
  have e : i = ix3 (i 0) (i 1) (i 2) := by funext a; fin_cases a <;> rfl
  exact (eq16 _ _ _ (i 0) (i 1) (i 2)).trans (congrArg _ e.symm)

theorem array17 (c : Dev nD) : (dats m 0 c).arrAt 17 cfg0.N = Cert.ProjRefIdeal.Read.val_main_v30 (F := Ideal) (m ((c : Thread nD τ).loc main_arg0)) (m ((c : Thread nD τ).loc main_arg1)) (m ((c : Thread nD τ).loc main_arg2)) := by
  rw [final17 m c]
  funext i
  have e : i = ix3 (i 0) (i 1) (i 2) := by funext a; fin_cases a <;> rfl
  exact (eq17 _ _ _ (i 0) (i 1) (i 2)).trans (congrArg _ e.symm)

theorem array18 (c : Dev nD) : (dats m 0 c).arrAt 18 cfg0.N = Cert.ProjRefIdeal.Read.val_main_v209 (F := Ideal) (m ((c : Thread nD τ).loc main_arg0)) (m ((c : Thread nD τ).loc main_arg1)) (m ((c : Thread nD τ).loc main_arg2)) := by
  rw [final18 m c]
  funext i
  have e : i = ix4 (i 0) (i 1) (i 2) (i 3) := by funext a; fin_cases a <;> rfl
  exact (eq18 _ _ _ (i 0) (i 1) (i 2) (i 3)).trans (congrArg _ e.symm)

theorem array19 (c : Dev nD) : (dats m 0 c).arrAt 19 cfg0.N = Cert.ProjRefIdeal.Read.val_main_v210 (F := Ideal) (m ((c : Thread nD τ).loc main_arg0)) (m ((c : Thread nD τ).loc main_arg1)) (m ((c : Thread nD τ).loc main_arg2)) (m ((c : Thread nD τ).loc main_arg5)) := by
  rw [final19 m c]
  funext i
  have e : i = ix4 (i 0) (i 1) (i 2) (i 3) := by funext a; fin_cases a <;> rfl
  exact (eq19 _ _ _ _ (i 0) (i 1) (i 2) (i 3)).trans (congrArg _ e.symm)
end Cert.ProjV

end
-- ==== Proof.lean ====
/- The claims of this certificate, assembled: the frames of the four calls and their references from their runs, and the
   four value claims from the equations of the modules imported. -/
module

public import proofs.«01_k».proof.Proof.Gen.AttnIdeal.Value
public import proofs.«01_k».proof.Proof.Gen.FfnIdeal.Value
public import proofs.«01_k».proof.Proof.Gen.MixIdeal.Value
public import proofs.«01_k».proof.Proof.Gen.ProjRefIdeal.Read
public import proofs.«01_k».proof.Proof.Gen.AttnRefIdeal.Read
public import proofs.«01_k».proof.Proof.Gen.MixRefIdeal.Read
public import proofs.«01_k».proof.Proof.Gen.FfnRefIdeal.Read
public import proofs.«01_k».proof.Proof.AttnFinite
public import proofs.«01_k».proof.Proof.FfnEq
public import proofs.«01_k».proof.Proof.MixEq
public import proofs.«01_k».proof.Proof.ProjEq
public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal
public import Idealize.ShloMosaic.Adequacy
public import Idealize.ShloMosaic.Lib.Claim
public import Idealize.ShloMosaic.Lib.Quiescent
public import Idealize.ShloMosaic.Init

@[expose] public section

noncomputable section

namespace Cert.Proof

open Idealize.ShloMosaic Idealize.SL.Sem

/-- The attention reference: host operations only, and no semaphore in the program. -/
theorem frame_attn_ref : Cert.quiescent_AttnRefIdeal (hAttnRefIdeal := Cert.AttnRefIdeal.Gen.facts) := fun m g _ =>
  (θ_run _ _ _).mono (fun r h => And.intro (fun c => (h c).2) (sem_eq_zero_of_no_sems (by decide) r.2))
    (Cert.AttnRefIdeal.Value.run m g)

/-- The feed-forward reference, likewise. -/
theorem frame_ffn_ref : Cert.quiescent_FfnRefIdeal (hFfnRefIdeal := Cert.FfnRefIdeal.Gen.facts) := fun m g _ =>
  (θ_run _ _ _).mono (fun r h => And.intro (fun c => (h c).2) (sem_eq_zero_of_no_sems (by decide) r.2))
    (Cert.FfnRefIdeal.Value.run m g)

/-- The mixing reference, likewise. -/
theorem frame_mix_ref : Cert.quiescent_MixRefIdeal (hMixRefIdeal := Cert.MixRefIdeal.Gen.facts) := fun m g _ =>
  (θ_run _ _ _).mono (fun r h => And.intro (fun c => (h c).2) (sem_eq_zero_of_no_sems (by decide) r.2))
    (Cert.MixRefIdeal.Value.run m g)

/-- The in-projection reference, likewise. -/
theorem frame_proj_ref : Cert.quiescent_ProjRefIdeal (hProjRefIdeal := Cert.ProjRefIdeal.Gen.facts) := fun m g _ =>
  (θ_run _ _ _).mono (fun r h => And.intro (fun c => (h c).2.2.2.2.2.2.2.2.2) (sem_eq_zero_of_no_sems (by decide) r.2))
    (Cert.ProjRefIdeal.Value.run m g)

section
open Cert.AttnRefIdeal
/-- The attention reference's run, its result as the last of its stages. -/
theorem run_attn_ref (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v20) = Read.val_main_v20 (F := Ideal) (m ((c.tc : Thread nD τ).loc main_arg0))
        (m ((c.tc : Thread nD τ).loc main_arg1)) (m ((c.tc : Thread nD τ).loc main_arg2)) (m ((c.tc : Thread nD τ).loc main_arg3))
        (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun r h c => ⟨(h c).1.trans (Read.val_main_v20_eq _ _ _ _ _), (h c).2⟩) (Value.run m ρ)
end

/-- The attention kernel and its reference end with the same array. -/
theorem algebraic_attn : Cert.algebraic_AttnIdeal_AttnRefIdeal_pre_finite (hAttnIdeal := Cert.AttnIdeal.Gen.facts)
    (hAttnRefIdeal := Cert.AttnRefIdeal.Gen.facts) (hPre_finite := Cert.AttnV.facts_pre) := by
  pair_intro
  · run_from Cert.AttnIdeal.Value.run_blocks m g
  · run_from run_attn_ref m' g'
    obtain ⟨hq, hkc, hk⟩ := Cert.AttnV.real_of_pre m hpre c
    exact (Cert.AttnV.attn_eq m c hq hkc hk).symm

section
open Cert.FfnRefIdeal
/-- The feed-forward reference's run, its result as the last of its stages. -/
theorem run_ffn_ref (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v89) = Read.val_main_v89 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run _ _ _).mono (fun r h c => ⟨(h c).1.trans (Read.val_main_v89_eq _), (h c).2⟩) (Value.run m ρ)
end

/-- The feed-forward kernel and its reference end with the same array. -/
theorem algebraic_ffn : Cert.algebraic_FfnIdeal_FfnRefIdeal (hFfnIdeal := Cert.FfnIdeal.Gen.facts)
    (hFfnRefIdeal := Cert.FfnRefIdeal.Gen.facts) := by
  pair_intro
  · run_from Cert.FfnIdeal.Value.run_blocks m g
  · run_from run_ffn_ref m' g'
    exact (Cert.FfnV.ffn_eq m c).symm

section
open Cert.ProjRefIdeal
/-- The in-projection reference's run, each result as the last of its stages. -/
theorem run_proj_ref (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v202) = Read.val_main_v202 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v204) = Read.val_main_v204 (F := Ideal) (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v205) = Read.val_main_v205 (F := Ideal) (m ((c.tc : Thread nD τ).loc main_arg0)) (m ((c.tc : Thread nD τ).loc main_arg1)) (m ((c.tc : Thread nD τ).loc main_arg2))
      ∧ r.2.mem ((c.tc : Thread nD τ).loc main_v206) = Read.val_main_v206 (F := Ideal) (m ((c.tc : Thread nD τ).loc main_arg0)) (m ((c.tc : Thread nD τ).loc main_arg1)) (m ((c.tc : Thread nD τ).loc main_arg2))
      ∧ r.2.mem ((c.tc : Thread nD τ).loc main_v207) = Read.val_main_v207 (F := Ideal) (m ((c.tc : Thread nD τ).loc main_arg0)) (m ((c.tc : Thread nD τ).loc main_arg1)) (m ((c.tc : Thread nD τ).loc main_arg2))
      ∧ r.2.mem ((c.tc : Thread nD τ).loc main_v208) = Read.val_main_v208 (F := Ideal) (m ((c.tc : Thread nD τ).loc main_arg0)) (m ((c.tc : Thread nD τ).loc main_arg1)) (m ((c.tc : Thread nD τ).loc main_arg2))
      ∧ r.2.mem ((c.tc : Thread nD τ).loc main_v30) = Read.val_main_v30 (F := Ideal) (m ((c.tc : Thread nD τ).loc main_arg0)) (m ((c.tc : Thread nD τ).loc main_arg1)) (m ((c.tc : Thread nD τ).loc main_arg2))
      ∧ r.2.mem ((c.tc : Thread nD τ).loc main_v209) = Read.val_main_v209 (F := Ideal) (m ((c.tc : Thread nD τ).loc main_arg0)) (m ((c.tc : Thread nD τ).loc main_arg1)) (m ((c.tc : Thread nD τ).loc main_arg2))
      ∧ r.2.mem ((c.tc : Thread nD τ).loc main_v210) = Read.val_main_v210 (F := Ideal) (m ((c.tc : Thread nD τ).loc main_arg0)) (m ((c.tc : Thread nD τ).loc main_arg1)) (m ((c.tc : Thread nD τ).loc main_arg2)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run _ _ _).mono (fun r h c => ⟨(h c).1.trans (Read.val_main_v202_eq _),
    (h c).2.1.trans (Read.val_main_v204_eq _),
    (h c).2.2.1.trans (Read.val_main_v205_eq _),
    (h c).2.2.2.1.trans (Read.val_main_v206_eq _),
    (h c).2.2.2.2.1.trans (Read.val_main_v207_eq _),
    (h c).2.2.2.2.2.1.trans (Read.val_main_v208_eq _),
    (h c).2.2.2.2.2.2.1.trans (Read.val_main_v30_eq _),
    (h c).2.2.2.2.2.2.2.1.trans (Read.val_main_v209_eq _),
    (h c).2.2.2.2.2.2.2.2.1.trans (Read.val_main_v210_eq _),
    (h c).2.2.2.2.2.2.2.2.2⟩) (Value.run m ρ)
end

set_option maxHeartbeats 4000000 in
/-- The in-projection kernel and its reference end with the same nine arrays. -/
theorem algebraic_proj : Cert.algebraic_ProjIdeal_ProjRefIdeal (hProjIdeal := Cert.ProjIdeal.Gen.facts)
    (hProjRefIdeal := Cert.ProjRefIdeal.Gen.facts) := by
  pair_intro
  · run_from Cert.ProjIdeal.Value.run_blocks m g
  · refine Idealize.ShloMosaic.θ_run_mono (run_proj_ref m' g') ?_
    intro r hr c
    obtain ⟨a0, a1, a2, a3, a4, a5⟩ := hagree c
    have hc := hr c
    refine ⟨hc.1.trans ?_, hc.2.1.trans ?_, hc.2.2.1.trans ?_, hc.2.2.2.1.trans ?_, hc.2.2.2.2.1.trans ?_, hc.2.2.2.2.2.1.trans ?_, hc.2.2.2.2.2.2.1.trans ?_, hc.2.2.2.2.2.2.2.1.trans ?_, hc.2.2.2.2.2.2.2.2.1.trans ?_, hc.2.2.2.2.2.2.2.2.2⟩
    · rw [a0, a1, a2, a3]
      exact (Cert.ProjV.array11 m c).symm
    · rw [a0, a1, a2, a4]
      exact (Cert.ProjV.array12 m c).symm
    · rw [a0, a1, a2]
      exact (Cert.ProjV.array13 m c).symm
    · rw [a0, a1, a2]
      exact (Cert.ProjV.array14 m c).symm
    · rw [a0, a1, a2]
      exact (Cert.ProjV.array15 m c).symm
    · rw [a0, a1, a2]
      exact (Cert.ProjV.array16 m c).symm
    · rw [a0, a1, a2]
      exact (Cert.ProjV.array17 m c).symm
    · rw [a0, a1, a2]
      exact (Cert.ProjV.array18 m c).symm
    · rw [a0, a1, a2, a5]
      exact (Cert.ProjV.array19 m c).symm

section
open Cert.MixRefIdeal
/-- The mixing reference's run, its result as the last of its stages. -/
theorem run_mix_ref (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v56) = Read.val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run _ _ _).mono (fun r h c => ⟨(h c).1.trans (Read.val_main_v56_eq _ _), (h c).2⟩) (Value.run m ρ)
end

/-- The mixing kernel and its reference end with the same array. -/
theorem algebraic_mix : Cert.algebraic_MixIdeal_MixRefIdeal (hMixIdeal := Cert.MixIdeal.Gen.facts)
    (hMixRefIdeal := Cert.MixRefIdeal.Gen.facts) := by
  pair_intro
  · run_from Cert.MixIdeal.Value.run_blocks m g
  · run_from run_mix_ref m' g'
    exact (Cert.MixV.mix_eq m c).symm

theorem claim : Cert.Claim := ⟨Cert.Attn.Gen.facts, Cert.AttnIdeal.Gen.facts, Cert.AttnRefIdeal.Gen.facts, Cert.Ffn.Gen.facts,
  Cert.FfnIdeal.Gen.facts, Cert.FfnRefIdeal.Gen.facts,
  Cert.Proj.Gen.facts, Cert.ProjIdeal.Gen.facts, Cert.ProjRefIdeal.Gen.facts, Cert.Mix.Gen.facts, Cert.MixIdeal.Gen.facts, Cert.MixRefIdeal.Gen.facts, Cert.AttnV.facts_pre,
  fun m g _ => Cert.Attn.Gen.frame m g, fun m g _ => Cert.AttnIdeal.Gen.frame m g, fun m g _ => Cert.AttnIdeal.Gen.frame m g,
  frame_attn_ref, fun m g _ => frame_attn_ref m g trivial,
  fun m g _ => Cert.Ffn.Gen.frame m g, fun m g _ => Cert.FfnIdeal.Gen.frame m g, frame_ffn_ref,
  fun m g _ => Cert.Proj.Gen.frame m g, fun m g _ => Cert.ProjIdeal.Gen.frame m g, frame_proj_ref,
  fun m g _ => Cert.Mix.Gen.frame m g, fun m g _ => Cert.MixIdeal.Gen.frame m g, frame_mix_ref,
  trivial, algebraic_attn, trivial, algebraic_ffn, trivial, algebraic_proj, trivial, algebraic_mix⟩

end Cert.Proof

end
